-- ==== Defs.lean ====
def Pre_Kernel [hPre_sizes_fit : Cert.Pre_sizes_fit.Facts] (m : (ℓ : Loc Cert.Kernel.nD Cert.Kernel.τ Cert.Kernel.sig) → Buf (Elt Bits) ℓ) : Prop :=
  ∀ c : Dev Cert.Kernel.nD,
    (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sizes_fit : Cert.Pre_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_contract [hPre_contract : Cert.Pre_contract.Facts] (m : (ℓ : Loc Cert.KernelIdeal.nD Cert.KernelIdeal.τ Cert.KernelIdeal.sig) → Buf (Elt Ideal) ℓ) : Prop :=
  ∀ c : Dev Cert.KernelIdeal.nD,
    (Cert.Pre_contract.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_contract [hPre_contract : Cert.Pre_contract.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_contract.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sizes_fit : Cert.Pre_sizes_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_contract [hKernelIdeal : Cert.KernelIdeal.Facts] [hPre_contract : Cert.Pre_contract.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_contract m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_contract [hReferenceIdeal : Cert.ReferenceIdeal.Facts] [hPre_contract : Cert.Pre_contract.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_contract m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_contract [hKernelIdeal : Cert.KernelIdeal.Facts] [hReferenceIdeal : Cert.ReferenceIdeal.Facts] [hPre_contract : Cert.Pre_contract.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_contract m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sizes_fit : Cert.Pre_sizes_fit.Facts) (hPre_contract : Cert.Pre_contract.Facts),
    quiescent_Kernel (hKernel := hKernel) (hPre_sizes_fit := hPre_sizes_fit)
    ∧ quiescent_KernelIdeal (hKernelIdeal := hKernelIdeal) (hPre_sizes_fit := hPre_sizes_fit)
    ∧ quiescent_KernelIdeal_pre_contract (hKernelIdeal := hKernelIdeal) (hPre_contract := hPre_contract)
    ∧ quiescent_ReferenceIdeal (hReferenceIdeal := hReferenceIdeal)
    ∧ quiescent_ReferenceIdeal_pre_contract (hReferenceIdeal := hReferenceIdeal) (hPre_contract := hPre_contract)
    ∧ preserves_Kernel_KernelIdeal
    ∧ algebraic_KernelIdeal_ReferenceIdeal_pre_contract (hKernelIdeal := hKernelIdeal) (hReferenceIdeal := hReferenceIdeal) (hPre_contract := hPre_contract)
-- ==== Pre_contract.lean ====
abbrev S768x2816 : Shape := ⟨2, ![768, 2816]⟩
abbrev S9 : Shape := ⟨1, ![9]⟩
abbrev S9x1024x2816 : Shape := ⟨3, ![9, 1024, 2816]⟩
abbrev S9x8x22 : Shape := ⟨3, ![9, 8, 22]⟩
abbrev S_ : Shape := ⟨0, ![]⟩

class Facts : Prop where
  bcast_S_S768x2816 : S_.BroadcastsInDim S768x2816 (![] : Fin 0 → Fin S768x2816.rank)
  reducesTo_S768x2816_S_d0_1 : S768x2816.ReducesTo [0, 1] S_
  h_S_ : 0 < S_.numel
  bcast_S_S9 : S_.BroadcastsInDim S9 (![] : Fin 0 → Fin S9.rank)
  reducesTo_S9_S_d0 : S9.ReducesTo [0] S_

variable [Facts]

def fn {F : FTy → Type} [FloatOps F] (main_arg0 : FVec F S768x2816 .bf16) (main_arg1 : IVec S9 32) (main_arg2 : FVec F S9x1024x2816 .fp8e4m3) (main_arg3 : FVec F S9x8x22 .f32) : IVec S_ 1 :=
  let main_v0 : FVec F S768x2816 .bf16 := Host.absf main_arg0
  let main_cst : FVec F S_ .bf16 := constant S_ .bf16 0x7F7F#16
  let main_v1 : FVec F S768x2816 .bf16 := broadcastInDim S768x2816 ![] bcast_S_S768x2816 main_cst
  let main_v2 : IVec S768x2816 1 := cmpf .ole main_v0 main_v1
  let main_c : IVec S_ 1 := constantI S_ 1 1#1
  let main_v3 : IVec S_ 1 := (fun x v => Host.reduce IntOp.andi x v reducesTo_S768x2816_S_d0_1 h_S_) main_v2 main_c
  let main_c_0 : IVec S_ 32 := constantI S_ 32 0#32
  let main_v4 : IVec S9 32 := broadcastInDim S9 ![] bcast_S_S9 main_c_0
  let main_v5 : IVec S9 1 := cmpi .sge main_arg1 main_v4
  let main_c_1 : IVec S_ 32 := constantI S_ 32 768#32
  let main_v6 : IVec S9 32 := broadcastInDim S9 ![] bcast_S_S9 main_c_1
  let main_v7 : IVec S9 1 := cmpi .sle main_arg1 main_v6
  let main_v8 : IVec S9 1 := andi main_v5 main_v7
  let main_c_2 : IVec S_ 1 := constantI S_ 1 1#1
  let main_v9 : IVec S_ 1 := (fun x v => Host.reduce IntOp.andi x v reducesTo_S9_S_d0 h_S_) main_v8 main_c_2
  let main_v10 : IVec S_ 1 := andi main_v3 main_v9
  let main_c_3 : IVec S_ 32 := constantI S_ 32 0#32
  let main_v11 : IVec S_ 32 := (fun x v => Host.reduce IntOp.addi x v reducesTo_S9_S_d0 h_S_) main_arg1 main_c_3
  let main_c_4 : IVec S_ 32 := constantI S_ 32 768#32
  let main_v12 : IVec S_ 1 := cmpi .eq main_v11 main_c_4
  let main_v13 : IVec S_ 1 := andi main_v10 main_v12
  main_v13
-- ==== Pre_sizes_fit.lean ====
abbrev S768x2816 : Shape := ⟨2, ![768, 2816]⟩
abbrev S9 : Shape := ⟨1, ![9]⟩
abbrev S9x1024x2816 : Shape := ⟨3, ![9, 1024, 2816]⟩
abbrev S9x8x22 : Shape := ⟨3, ![9, 8, 22]⟩
abbrev S_ : Shape := ⟨0, ![]⟩

class Facts : Prop where
  bcast_S_S9 : S_.BroadcastsInDim S9 (![] : Fin 0 → Fin S9.rank)
  reducesTo_S9_S_d0 : S9.ReducesTo [0] S_
  h_S_ : 0 < S_.numel

variable [Facts]

def fn {F : FTy → Type} [FloatOps F] (main_arg0 : FVec F S768x2816 .bf16) (main_arg1 : IVec S9 32) (main_arg2 : FVec F S9x1024x2816 .fp8e4m3) (main_arg3 : FVec F S9x8x22 .f32) : IVec S_ 1 :=
  let main_c : IVec S_ 32 := constantI S_ 32 0#32
  let main_v0 : IVec S9 32 := broadcastInDim S9 ![] bcast_S_S9 main_c
  let main_v1 : IVec S9 1 := cmpi .sge main_arg1 main_v0
  let main_c_0 : IVec S_ 32 := constantI S_ 32 768#32
  let main_v2 : IVec S9 32 := broadcastInDim S9 ![] bcast_S_S9 main_c_0
  let main_v3 : IVec S9 1 := cmpi .sle main_arg1 main_v2
  let main_v4 : IVec S9 1 := andi main_v1 main_v3
  let main_c_1 : IVec S_ 1 := constantI S_ 1 1#1
  let main_v5 : IVec S_ 1 := (fun x v => Host.reduce IntOp.andi x v reducesTo_S9_S_d0 h_S_) main_v4 main_c_1
  let main_c_2 : IVec S_ 32 := constantI S_ 32 0#32
  let main_v6 : IVec S_ 32 := (fun x v => Host.reduce IntOp.addi x v reducesTo_S9_S_d0 h_S_) main_arg1 main_c_2
  let main_c_3 : IVec S_ 32 := constantI S_ 32 768#32
  let main_v7 : IVec S_ 1 := cmpi .sle main_v6 main_c_3
  let main_v8 : IVec S_ 1 := andi main_v5 main_v7
  main_v8
-- ==== Kernel.lean ====
abbrev S768x2816 : Shape := ⟨2, ![768, 2816]⟩
abbrev S9 : Shape := ⟨1, ![9]⟩
abbrev S9x1024x2816 : Shape := ⟨3, ![9, 1024, 2816]⟩
abbrev S9x8x22 : Shape := ⟨3, ![9, 8, 22]⟩
abbrev S9x176 : Shape := ⟨2, ![9, 176]⟩
abbrev S768x1024 : Shape := ⟨2, ![768, 1024]⟩
abbrev S1x1024x2816 : Shape := ⟨3, ![1, 1024, 2816]⟩
abbrev S256x2816 : Shape := ⟨2, ![256, 2816]⟩
abbrev S64x128 : Shape := ⟨2, ![64, 128]⟩
abbrev S64 : Shape := ⟨1, ![64]⟩
abbrev S64x1 : Shape := ⟨2, ![64, 1]⟩
abbrev S64x256 : Shape := ⟨2, ![64, 256]⟩
abbrev S1 : Shape := ⟨1, ![1]⟩
abbrev S1x1 : Shape := ⟨2, ![1, 1]⟩
abbrev S1x128x128 : Shape := ⟨3, ![1, 128, 128]⟩
abbrev S128x128 : Shape := ⟨2, ![128, 128]⟩
abbrev S64x2816 : Shape := ⟨2, ![64, 2816]⟩

abbrev nBuf : Space → Nat
  | .hbm => 6
  | .vmem => 6
  | .smem => 2
  | _ => 0

abbrev bufTy : (tb : Table) → Fin (tcTables nBuf tb) → BufTy
  | .hbm, ⟨0, _⟩ => ⟨S768x2816, .bf16⟩
  | .hbm, ⟨1, _⟩ => ⟨S9, .i32⟩
  | .hbm, ⟨2, _⟩ => ⟨S9x1024x2816, .fp8e4m3⟩
  | .hbm, ⟨3, _⟩ => ⟨S9x8x22, .f32⟩
  | .hbm, ⟨4, _⟩ => ⟨S9x176, .f32⟩
  | .hbm, ⟨5, _⟩ => ⟨S768x1024, .bf16⟩
  | .local _ .vmem, ⟨0, _⟩ => ⟨S768x2816, .bf16⟩
  | .local _ .vmem, ⟨1, _⟩ => ⟨S1x1024x2816, .fp8e4m3⟩
  | .local _ .vmem, ⟨2, _⟩ => ⟨S1x1024x2816, .fp8e4m3⟩
  | .local _ .vmem, ⟨3, _⟩ => ⟨S768x1024, .bf16⟩
  | .local _ .vmem, ⟨4, _⟩ => ⟨S768x2816, .bf16⟩
  | .local _ .vmem, ⟨5, _⟩ => ⟨S256x2816, .bf16⟩
  | .local _ .smem, ⟨0, _⟩ => ⟨S9, .i32⟩
  | .local _ .smem, ⟨1, _⟩ => ⟨S9x176, .f32⟩
  | _, _ => ⟨S768x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c12_i32 : BitVec 32 := 12#32
  let v16 : BitVec 32 := Scalar.addi c0_i32_6 c12_i32
  let c1_i32_7 : BitVec 32 := 1#32
  ⟨c0_i32_6, v16, c1_i32_7⟩
def k0_mult1 (k0_t1 : Fin k0_t1_loop.trips) : BitVec 32 :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  v17
def k0_off1 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v19 : Index := Scalar.indexCast v18
  let c0 : Index := 0#32
  ![v19.toNat, 0]
def k0_off2 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v62 : Index := Scalar.indexCast v18
  let c128 : Index := 128#32
  ![v62.toNat, 128]
def k0_off3 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v105 : Index := Scalar.indexCast v18
  let c256 : Index := 256#32
  ![v105.toNat, 256]
def k0_off4 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v148 : Index := Scalar.indexCast v18
  let c384 : Index := 384#32
  ![v148.toNat, 384]
def k0_off5 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v191 : Index := Scalar.indexCast v18
  let c512 : Index := 512#32
  ![v191.toNat, 512]
def k0_off6 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v234 : Index := Scalar.indexCast v18
  let c640 : Index := 640#32
  ![v234.toNat, 640]
def k0_off7 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v277 : Index := Scalar.indexCast v18
  let c768 : Index := 768#32
  ![v277.toNat, 768]
def k0_off8 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v320 : Index := Scalar.indexCast v18
  let c896 : Index := 896#32
  ![v320.toNat, 896]
def k0_off9 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v363 : Index := Scalar.indexCast v18
  let c1024 : Index := 1024#32
  ![v363.toNat, 1024]
def k0_off10 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v406 : Index := Scalar.indexCast v18
  let c1152 : Index := 1152#32
  ![v406.toNat, 1152]
def k0_off11 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v449 : Index := Scalar.indexCast v18
  let c1280 : Index := 1280#32
  ![v449.toNat, 1280]
def k0_off12 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v492 : Index := Scalar.indexCast v18
  let c1408 : Index := 1408#32
  ![v492.toNat, 1408]
def k0_off13 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v535 : Index := Scalar.indexCast v18
  let c1536 : Index := 1536#32
  ![v535.toNat, 1536]
def k0_off14 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v578 : Index := Scalar.indexCast v18
  let c1664 : Index := 1664#32
  ![v578.toNat, 1664]
def k0_off15 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v621 : Index := Scalar.indexCast v18
  let c1792 : Index := 1792#32
  ![v621.toNat, 1792]
def k0_off16 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v664 : Index := Scalar.indexCast v18
  let c1920 : Index := 1920#32
  ![v664.toNat, 1920]
def k0_off17 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v707 : Index := Scalar.indexCast v18
  let c2048 : Index := 2048#32
  ![v707.toNat, 2048]
def k0_off18 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v750 : Index := Scalar.indexCast v18
  let c2176 : Index := 2176#32
  ![v750.toNat, 2176]
def k0_off19 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v793 : Index := Scalar.indexCast v18
  let c2304 : Index := 2304#32
  ![v793.toNat, 2304]
def k0_off20 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v836 : Index := Scalar.indexCast v18
  let c2432 : Index := 2432#32
  ![v836.toNat, 2432]
def k0_off21 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v879 : Index := Scalar.indexCast v18
  let c2560 : Index := 2560#32
  ![v879.toNat, 2560]
def k0_off22 (k0_t1 : Fin k0_t1_loop.trips) : Fin 2 → Nat :=
  let c0_i32_6 : BitVec 32 := 0#32
  let c1_i32_7 : BitVec 32 := 1#32
  let arg8 : BitVec 32 := Scf.iv c0_i32_6 c1_i32_7 k0_t1
  let c64_i32 : BitVec 32 := 64#32
  let v17 : BitVec 32 := Scalar.muli arg8 c64_i32
  let v18 : BitVec 32 := v17
  let v922 : Index := Scalar.indexCast v18
  let c2688 : Index := 2688#32
  ![v922.toNat, 2688]
@[reducible] def k0_t2_loop (i : grid0.Coords) : Scf.Loop 32 :=
  let c0_i32_1 : BitVec 32 := 0#32
  let arg0 : BitVec 32 := BitVec.ofNat 32 (i 0).val
  let v3 : BitVec 32 := Scalar.subi arg0 c0_i32_1
  let c1_i32 : BitVec 32 := 1#32
  let v5 : BitVec 32 := Scalar.divsi v3 c1_i32
  let v6 : BitVec 32 := Scalar.muli v5 c1_i32
  let v7 : BitVec 32 := Scalar.addi c0_i32_1 v6
  let c1_i32_3 : BitVec 32 := 1#32
  ⟨c0_i32_1, v7, c1_i32_3⟩
def k0_off23 (i : grid0.Coords) (k0_t2 : Fin (k0_t2_loop i).trips) : Fin 1 → Nat :=
  let c0_i32_1 : BitVec 32 := 0#32
  let c1_i32_3 : BitVec 32 := 1#32
  let arg8 : BitVec 32 := Scf.iv c0_i32_1 c1_i32_3 k0_t2
  let v16 : Index := Scalar.indexCast arg8
  ![v16.toNat]
@[reducible] def k0_t3_loop (i : grid0.Coords) : Scf.Loop 32 :=
  let c0_i32_1 : BitVec 32 := 0#32
  let arg0 : BitVec 32 := BitVec.ofNat 32 (i 0).val
  let v3 : BitVec 32 := Scalar.subi arg0 c0_i32_1
  let c1_i32 : BitVec 32 := 1#32
  let v5 : BitVec 32 := Scalar.divsi v3 c1_i32
  let v6 : BitVec 32 := Scalar.muli v5 c1_i32
  let v7 : BitVec 32 := Scalar.addi c0_i32_1 v6
  let v4 : BitVec 32 := Scalar.addi c0_i32_1 v3
  let c1_i32_4 : BitVec 32 := 1#32
  ⟨v7, v4, c1_i32_4⟩
def k0_off24 (i : grid0.Coords) (k0_t3 : Fin (k0_t3_loop i).trips) : Fin 1 → Nat :=
  let c0_i32_1 : BitVec 32 := 0#32
  let arg0 : BitVec 32 := BitVec.ofNat 32 (i 0).val
  let v3 : BitVec 32 := Scalar.subi arg0 c0_i32_1
  let c1_i32 : BitVec 32 := 1#32
  let v5 : BitVec 32 := Scalar.divsi v3 c1_i32
  let v6 : BitVec 32 := Scalar.muli v5 c1_i32
  let v7 : BitVec 32 := Scalar.addi c0_i32_1 v6
  let c1_i32_4 : BitVec 32 := 1#32
  let arg8 : BitVec 32 := Scf.iv v7 c1_i32_4 k0_t3
  let v16 : Index := Scalar.indexCast arg8
  ![v16.toNat]
def k0_off25 (i : grid0.Coords) : Fin 1 → Nat :=
  let arg0 : BitVec 32 := BitVec.ofNat 32 (i 0).val
  let v10 : Index := Scalar.indexCast arg0
  ![v10.toNat]
def k0_off26 (i : grid0.Coords) : Fin 2 → Nat :=
  let arg0 : BitVec 32 := BitVec.ofNat 32 (i 0).val
  let v16 : Index := Scalar.indexCast arg0
  let c0 : Index := 0#32
  ![v16.toNat, 0]
def k0_off27 (i : grid0.Coords) : Fin 2 → Nat :=
  let arg0 : BitVec 32 := BitVec.ofNat 32 (i 0).val
  let v27 : Index := Scalar.indexCast arg0
  let c1 : Index := 1#32
  ![v27.toNat, 1]
def k0_off28 (i : grid0.Coords) : Fin 2 → Nat :=
  let arg0 : BitVec 32 := BitVec.ofNat 32 (i 0).val
  let v38 : Index := Scalar.indexCast arg0
  let c2 : Index := 2#32
  ![v38.toNat, 2]
def k0_off29 (i : grid0.Coords) : Fin 2 → Nat :=
  let arg0 : BitVec 32 := BitVec.ofNat 32 (i 0).val
  let v49 : Index := Scalar.indexCast arg0
  let c3 : Index := 3#32
  ![v49.toNat, 3]
def k0_off30 (i : grid0.Coords) : Fin 2 → Nat :=
  let arg0 : BitVec 32 := BitVec.ofNat 32 (i 0).val
  let v60 : Index := Scalar.indexCast arg0
  let c4 : Index := 4#32
  ![v60.toNat, 4]
def k0_off31 (i : grid0.Coords) : Fin 2 → Nat :=
  let arg0 : BitVec 32 := BitVec.ofNat 32 (i 0).val
  let v71 : Index := Scalar.indexCast arg0
  let c5 : Index := 5#32
  ![v71.toNat, 5]
def k0_off32 (i : grid0.Coords) : Fin 2 → Nat :=
  let arg0 : BitVec 32 := BitVec.ofNat 32 (i 0).val
  let v82 : Index := Scalar.indexCast arg0
  let c6 : Index := 6#32
  ![v82.toNat, 6]
def k0_off33 (i : grid0.Coords) : Fin 2 → Nat :=
  let arg0 : BitVec 32 := BitVec.ofNat 32 (i 0).val
  let v93 : Index := Scalar.indexCast arg0
  let c7 : Index := 7#32
  ![v93.toNat, 7]
def k0_off34 (i : grid0.Coords) : Fin 2 → Nat :=
  let arg0 : BitVec 32 := BitVec.ofNat 32 (i 0).val
  let v104 : Index := Scalar.indexCast arg0
  let c8 : Index := 8#32
  ![v104.toNat, 8]
def k0_off35 (i : grid0.Coords) : Fin 2 → Nat :=
  let arg0 : BitVec 32 := BitVec.ofNat 32 (i 0).val
  let v115 : Index := Scalar.indexCast arg0
  let c9 : Index := 9#32
  ![v115.toNat, 9]
def k0_off36 (i : grid0.Coords) : Fin 2 → Nat :=
  let arg0 : BitVec 32 := BitVec.ofNat 32 (i 0).val
  let v126 : Index := Scalar.indexCast arg0
  let c10 : Index := 10#32
  ![v126.toNat, 10]
def k0_off37 (i : grid0.Coords) : Fin 2 → Nat :=
  let arg0 : BitVec 32 := BitVec.ofNat 32 (i 0).val
  let v137 : Index := Scalar.indexCast arg0
  let c11 : Index := 11#32
  ![v137.toNat, 11]
def k0_off38 (i : grid0.Coords) : Fin 2 → Nat :=
  let arg0 : BitVec 32 := BitVec.ofNat 32 (i 0).val
  let v148 : Index := Scalar.indexCast arg0
  let c12 : Index := 12#32
  ![v148.toNat, 12]
def k0_off39 (i : grid0.Coords) : Fin 2 → Nat :=
  let arg0 : BitVec 32 := BitVec.ofNat 32 (i 0).val
  let v159 : Index := Scalar.indexCast arg0
  let c13 : Index := 13#32
  ![v159.toNat, 13]
def k0_off40 (i : grid0.Coords) : Fin 2 → Nat :=
  let arg0 : BitVec 32 := BitVec.ofNat 32 (i 0).val
  let v170 : Index := Scalar.indexCast arg0
  let c14 : Index := 14#32
  ![v170.toNat, 14]
def k0_off41 (i : grid0.Coords) : Fin 2 → Nat :=
  let arg0 : BitVec 32 := BitVec.ofNat 32 (i 0).val
  let v181 : Index := Scalar.indexCast arg0
  let c15 : Index := 15#32
  ![v181.toNat, 15]
def k0_off42 (i : grid0.Coords) : Fin 2 → Nat :=
  let arg0 : BitVec 32 := BitVec.ofNat 32 (i 0).val
  let v192 : Index := Scalar.indexCast arg0
  let c16 : Index := 16#32
  ![v192.toNat, 16]
def k0_off43 (i : grid0.Coords) : Fin 2 → Nat :=
  let arg0 : BitVec 32 := BitVec.ofNat 32 (i 0).val
  let v203 : Index := Scalar.indexCast arg0
  let c17 : Index := 17#32
  ![v203.toNat, 17]
def k0_off44 (i : grid0.Coords) : Fin 2 → Nat :=
  let arg0 : BitVec 32 := BitVec.ofNat 32 (i 0).val
  let v214 : Index := Scalar.indexCast arg0
  let c18 : Index := 18#32
  ![v214.toNat, 18]
def k0_off45 (i : grid0.Coords) : Fin 2 → Nat :=
  let arg0 : BitVec 32 := BitVec.ofNat 32 (i 0).val
  let v225 : Index := Scalar.indexCast arg0
  let c19 : Index := 19#32
  ![v225.toNat, 19]
def k0_off46 (i : grid0.Coords) : Fin 2 → Nat :=
  let arg0 : BitVec 32 := BitVec.ofNat 32 (i 0).val
  let v236 : Index := Scalar.indexCast arg0
  let c20 : Index := 20#32
  ![v236.toNat, 20]
def k0_off47 (i : grid0.Coords) : Fin 2 → Nat :=
  let arg0 : BitVec 32 := BitVec.ofNat 32 (i 0).val
  let v247 : Index := Scalar.indexCast arg0
  let c21 : Index := 21#32
  ![v247.toNat, 21]
def k0_off48 (i : grid0.Coords) : Fin 2 → Nat :=
  let arg0 : BitVec 32 := BitVec.ofNat 32 (i 0).val
  let v258 : Index := Scalar.indexCast arg0
  let c22 : Index := 22#32
  ![v258.toNat, 22]
def k0_off49 (i : grid0.Coords) : Fin 2 → Nat :=
  let arg0 : BitVec 32 := BitVec.ofNat 32 (i 0).val
  let v269 : Index := Scalar.indexCast arg0
  let c23 : Index := 23#32
  ![v269.toNat, 23]
def k0_off50 (i : grid0.Coords) : Fin 2 → Nat :=
  let arg0 : BitVec 32 := BitVec.ofNat 32 (i 0).val
  let v280 : Index := Scalar.indexCast arg0
  let c24 : Index := 24#32
  ![v280.toNat, 24]
def k0_off51 (i : grid0.Coords) : Fin 2 → Nat :=
  let arg0 : BitVec 32 := BitVec.ofNat 32 (i 0).val
  let v291 : Index := Scalar.indexCast arg0
  let c25 : Index := 25#32
  ![v291.toNat, 25]
def k0_off52 (i : grid0.Coords) : Fin 2 → Nat :=
  let arg0 : BitVec 32 := BitVec.ofNat 32 (i 0).val
  let v302 : Index := Scalar.indexCast arg0
  let c26 : Index := 26#32
  ![v302.toNat, 26]
def k0_off53 (i : grid0.Coords) : Fin 2 → Nat :=
  let arg0 : BitVec 32 := BitVec.ofNat 32 (i 0).val
  let v313 : Index := Scalar.indexCast arg0
  let c27 : Index := 27#32
  ![v313.toNat, 27]
def k0_off54 (i : grid0.Coords) : Fin 2 → Nat :=
  let arg0 : BitVec 32 := BitVec.ofNat 32 (i 0).val
  let v324 : Index := Scalar.indexCast arg0
  let c28 : Index := 28#32
  ![v324.toNat, 28]
def k0_off55 (i : grid0.Coords) : Fin 2 → Nat :=
  let arg0 : BitVec 32 := BitVec.ofNat 32 (i 0).val
  let v335 : Index := Scalar.indexCast arg0
  let c29 : Index := 29#32
  ![v335.toNat, 29]
def k0_off56 (i : grid0.Coords) : Fin 2 → Nat :=
  let arg0 : BitVec 32 := BitVec.ofNat 32 (i 0).val
  let v346 : Index := Scalar.indexCast arg0
  let c30 : Index := 30#32
  ![v346.toNat, 30]
def k0_off57 (i : grid0.Coords) : Fin 2 → Nat :=
  let arg0 : BitVec 32 := BitVec.ofNat 32 (i 0).val
  let v357 : Index := Scalar.indexCast arg0
  let c31 : Index := 31#32
  ![v357.toNat, 31]
def k0_off58 (i : grid0.Coords) : Fin 2 → Nat :=
  let arg0 : BitVec 32 := BitVec.ofNat 32 (i 0).val
  let v368 : Index := Scalar.indexCast arg0
  let c32 : Index := 32#32
  ![v368.toNat, 32]
def k0_off59 (i : grid0.Coords) : Fin 2 → Nat :=
  let arg0 : BitVec 32 := BitVec.ofNat 32 (i 0).val
  let v379 : Index := Scalar.indexCast arg0
  let c33 : Index := 33#32
  ![v379.toNat, 33]
def k0_off60 (i : grid0.Coords) : Fin 2 → Nat :=
  let arg0 : BitVec 32 := BitVec.ofNat 32 (i 0).val
  let v390 : Index := Scalar.indexCast arg0
  let c34 : Index := 34#32
  ![v390.toNat, 34]
def k0_off61 (i : grid0.Coords) : Fin 2 → Nat :=
  let arg0 : BitVec 32 := BitVec.ofNat 32 (i 0).val
  let v401 : Index := Scalar.indexCast arg0
  let c35 : Index := 35#32
  ![v401.toNat, 35]
def k0_off62 (i : grid0.Coords) : Fin 2 → Nat :=
  let arg0 : BitVec 32 := BitVec.ofNat 32 (i 0).val
  let v412 : Index := Scalar.indexCast arg0
  let c36 : Index := 36#32
  ![v412.toNat, 36]
def k0_off63 (i : grid0.Coords) : Fin 2 → Nat :=
  let arg0 : BitVec 32 := BitVec.ofNat 32 (i 0).val
  let v423 : Index := Scalar.indexCast arg0
  let c37 : Index := 37#32
  ![v423.toNat, 37]
def k0_off64 (i : grid0.Coords) : Fin 2 → Nat :=
  let arg0 : BitVec 32 := BitVec.ofNat 32 (i 0).val
  let v434 : Index := Scalar.indexCast arg0
  let c38 : Index := 38#32
  ![v434.toNat, 38]
def k0_off65 (i : grid0.Coords) : Fin 2 → Nat :=
  let arg0 : BitVec 32 := BitVec.ofNat 32 (i 0).val
  let v445 : Index := Scalar.indexCast arg0
  let c39 : Index := 39#32
  ![v445.toNat, 39]
def k0_off66 (i : grid0.Coords) : Fin 2 → Nat :=
  let arg0 : BitVec 32 := BitVec.ofNat 32 (i 0).val
  let v456 : Index := Scalar.indexCast arg0
  let c40 : Index := 40#32
  ![v456.toNat, 40]
def k0_off67 (i : grid0.Coords) : Fin 2 → Nat :=
  let arg0 : BitVec 32 := BitVec.ofNat 32 (i 0).val
  let v467 : Index := Scalar.indexCast arg0
  let c41 : Index := 41#32
  ![v467.toNat, 41]
def k0_off68 (i : grid0.Coords) : Fin 2 → Nat :=
  let arg0 : BitVec 32 := BitVec.ofNat 32 (i 0).val
  let v478 : Index := Scalar.indexCast arg0
  let c42 : Index := 42#32
  ![v478.toNat, 42]
def k0_off69 (i : grid0.Coords) : Fin 2 → Nat :=
  let arg0 : BitVec 32 := BitVec.ofNat 32 (i 0).val
  let v489 : Index := Scalar.indexCast arg0
  let c43 : Index := 43#32
  ![v489.toNat, 43]
@[reducible] def k0_t4_loop (v9 : BitVec 32) (v11 : BitVec 32) : Scf.Loop 32 :=
  let c0_i32_205 : BitVec 32 := 0#32
  let v501 : BitVec 1 := Scalar.cmpi .sgt v9 c0_i32_205
  let v502 : BitVec 32 := Scalar.extui v501
  let c0_i32_206 : BitVec 32 := 0#32
  let v503 : BitVec 1 := Scalar.cmpi .slt v9 c0_i32_206
  let v504 : BitVec 32 := Scalar.extui v503
  let v505 : BitVec 32 := Scalar.subi v502 v504
  let c64_i32 : BitVec 32 := 64#32
  let c0_i32_207 : BitVec 32 := 0#32
  let v506 : BitVec 1 := Scalar.cmpi .sgt c64_i32 c0_i32_207
  let v507 : BitVec 32 := Scalar.extui v506
  let c0_i32_208 : BitVec 32 := 0#32
  let v508 : BitVec 1 := Scalar.cmpi .slt c64_i32 c0_i32_208
  let v509 : BitVec 32 := Scalar.extui v508
  let v510 : BitVec 32 := Scalar.subi v507 v509
  let v511 : BitVec 1 := Scalar.cmpi .ne v505 v510
  let v512 : BitVec 32 := Scalar.remsi v9 c64_i32
  let c0_i32_209 : BitVec 32 := 0#32
  let v513 : BitVec 1 := Scalar.cmpi .ne v512 c0_i32_209
  let v514 : BitVec 1 := Scalar.andi v511 v513
  let v500 : BitVec 32 := Scalar.divsi v9 c64_i32
  let c1_i32_210 : BitVec 32 := 1#32
  let v515 : BitVec 32 := Scalar.subi v500 c1_i32_210
  let v516 : BitVec 32 := Scalar.select v514 v515 v500
  let v12 : BitVec 32 := Scalar.addi v9 v11
  let c64_i32_211 : BitVec 32 := 64#32
  let v517 : BitVec 32 := Scalar.addi v12 c64_i32_211
  let c1_i32_212 : BitVec 32 := 1#32
  let v518 : BitVec 32 := Scalar.subi v517 c1_i32_212
  let c0_i32_214 : BitVec 32 := 0#32
  let v520 : BitVec 1 := Scalar.cmpi .sgt v518 c0_i32_214
  let v521 : BitVec 32 := Scalar.extui v520
  let c0_i32_215 : BitVec 32 := 0#32
  let v522 : BitVec 1 := Scalar.cmpi .slt v518 c0_i32_215
  let v523 : BitVec 32 := Scalar.extui v522
  let v524 : BitVec 32 := Scalar.subi v521 v523
  let c64_i32_213 : BitVec 32 := 64#32
  let c0_i32_216 : BitVec 32 := 0#32
  let v525 : BitVec 1 := Scalar.cmpi .sgt c64_i32_213 c0_i32_216
  let v526 : BitVec 32 := Scalar.extui v525
  let c0_i32_217 : BitVec 32 := 0#32
  let v527 : BitVec 1 := Scalar.cmpi .slt c64_i32_213 c0_i32_217
  let v528 : BitVec 32 := Scalar.extui v527
  let v529 : BitVec 32 := Scalar.subi v526 v528
  let v530 : BitVec 1 := Scalar.cmpi .ne v524 v529
  let v531 : BitVec 32 := Scalar.remsi v518 c64_i32_213
  let c0_i32_218 : BitVec 32 := 0#32
  let v532 : BitVec 1 := Scalar.cmpi .ne v531 c0_i32_218
  let v533 : BitVec 1 := Scalar.andi v530 v532
  let v519 : BitVec 32 := Scalar.divsi v518 c64_i32_213
  let c1_i32_219 : BitVec 32 := 1#32
  let v534 : BitVec 32 := Scalar.subi v519 c1_i32_219
  let v535 : BitVec 32 := Scalar.select v533 v534 v519
  let v536 : BitVec 32 := Scalar.subi v535 v516
  let c1_i32_221 : BitVec 32 := 1#32
  let v538 : BitVec 32 := Scalar.divsi v536 c1_i32_221
  let v539 : BitVec 32 := Scalar.muli v538 c1_i32_221
  let v540 : BitVec 32 := Scalar.addi v516 v539
  let c1_i32_222 : BitVec 32 := 1#32
  ⟨v516, v540, c1_i32_222⟩
def k0_cond2 (v9 : BitVec 32) (v11 : BitVec 32) : BitVec 1 :=
  let v12 : BitVec 32 := Scalar.addi v9 v11
  let v13 : BitVec 1 := Scalar.cmpi .sgt v12 v9
  let v14 : BitVec 32 := Scalar.extui v13
  let c0_i32_5 : BitVec 32 := 0#32
  let v15 : BitVec 1 := Scalar.cmpi .ne v14 c0_i32_5
  v15

def k0_mult2 (v9 : BitVec 32) (v11 : BitVec 32) (k0_t4 : Fin (k0_t4_loop v9 v11).trips) : BitVec 32 :=
  let c0_i32_205 : BitVec 32 := 0#32
  let v501 : BitVec 1 := Scalar.cmpi .sgt v9 c0_i32_205
  let v502 : BitVec 32 := Scalar.extui v501
  let c0_i32_206 : BitVec 32 := 0#32
  let v503 : BitVec 1 := Scalar.cmpi .slt v9 c0_i32_206
  let v504 : BitVec 32 := Scalar.extui v503
  let v505 : BitVec 32 := Scalar.subi v502 v504
  let c64_i32 : BitVec 32 := 64#32
  let c0_i32_207 : BitVec 32 := 0#32
  let v506 : BitVec 1 := Scalar.cmpi .sgt c64_i32 c0_i32_207
  let v507 : BitVec 32 := Scalar.extui v506
  let c0_i32_208 : BitVec 32 := 0#32
  let v508 : BitVec 1 := Scalar.cmpi .slt c64_i32 c0_i32_208
  let v509 : BitVec 32 := Scalar.extui v508
  let v510 : BitVec 32 := Scalar.subi v507 v509
  let v511 : BitVec 1 := Scalar.cmpi .ne v505 v510
  let v512 : BitVec 32 := Scalar.remsi v9 c64_i32
  let c0_i32_209 : BitVec 32 := 0#32
  let v513 : BitVec 1 := Scalar.cmpi .ne v512 c0_i32_209
  let v514 : BitVec 1 := Scalar.andi v511 v513
  let v500 : BitVec 32 := Scalar.divsi v9 c64_i32
  let c1_i32_210 : BitVec 32 := 1#32
  let v515 : BitVec 32 := Scalar.subi v500 c1_i32_210
  let v516 : BitVec 32 := Scalar.select v514 v515 v500
  let c1_i32_222 : BitVec 32 := 1#32
  let arg8 : BitVec 32 := Scf.iv v516 c1_i32_222 k0_t4
  let c64_i32_945 : BitVec 32 := 64#32
  let v2116 : BitVec 32 := Scalar.muli arg8 c64_i32_945
  v2116
def k0_off70 (v9 : BitVec 32) (v11 : BitVec 32) (k0_t4 : Fin (k0_t4_loop v9 v11).trips) : Fin 2 → Nat :=
  let c0_i32_205 : BitVec 32 := 0#32
  let v501 : BitVec 1 := Scalar.cmpi .sgt v9 c0_i32_205
  let v502 : BitVec 32 := Scalar.extui v501
  let c0_i32_206 : BitVec 32 := 0#32
  let v503 : BitVec 1 := Scalar.cmpi .slt v9 c0_i32_206
  let v504 : BitVec 32 := Scalar.extui v503
  let v505 : BitVec 32 := Scalar.subi v502 v504
  let c64_i32 : BitVec 32 := 64#32
  let c0_i32_207 : BitVec 32 := 0#32
  let v506 : BitVec 1 := Scalar.cmpi .sgt c64_i32 c0_i32_207
  let v507 : BitVec 32 := Scalar.extui v506
  let c0_i32_208 : BitVec 32 := 0#32
  let v508 : BitVec 1 := Scalar.cmpi .slt c64_i32 c0_i32_208
  let v509 : BitVec 32 := Scalar.extui v508
  let v510 : BitVec 32 := Scalar.subi v507 v509
  let v511 : BitVec 1 := Scalar.cmpi .ne v505 v510
  let v512 : BitVec 32 := Scalar.remsi v9 c64_i32
  let c0_i32_209 : BitVec 32 := 0#32
  let v513 : BitVec 1 := Scalar.cmpi .ne v512 c0_i32_209
  let v514 : BitVec 1 := Scalar.andi v511 v513
  let v500 : BitVec 32 := Scalar.divsi v9 c64_i32
  let c1_i32_210 : BitVec 32 := 1#32
  let v515 : BitVec 32 := Scalar.subi v500 c1_i32_210
  let v516 : BitVec 32 := Scalar.select v514 v515 v500
  let c1_i32_222 : BitVec 32 := 1#32
  let arg8 : BitVec 32 := Scf.iv v516 c1_i32_222 k0_t4
  let c64_i32_945 : BitVec 32 := 64#32
  let v2116 : BitVec 32 := Scalar.muli arg8 c64_i32_945
  let v2117 : BitVec 32 := v2116
  let v2118 : Index := Scalar.indexCast v2117
  let c0_946 : Index := 0#32
  ![v2118.toNat, 0]
def k0_off71 (v9 : BitVec 32) (v11 : BitVec 32) (k0_t4 : Fin (k0_t4_loop v9 v11).trips) : Fin 2 → Nat :=
  let c0_i32_205 : BitVec 32 := 0#32
  let v501 : BitVec 1 := Scalar.cmpi .sgt v9 c0_i32_205
  let v502 : BitVec 32 := Scalar.extui v501
  let c0_i32_206 : BitVec 32 := 0#32
  let v503 : BitVec 1 := Scalar.cmpi .slt v9 c0_i32_206
  let v504 : BitVec 32 := Scalar.extui v503
  let v505 : BitVec 32 := Scalar.subi v502 v504
  let c64_i32 : BitVec 32 := 64#32
  let c0_i32_207 : BitVec 32 := 0#32
  let v506 : BitVec 1 := Scalar.cmpi .sgt c64_i32 c0_i32_207
  let v507 : BitVec 32 := Scalar.extui v506
  let c0_i32_208 : BitVec 32 := 0#32
  let v508 : BitVec 1 := Scalar.cmpi .slt c64_i32 c0_i32_208
  let v509 : BitVec 32 := Scalar.extui v508
  let v510 : BitVec 32 := Scalar.subi v507 v509
  let v511 : BitVec 1 := Scalar.cmpi .ne v505 v510
  let v512 : BitVec 32 := Scalar.remsi v9 c64_i32
  let c0_i32_209 : BitVec 32 := 0#32
  let v513 : BitVec 1 := Scalar.cmpi .ne v512 c0_i32_209
  let v514 : BitVec 1 := Scalar.andi v511 v513
  let v500 : BitVec 32 := Scalar.divsi v9 c64_i32
  let c1_i32_210 : BitVec 32 := 1#32
  let v515 : BitVec 32 := Scalar.subi v500 c1_i32_210
  let v516 : BitVec 32 := Scalar.select v514 v515 v500
  let c1_i32_222 : BitVec 32 := 1#32
  let arg8 : BitVec 32 := Scf.iv v516 c1_i32_222 k0_t4
  let c64_i32_945 : BitVec 32 := 64#32
  let v2116 : BitVec 32 := Scalar.muli arg8 c64_i32_945
  let v2117 : BitVec 32 := v2116
  let v2130 : Index := Scalar.indexCast v2117
  let c0_949 : Index := 0#32
  ![v2130.toNat, 0]
@[reducible] def k0_t5_loop (v9 : BitVec 32) (v11 : BitVec 32) : Scf.Loop 32 :=
  let c0_i32_205 : BitVec 32 := 0#32
  let v501 : BitVec 1 := Scalar.cmpi .sgt v9 c0_i32_205
  let v502 : BitVec 32 := Scalar.extui v501
  let c0_i32_206 : BitVec 32 := 0#32
  let v503 : BitVec 1 := Scalar.cmpi .slt v9 c0_i32_206
  let v504 : BitVec 32 := Scalar.extui v503
  let v505 : BitVec 32 := Scalar.subi v502 v504
  let c64_i32 : BitVec 32 := 64#32
  let c0_i32_207 : BitVec 32 := 0#32
  let v506 : BitVec 1 := Scalar.cmpi .sgt c64_i32 c0_i32_207
  let v507 : BitVec 32 := Scalar.extui v506
  let c0_i32_208 : BitVec 32 := 0#32
  let v508 : BitVec 1 := Scalar.cmpi .slt c64_i32 c0_i32_208
  let v509 : BitVec 32 := Scalar.extui v508
  let v510 : BitVec 32 := Scalar.subi v507 v509
  let v511 : BitVec 1 := Scalar.cmpi .ne v505 v510
  let v512 : BitVec 32 := Scalar.remsi v9 c64_i32
  let c0_i32_209 : BitVec 32 := 0#32
  let v513 : BitVec 1 := Scalar.cmpi .ne v512 c0_i32_209
  let v514 : BitVec 1 := Scalar.andi v511 v513
  let v500 : BitVec 32 := Scalar.divsi v9 c64_i32
  let c1_i32_210 : BitVec 32 := 1#32
  let v515 : BitVec 32 := Scalar.subi v500 c1_i32_210
  let v516 : BitVec 32 := Scalar.select v514 v515 v500
  let v12 : BitVec 32 := Scalar.addi v9 v11
  let c64_i32_211 : BitVec 32 := 64#32
  let v517 : BitVec 32 := Scalar.addi v12 c64_i32_211
  let c1_i32_212 : BitVec 32 := 1#32
  let v518 : BitVec 32 := Scalar.subi v517 c1_i32_212
  let c0_i32_214 : BitVec 32 := 0#32
  let v520 : BitVec 1 := Scalar.cmpi .sgt v518 c0_i32_214
  let v521 : BitVec 32 := Scalar.extui v520
  let c0_i32_215 : BitVec 32 := 0#32
  let v522 : BitVec 1 := Scalar.cmpi .slt v518 c0_i32_215
  let v523 : BitVec 32 := Scalar.extui v522
  let v524 : BitVec 32 := Scalar.subi v521 v523
  let c64_i32_213 : BitVec 32 := 64#32
  let c0_i32_216 : BitVec 32 := 0#32
  let v525 : BitVec 1 := Scalar.cmpi .sgt c64_i32_213 c0_i32_216
  let v526 : BitVec 32 := Scalar.extui v525
  let c0_i32_217 : BitVec 32 := 0#32
  let v527 : BitVec 1 := Scalar.cmpi .slt c64_i32_213 c0_i32_217
  let v528 : BitVec 32 := Scalar.extui v527
  let v529 : BitVec 32 := Scalar.subi v526 v528
  let v530 : BitVec 1 := Scalar.cmpi .ne v524 v529
  let v531 : BitVec 32 := Scalar.remsi v518 c64_i32_213
  let c0_i32_218 : BitVec 32 := 0#32
  let v532 : BitVec 1 := Scalar.cmpi .ne v531 c0_i32_218
  let v533 : BitVec 1 := Scalar.andi v530 v532
  let v519 : BitVec 32 := Scalar.divsi v518 c64_i32_213
  let c1_i32_219 : BitVec 32 := 1#32
  let v534 : BitVec 32 := Scalar.subi v519 c1_i32_219
  let v535 : BitVec 32 := Scalar.select v533 v534 v519
  let v536 : BitVec 32 := Scalar.subi v535 v516
  let c1_i32_221 : BitVec 32 := 1#32
  let v538 : BitVec 32 := Scalar.divsi v536 c1_i32_221
  let v539 : BitVec 32 := Scalar.muli v538 c1_i32_221
  let v540 : BitVec 32 := Scalar.addi v516 v539
  let v537 : BitVec 32 := Scalar.addi v516 v536
  let c1_i32_223 : BitVec 32 := 1#32
  ⟨v540, v537, c1_i32_223⟩
def k0_mult3 (v9 : BitVec 32) (v11 : BitVec 32) (k0_t5 : Fin (k0_t5_loop v9 v11).trips) : BitVec 32 :=
  let c0_i32_205 : BitVec 32 := 0#32
  let v501 : BitVec 1 := Scalar.cmpi .sgt v9 c0_i32_205
  let v502 : BitVec 32 := Scalar.extui v501
  let c0_i32_206 : BitVec 32 := 0#32
  let v503 : BitVec 1 := Scalar.cmpi .slt v9 c0_i32_206
  let v504 : BitVec 32 := Scalar.extui v503
  let v505 : BitVec 32 := Scalar.subi v502 v504
  let c64_i32 : BitVec 32 := 64#32
  let c0_i32_207 : BitVec 32 := 0#32
  let v506 : BitVec 1 := Scalar.cmpi .sgt c64_i32 c0_i32_207
  let v507 : BitVec 32 := Scalar.extui v506
  let c0_i32_208 : BitVec 32 := 0#32
  let v508 : BitVec 1 := Scalar.cmpi .slt c64_i32 c0_i32_208
  let v509 : BitVec 32 := Scalar.extui v508
  let v510 : BitVec 32 := Scalar.subi v507 v509
  let v511 : BitVec 1 := Scalar.cmpi .ne v505 v510
  let v512 : BitVec 32 := Scalar.remsi v9 c64_i32
  let c0_i32_209 : BitVec 32 := 0#32
  let v513 : BitVec 1 := Scalar.cmpi .ne v512 c0_i32_209
  let v514 : BitVec 1 := Scalar.andi v511 v513
  let v500 : BitVec 32 := Scalar.divsi v9 c64_i32
  let c1_i32_210 : BitVec 32 := 1#32
  let v515 : BitVec 32 := Scalar.subi v500 c1_i32_210
  let v516 : BitVec 32 := Scalar.select v514 v515 v500
  let v12 : BitVec 32 := Scalar.addi v9 v11
  let c64_i32_211 : BitVec 32 := 64#32
  let v517 : BitVec 32 := Scalar.addi v12 c64_i32_211
  let c1_i32_212 : BitVec 32 := 1#32
  let v518 : BitVec 32 := Scalar.subi v517 c1_i32_212
  let c0_i32_214 : BitVec 32 := 0#32
  let v520 : BitVec 1 := Scalar.cmpi .sgt v518 c0_i32_214
  let v521 : BitVec 32 := Scalar.extui v520
  let c0_i32_215 : BitVec 32 := 0#32
  let v522 : BitVec 1 := Scalar.cmpi .slt v518 c0_i32_215
  let v523 : BitVec 32 := Scalar.extui v522
  let v524 : BitVec 32 := Scalar.subi v521 v523
  let c64_i32_213 : BitVec 32 := 64#32
  let c0_i32_216 : BitVec 32 := 0#32
  let v525 : BitVec 1 := Scalar.cmpi .sgt c64_i32_213 c0_i32_216
  let v526 : BitVec 32 := Scalar.extui v525
  let c0_i32_217 : BitVec 32 := 0#32
  let v527 : BitVec 1 := Scalar.cmpi .slt c64_i32_213 c0_i32_217
  let v528 : BitVec 32 := Scalar.extui v527
  let v529 : BitVec 32 := Scalar.subi v526 v528
  let v530 : BitVec 1 := Scalar.cmpi .ne v524 v529
  let v531 : BitVec 32 := Scalar.remsi v518 c64_i32_213
  let c0_i32_218 : BitVec 32 := 0#32
  let v532 : BitVec 1 := Scalar.cmpi .ne v531 c0_i32_218
  let v533 : BitVec 1 := Scalar.andi v530 v532
  let v519 : BitVec 32 := Scalar.divsi v518 c64_i32_213
  let c1_i32_219 : BitVec 32 := 1#32
  let v534 : BitVec 32 := Scalar.subi v519 c1_i32_219
  let v535 : BitVec 32 := Scalar.select v533 v534 v519
  let v536 : BitVec 32 := Scalar.subi v535 v516
  let c1_i32_221 : BitVec 32 := 1#32
  let v538 : BitVec 32 := Scalar.divsi v536 c1_i32_221
  let v539 : BitVec 32 := Scalar.muli v538 c1_i32_221
  let v540 : BitVec 32 := Scalar.addi v516 v539
  let c1_i32_223 : BitVec 32 := 1#32
  let arg8 : BitVec 32 := Scf.iv v540 c1_i32_223 k0_t5
  let c64_i32_945 : BitVec 32 := 64#32
  let v2116 : BitVec 32 := Scalar.muli arg8 c64_i32_945
  v2116
def k0_off72 (v9 : BitVec 32) (v11 : BitVec 32) (k0_t5 : Fin (k0_t5_loop v9 v11).trips) : Fin 2 → Nat :=
  let c0_i32_205 : BitVec 32 := 0#32
  let v501 : BitVec 1 := Scalar.cmpi .sgt v9 c0_i32_205
  let v502 : BitVec 32 := Scalar.extui v501
  let c0_i32_206 : BitVec 32 := 0#32
  let v503 : BitVec 1 := Scalar.cmpi .slt v9 c0_i32_206
  let v504 : BitVec 32 := Scalar.extui v503
  let v505 : BitVec 32 := Scalar.subi v502 v504
  let c64_i32 : BitVec 32 := 64#32
  let c0_i32_207 : BitVec 32 := 0#32
  let v506 : BitVec 1 := Scalar.cmpi .sgt c64_i32 c0_i32_207
  let v507 : BitVec 32 := Scalar.extui v506
  let c0_i32_208 : BitVec 32 := 0#32
  let v508 : BitVec 1 := Scalar.cmpi .slt c64_i32 c0_i32_208
  let v509 : BitVec 32 := Scalar.extui v508
  let v510 : BitVec 32 := Scalar.subi v507 v509
  let v511 : BitVec 1 := Scalar.cmpi .ne v505 v510
  let v512 : BitVec 32 := Scalar.remsi v9 c64_i32
  let c0_i32_209 : BitVec 32 := 0#32
  let v513 : BitVec 1 := Scalar.cmpi .ne v512 c0_i32_209
  let v514 : BitVec 1 := Scalar.andi v511 v513
  let v500 : BitVec 32 := Scalar.divsi v9 c64_i32
  let c1_i32_210 : BitVec 32 := 1#32
  let v515 : BitVec 32 := Scalar.subi v500 c1_i32_210
  let v516 : BitVec 32 := Scalar.select v514 v515 v500
  let v12 : BitVec 32 := Scalar.addi v9 v11
  let c64_i32_211 : BitVec 32 := 64#32
  let v517 : BitVec 32 := Scalar.addi v12 c64_i32_211
  let c1_i32_212 : BitVec 32 := 1#32
  let v518 : BitVec 32 := Scalar.subi v517 c1_i32_212
  let c0_i32_214 : BitVec 32 := 0#32
  let v520 : BitVec 1 := Scalar.cmpi .sgt v518 c0_i32_214
  let v521 : BitVec 32 := Scalar.extui v520
  let c0_i32_215 : BitVec 32 := 0#32
  let v522 : BitVec 1 := Scalar.cmpi .slt v518 c0_i32_215
  let v523 : BitVec 32 := Scalar.extui v522
  let v524 : BitVec 32 := Scalar.subi v521 v523
  let c64_i32_213 : BitVec 32 := 64#32
  let c0_i32_216 : BitVec 32 := 0#32
  let v525 : BitVec 1 := Scalar.cmpi .sgt c64_i32_213 c0_i32_216
  let v526 : BitVec 32 := Scalar.extui v525
  let c0_i32_217 : BitVec 32 := 0#32
  let v527 : BitVec 1 := Scalar.cmpi .slt c64_i32_213 c0_i32_217
  let v528 : BitVec 32 := Scalar.extui v527
  let v529 : BitVec 32 := Scalar.subi v526 v528
  let v530 : BitVec 1 := Scalar.cmpi .ne v524 v529
  let v531 : BitVec 32 := Scalar.remsi v518 c64_i32_213
  let c0_i32_218 : BitVec 32 := 0#32
  let v532 : BitVec 1 := Scalar.cmpi .ne v531 c0_i32_218
  let v533 : BitVec 1 := Scalar.andi v530 v532
  let v519 : BitVec 32 := Scalar.divsi v518 c64_i32_213
  let c1_i32_219 : BitVec 32 := 1#32
  let v534 : BitVec 32 := Scalar.subi v519 c1_i32_219
  let v535 : BitVec 32 := Scalar.select v533 v534 v519
  let v536 : BitVec 32 := Scalar.subi v535 v516
  let c1_i32_221 : BitVec 32 := 1#32
  let v538 : BitVec 32 := Scalar.divsi v536 c1_i32_221
  let v539 : BitVec 32 := Scalar.muli v538 c1_i32_221
  let v540 : BitVec 32 := Scalar.addi v516 v539
  let c1_i32_223 : BitVec 32 := 1#32
  let arg8 : BitVec 32 := Scf.iv v540 c1_i32_223 k0_t5
  let c64_i32_945 : BitVec 32 := 64#32
  let v2116 : BitVec 32 := Scalar.muli arg8 c64_i32_945
  let v2117 : BitVec 32 := v2116
  let v2118 : Index := Scalar.indexCast v2117
  let c0_946 : Index := 0#32
  ![v2118.toNat, 0]
def k0_off73 (v9 : BitVec 32) (v11 : BitVec 32) (k0_t5 : Fin (k0_t5_loop v9 v11).trips) : Fin 2 → Nat :=
  let c0_i32_205 : BitVec 32 := 0#32
  let v501 : BitVec 1 := Scalar.cmpi .sgt v9 c0_i32_205
  let v502 : BitVec 32 := Scalar.extui v501
  let c0_i32_206 : BitVec 32 := 0#32
  let v503 : BitVec 1 := Scalar.cmpi .slt v9 c0_i32_206
  let v504 : BitVec 32 := Scalar.extui v503
  let v505 : BitVec 32 := Scalar.subi v502 v504
  let c64_i32 : BitVec 32 := 64#32
  let c0_i32_207 : BitVec 32 := 0#32
  let v506 : BitVec 1 := Scalar.cmpi .sgt c64_i32 c0_i32_207
  let v507 : BitVec 32 := Scalar.extui v506
  let c0_i32_208 : BitVec 32 := 0#32
  let v508 : BitVec 1 := Scalar.cmpi .slt c64_i32 c0_i32_208
  let v509 : BitVec 32 := Scalar.extui v508
  let v510 : BitVec 32 := Scalar.subi v507 v509
  let v511 : BitVec 1 := Scalar.cmpi .ne v505 v510
  let v512 : BitVec 32 := Scalar.remsi v9 c64_i32
  let c0_i32_209 : BitVec 32 := 0#32
  let v513 : BitVec 1 := Scalar.cmpi .ne v512 c0_i32_209
  let v514 : BitVec 1 := Scalar.andi v511 v513
  let v500 : BitVec 32 := Scalar.divsi v9 c64_i32
  let c1_i32_210 : BitVec 32 := 1#32
  let v515 : BitVec 32 := Scalar.subi v500 c1_i32_210
  let v516 : BitVec 32 := Scalar.select v514 v515 v500
  let v12 : BitVec 32 := Scalar.addi v9 v11
  let c64_i32_211 : BitVec 32 := 64#32
  let v517 : BitVec 32 := Scalar.addi v12 c64_i32_211
  let c1_i32_212 : BitVec 32 := 1#32
  let v518 : BitVec 32 := Scalar.subi v517 c1_i32_212
  let c0_i32_214 : BitVec 32 := 0#32
  let v520 : BitVec 1 := Scalar.cmpi .sgt v518 c0_i32_214
  let v521 : BitVec 32 := Scalar.extui v520
  let c0_i32_215 : BitVec 32 := 0#32
  let v522 : BitVec 1 := Scalar.cmpi .slt v518 c0_i32_215
  let v523 : BitVec 32 := Scalar.extui v522
  let v524 : BitVec 32 := Scalar.subi v521 v523
  let c64_i32_213 : BitVec 32 := 64#32
  let c0_i32_216 : BitVec 32 := 0#32
  let v525 : BitVec 1 := Scalar.cmpi .sgt c64_i32_213 c0_i32_216
  let v526 : BitVec 32 := Scalar.extui v525
  let c0_i32_217 : BitVec 32 := 0#32
  let v527 : BitVec 1 := Scalar.cmpi .slt c64_i32_213 c0_i32_217
  let v528 : BitVec 32 := Scalar.extui v527
  let v529 : BitVec 32 := Scalar.subi v526 v528
  let v530 : BitVec 1 := Scalar.cmpi .ne v524 v529
  let v531 : BitVec 32 := Scalar.remsi v518 c64_i32_213
  let c0_i32_218 : BitVec 32 := 0#32
  let v532 : BitVec 1 := Scalar.cmpi .ne v531 c0_i32_218
  let v533 : BitVec 1 := Scalar.andi v530 v532
  let v519 : BitVec 32 := Scalar.divsi v518 c64_i32_213
  let c1_i32_219 : BitVec 32 := 1#32
  let v534 : BitVec 32 := Scalar.subi v519 c1_i32_219
  let v535 : BitVec 32 := Scalar.select v533 v534 v519
  let v536 : BitVec 32 := Scalar.subi v535 v516
  let c1_i32_221 : BitVec 32 := 1#32
  let v538 : BitVec 32 := Scalar.divsi v536 c1_i32_221
  let v539 : BitVec 32 := Scalar.muli v538 c1_i32_221
  let v540 : BitVec 32 := Scalar.addi v516 v539
  let c1_i32_223 : BitVec 32 := 1#32
  let arg8 : BitVec 32 := Scf.iv v540 c1_i32_223 k0_t5
  let c64_i32_945 : BitVec 32 := 64#32
  let v2116 : BitVec 32 := Scalar.muli arg8 c64_i32_945
  let v2117 : BitVec 32 := v2116
  let v2130 : Index := Scalar.indexCast v2117
  let c0_949 : Index := 0#32
  ![v2130.toNat, 0]
def k0_off74 (i : grid0.Coords) : Fin 2 → Nat :=
  let arg0 : BitVec 32 := BitVec.ofNat 32 (i 0).val
  let v541 : Index := Scalar.indexCast arg0
  let c44 : Index := 44#32
  ![v541.toNat, 44]
def k0_off75 (i : grid0.Coords) : Fin 2 → Nat :=
  let arg0 : BitVec 32 := BitVec.ofNat 32 (i 0).val
  let v552 : Index := Scalar.indexCast arg0
  let c45 : Index := 45#32
  ![v552.toNat, 45]
def k0_off76 (i : grid0.Coords) : Fin 2 → Nat :=
  let arg0 : BitVec 32 := BitVec.ofNat 32 (i 0).val
  let v563 : Index := Scalar.indexCast arg0
  let c46 : Index := 46#32
  ![v563.toNat, 46]
def k0_off77 (i : grid0.Coords) : Fin 2 → Nat :=
  let arg0 : BitVec 32 := BitVec.ofNat 32 (i 0).val
  let v574 : Index := Scalar.indexCast arg0
  let c47 : Index := 47#32
  ![v574.toNat, 47]
def k0_off78 (i : grid0.Coords) : Fin 2 → Nat :=
  let arg0 : BitVec 32 := BitVec.ofNat 32 (i 0).val
  let v585 : Index := Scalar.indexCast arg0
  let c48 : Index := 48#32
  ![v585.toNat, 48]
def k0_off79 (i : grid0.Coords) : Fin 2 → Nat :=
  let arg0 : BitVec 32 := BitVec.ofNat 32 (i 0).val
  let v596 : Index := Scalar.indexCast arg0
  let c49 : Index := 49#32
  ![v596.toNat, 49]
def k0_off80 (i : grid0.Coords) : Fin 2 → Nat :=
  let arg0 : BitVec 32 := BitVec.ofNat 32 (i 0).val
  let v607 : Index := Scalar.indexCast arg0
  let c50 : Index := 50#32
  ![v607.toNat, 50]
def k0_off81 (i : grid0.Coords) : Fin 2 → Nat :=
  let arg0 : BitVec 32 := BitVec.ofNat 32 (i 0).val
  let v618 : Index := Scalar.indexCast arg0
  let c51 : Index := 51#32
  ![v618.toNat, 51]
def k0_off82 (i : grid0.Coords) : Fin 2 → Nat :=
  let arg0 : BitVec 32 := BitVec.ofNat 32 (i 0).val
  let v629 : Index := Scalar.indexCast arg0
  let c52 : Index := 52#32
  ![v629.toNat, 52]
def k0_off83 (i : grid0.Coords) : Fin 2 → Nat :=
  let arg0 : BitVec 32 := BitVec.ofNat 32 (i 0).val
  let v640 : Index := Scalar.indexCast arg0
  let c53 : Index := 53#32
  ![v640.toNat, 53]
def k0_off84 (i : grid0.Coords) : Fin 2 → Nat :=
  let arg0 : BitVec 32 := BitVec.ofNat 32 (i 0).val
  let v651 : Index := Scalar.indexCast arg0
  let c54 : Index := 54#32
  ![v651.toNat, 54]
def k0_off85 (i : grid0.Coords) : Fin 2 → Nat :=
  let arg0 : BitVec 32 := BitVec.ofNat 32 (i 0).val
  let v662 : Index := Scalar.indexCast arg0
  let c55 : Index := 55#32
  ![v662.toNat, 55]
def k0_off86 (i : grid0.Coords) : Fin 2 → Nat :=
  let arg0 : BitVec 32 := BitVec.ofNat 32 (i 0).val
  let v673 : Index := Scalar.indexCast arg0
  let c56 : Index := 56#32
  ![v673.toNat, 56]
def k0_off87 (i : grid0.Coords) : Fin 2 → Nat :=
  let arg0 : BitVec 32 := BitVec.ofNat 32 (i 0).val
  let v684 : Index := Scalar.indexCast arg0
  let c57 : Index := 57#32
  ![v684.toNat, 57]
def k0_off88 (i : grid0.Coords) : Fin 2 → Nat :=
  let arg0 : BitVec 32 := BitVec.ofNat 32 (i 0).val
  let v695 : Index := Scalar.indexCast arg0
  let c58 : Index := 58#32
  ![v695.toNat, 58]
def k0_off89 (i : grid0.Coords) : Fin 2 → Nat :=
  let arg0 : BitVec 32 := BitVec.ofNat 32 (i 0).val
  let v706 : Index := Scalar.indexCast arg0
  let c59 : Index := 59#32
  ![v706.toNat, 59]
def k0_off90 (i : grid0.Coords) : Fin 2 → Nat :=
  let arg0 : BitVec 32 := BitVec.ofNat 32 (i 0).val
  let v717 : Index := Scalar.indexCast arg0
  let c60 : Index := 60#32
  ![v717.toNat, 60]
def k0_off91 (i : grid0.Coords) : Fin 2 → Nat :=
  let arg0 : BitVec 32 := BitVec.ofNat 32 (i 0).val
  let v728 : Index := Scalar.indexCast arg0
  let c61 : Index := 61#32
  ![v728.toNat, 61]
def k0_off92 (i : grid0.Coords) : Fin 2 → Nat :=
  let arg0 : BitVec 32 := BitVec.ofNat 32 (i 0).val
  let v739 : Index := Scalar.indexCast arg0
  let c62 : Index := 62#32
  ![v739.toNat, 62]
def k0_off93 (i : grid0.Coords) : Fin 2 → Nat :=
  let arg0 : BitVec 32 := BitVec.ofNat 32 (i 0).val
  let v750 : Index := Scalar.indexCast arg0
  let c63 : Index := 63#32
  ![v750.toNat, 63]
def k0_off94 (i : grid0.Coords) : Fin 2 → Nat :=
  let arg0 : BitVec 32 := BitVec.ofNat 32 (i 0).val
  let v761 : Index := Scalar.indexCast arg0
  let c64 : Index := 64#32
  ![v761.toNat, 64]
def k0_off95 (i : grid0.Coords) : Fin 2 → Nat :=
  let arg0 : BitVec 32 := BitVec.ofNat 32 (i 0).val
  let v772 : Index := Scalar.indexCast arg0
  let c65 : Index := 65#32
  ![v772.toNat, 65]
def k0_off96 (i : grid0.Coords) : Fin 2 → Nat :=
  let arg0 : BitVec 32 := BitVec.ofNat 32 (i 0).val
  let v783 : Index := Scalar.indexCast arg0
  let c66 : Index := 66#32
  ![v783.toNat, 66]
def k0_off97 (i : grid0.Coords) : Fin 2 → Nat :=
  let arg0 : BitVec 32 := BitVec.ofNat 32 (i 0).val
  let v794 : Index := Scalar.indexCast arg0
  let c67 : Index := 67#32
  ![v794.toNat, 67]
def k0_off98 (i : grid0.Coords) : Fin 2 → Nat :=
  let arg0 : BitVec 32 := BitVec.ofNat 32 (i 0).val
  let v805 : Index := Scalar.indexCast arg0
  let c68 : Index := 68#32
  ![v805.toNat, 68]
def k0_off99 (i : grid0.Coords) : Fin 2 → Nat :=
  let arg0 : BitVec 32 := BitVec.ofNat 32 (i 0).val
  let v816 : Index := Scalar.indexCast arg0
  let c69 : Index := 69#32
  ![v816.toNat, 69]
def k0_off100 (i : grid0.Coords) : Fin 2 → Nat :=
  let arg0 : BitVec 32 := BitVec.ofNat 32 (i 0).val
  let v827 : Index := Scalar.indexCast arg0
  let c70 : Index := 70#32
  ![v827.toNat, 70]
def k0_off101 (i : grid0.Coords) : Fin 2 → Nat :=
  let arg0 : BitVec 32 := BitVec.ofNat 32 (i 0).val
  let v838 : Index := Scalar.indexCast arg0
  let c71 : Index := 71#32
  ![v838.toNat, 71]
def k0_off102 (i : grid0.Coords) : Fin 2 → Nat :=
  let arg0 : BitVec 32 := BitVec.ofNat 32 (i 0).val
  let v849 : Index := Scalar.indexCast arg0
  let c72 : Index := 72#32
  ![v849.toNat, 72]
def k0_off103 (i : grid0.Coords) : Fin 2 → Nat :=
  let arg0 : BitVec 32 := BitVec.ofNat 32 (i 0).val
  let v860 : Index := Scalar.indexCast arg0
  let c73 : Index := 73#32
  ![v860.toNat, 73]
def k0_off104 (i : grid0.Coords) : Fin 2 → Nat :=
  let arg0 : BitVec 32 := BitVec.ofNat 32 (i 0).val
  let v871 : Index := Scalar.indexCast arg0
  let c74 : Index := 74#32
  ![v871.toNat, 74]
def k0_off105 (i : grid0.Coords) : Fin 2 → Nat :=
  let arg0 : BitVec 32 := BitVec.ofNat 32 (i 0).val
  let v882 : Index := Scalar.indexCast arg0
  let c75 : Index := 75#32
  ![v882.toNat, 75]
def k0_off106 (i : grid0.Coords) : Fin 2 → Nat :=
  let arg0 : BitVec 32 := BitVec.ofNat 32 (i 0).val
  let v893 : Index := Scalar.indexCast arg0
  let c76 : Index := 76#32
  ![v893.toNat, 76]
def k0_off107 (i : grid0.Coords) : Fin 2 → Nat :=
  let arg0 : BitVec 32 := BitVec.ofNat 32 (i 0).val
  let v904 : Index := Scalar.indexCast arg0
  let c77 : Index := 77#32
  ![v904.toNat, 77]
def k0_off108 (i : grid0.Coords) : Fin 2 → Nat :=
  let arg0 : BitVec 32 := BitVec.ofNat 32 (i 0).val
  let v915 : Index := Scalar.indexCast arg0
  let c78 : Index := 78#32
  ![v915.toNat, 78]
def k0_off109 (i : grid0.Coords) : Fin 2 → Nat :=
  let arg0 : BitVec 32 := BitVec.ofNat 32 (i 0).val
  let v926 : Index := Scalar.indexCast arg0
  let c79 : Index := 79#32
  ![v926.toNat, 79]
def k0_off110 (i : grid0.Coords) : Fin 2 → Nat :=
  let arg0 : BitVec 32 := BitVec.ofNat 32 (i 0).val
  let v937 : Index := Scalar.indexCast arg0
  let c80 : Index := 80#32
  ![v937.toNat, 80]
def k0_off111 (i : grid0.Coords) : Fin 2 → Nat :=
  let arg0 : BitVec 32 := BitVec.ofNat 32 (i 0).val
  let v948 : Index := Scalar.indexCast arg0
  let c81 : Index := 81#32
  ![v948.toNat, 81]
def k0_off112 (i : grid0.Coords) : Fin 2 → Nat :=
  let arg0 : BitVec 32 := BitVec.ofNat 32 (i 0).val
  let v959 : Index := Scalar.indexCast arg0
  let c82 : Index := 82#32
  ![v959.toNat, 82]
def k0_off113 (i : grid0.Coords) : Fin 2 → Nat :=
  let arg0 : BitVec 32 := BitVec.ofNat 32 (i 0).val
  let v970 : Index := Scalar.indexCast arg0
  let c83 : Index := 83#32
  ![v970.toNat, 83]
def k0_off114 (i : grid0.Coords) : Fin 2 → Nat :=
  let arg0 : BitVec 32 := BitVec.ofNat 32 (i 0).val
  let v981 : Index := Scalar.indexCast arg0
  let c84 : Index := 84#32
  ![v981.toNat, 84]
def k0_off115 (i : grid0.Coords) : Fin 2 → Nat :=
  let arg0 : BitVec 32 := BitVec.ofNat 32 (i 0).val
  let v992 : Index := Scalar.indexCast arg0
  let c85 : Index := 85#32
  ![v992.toNat, 85]
def k0_off116 (i : grid0.Coords) : Fin 2 → Nat :=
  let arg0 : BitVec 32 := BitVec.ofNat 32 (i 0).val
  let v1003 : Index := Scalar.indexCast arg0
  let c86 : Index := 86#32
  ![v1003.toNat, 86]
def k0_off117 (i : grid0.Coords) : Fin 2 → Nat :=
  let arg0 : BitVec 32 := BitVec.ofNat 32 (i 0).val
  let v1014 : Index := Scalar.indexCast arg0
  let c87 : Index := 87#32
  ![v1014.toNat, 87]
@[reducible] def k0_t6_loop (v9 : BitVec 32) (v11 : BitVec 32) : Scf.Loop 32 :=
  let c0_i32_445 : BitVec 32 := 0#32
  let v1026 : BitVec 1 := Scalar.cmpi .sgt v9 c0_i32_445
  let v1027 : BitVec 32 := Scalar.extui v1026
  let c0_i32_446 : BitVec 32 := 0#32
  let v1028 : BitVec 1 := Scalar.cmpi .slt v9 c0_i32_446
  let v1029 : BitVec 32 := Scalar.extui v1028
  let v1030 : BitVec 32 := Scalar.subi v1027 v1029
  let c64_i32_444 : BitVec 32 := 64#32
  let c0_i32_447 : BitVec 32 := 0#32
  let v1031 : BitVec 1 := Scalar.cmpi .sgt c64_i32_444 c0_i32_447
  let v1032 : BitVec 32 := Scalar.extui v1031
  let c0_i32_448 : BitVec 32 := 0#32
  let v1033 : BitVec 1 := Scalar.cmpi .slt c64_i32_444 c0_i32_448
  let v1034 : BitVec 32 := Scalar.extui v1033
  let v1035 : BitVec 32 := Scalar.subi v1032 v1034
  let v1036 : BitVec 1 := Scalar.cmpi .ne v1030 v1035
  let v1037 : BitVec 32 := Scalar.remsi v9 c64_i32_444
  let c0_i32_449 : BitVec 32 := 0#32
  let v1038 : BitVec 1 := Scalar.cmpi .ne v1037 c0_i32_449
  let v1039 : BitVec 1 := Scalar.andi v1036 v1038
  let v1025 : BitVec 32 := Scalar.divsi v9 c64_i32_444
  let c1_i32_450 : BitVec 32 := 1#32
  let v1040 : BitVec 32 := Scalar.subi v1025 c1_i32_450
  let v1041 : BitVec 32 := Scalar.select v1039 v1040 v1025
  let v12 : BitVec 32 := Scalar.addi v9 v11
  let c64_i32_451 : BitVec 32 := 64#32
  let v1042 : BitVec 32 := Scalar.addi v12 c64_i32_451
  let c1_i32_452 : BitVec 32 := 1#32
  let v1043 : BitVec 32 := Scalar.subi v1042 c1_i32_452
  let c0_i32_454 : BitVec 32 := 0#32
  let v1045 : BitVec 1 := Scalar.cmpi .sgt v1043 c0_i32_454
  let v1046 : BitVec 32 := Scalar.extui v1045
  let c0_i32_455 : BitVec 32 := 0#32
  let v1047 : BitVec 1 := Scalar.cmpi .slt v1043 c0_i32_455
  let v1048 : BitVec 32 := Scalar.extui v1047
  let v1049 : BitVec 32 := Scalar.subi v1046 v1048
  let c64_i32_453 : BitVec 32 := 64#32
  let c0_i32_456 : BitVec 32 := 0#32
  let v1050 : BitVec 1 := Scalar.cmpi .sgt c64_i32_453 c0_i32_456
  let v1051 : BitVec 32 := Scalar.extui v1050
  let c0_i32_457 : BitVec 32 := 0#32
  let v1052 : BitVec 1 := Scalar.cmpi .slt c64_i32_453 c0_i32_457
  let v1053 : BitVec 32 := Scalar.extui v1052
  let v1054 : BitVec 32 := Scalar.subi v1051 v1053
  let v1055 : BitVec 1 := Scalar.cmpi .ne v1049 v1054
  let v1056 : BitVec 32 := Scalar.remsi v1043 c64_i32_453
  let c0_i32_458 : BitVec 32 := 0#32
  let v1057 : BitVec 1 := Scalar.cmpi .ne v1056 c0_i32_458
  let v1058 : BitVec 1 := Scalar.andi v1055 v1057
  let v1044 : BitVec 32 := Scalar.divsi v1043 c64_i32_453
  let c1_i32_459 : BitVec 32 := 1#32
  let v1059 : BitVec 32 := Scalar.subi v1044 c1_i32_459
  let v1060 : BitVec 32 := Scalar.select v1058 v1059 v1044
  let v1061 : BitVec 32 := Scalar.subi v1060 v1041
  let c1_i32_461 : BitVec 32 := 1#32
  let v1063 : BitVec 32 := Scalar.divsi v1061 c1_i32_461
  let v1064 : BitVec 32 := Scalar.muli v1063 c1_i32_461
  let v1065 : BitVec 32 := Scalar.addi v1041 v1064
  let c1_i32_462 : BitVec 32 := 1#32
  ⟨v1041, v1065, c1_i32_462⟩
def k0_mult4 (v9 : BitVec 32) (v11 : BitVec 32) (k0_t6 : Fin (k0_t6_loop v9 v11).trips) : BitVec 32 :=
  let c0_i32_445 : BitVec 32 := 0#32
  let v1026 : BitVec 1 := Scalar.cmpi .sgt v9 c0_i32_445
  let v1027 : BitVec 32 := Scalar.extui v1026
  let c0_i32_446 : BitVec 32 := 0#32
  let v1028 : BitVec 1 := Scalar.cmpi .slt v9 c0_i32_446
  let v1029 : BitVec 32 := Scalar.extui v1028
  let v1030 : BitVec 32 := Scalar.subi v1027 v1029
  let c64_i32_444 : BitVec 32 := 64#32
  let c0_i32_447 : BitVec 32 := 0#32
  let v1031 : BitVec 1 := Scalar.cmpi .sgt c64_i32_444 c0_i32_447
  let v1032 : BitVec 32 := Scalar.extui v1031
  let c0_i32_448 : BitVec 32 := 0#32
  let v1033 : BitVec 1 := Scalar.cmpi .slt c64_i32_444 c0_i32_448
  let v1034 : BitVec 32 := Scalar.extui v1033
  let v1035 : BitVec 32 := Scalar.subi v1032 v1034
  let v1036 : BitVec 1 := Scalar.cmpi .ne v1030 v1035
  let v1037 : BitVec 32 := Scalar.remsi v9 c64_i32_444
  let c0_i32_449 : BitVec 32 := 0#32
  let v1038 : BitVec 1 := Scalar.cmpi .ne v1037 c0_i32_449
  let v1039 : BitVec 1 := Scalar.andi v1036 v1038
  let v1025 : BitVec 32 := Scalar.divsi v9 c64_i32_444
  let c1_i32_450 : BitVec 32 := 1#32
  let v1040 : BitVec 32 := Scalar.subi v1025 c1_i32_450
  let v1041 : BitVec 32 := Scalar.select v1039 v1040 v1025
  let c1_i32_462 : BitVec 32 := 1#32
  let arg8 : BitVec 32 := Scf.iv v1041 c1_i32_462 k0_t6
  let c64_i32_945 : BitVec 32 := 64#32
  let v2116 : BitVec 32 := Scalar.muli arg8 c64_i32_945
  v2116
def k0_off118 (v9 : BitVec 32) (v11 : BitVec 32) (k0_t6 : Fin (k0_t6_loop v9 v11).trips) : Fin 2 → Nat :=
  let c0_i32_445 : BitVec 32 := 0#32
  let v1026 : BitVec 1 := Scalar.cmpi .sgt v9 c0_i32_445
  let v1027 : BitVec 32 := Scalar.extui v1026
  let c0_i32_446 : BitVec 32 := 0#32
  let v1028 : BitVec 1 := Scalar.cmpi .slt v9 c0_i32_446
  let v1029 : BitVec 32 := Scalar.extui v1028
  let v1030 : BitVec 32 := Scalar.subi v1027 v1029
  let c64_i32_444 : BitVec 32 := 64#32
  let c0_i32_447 : BitVec 32 := 0#32
  let v1031 : BitVec 1 := Scalar.cmpi .sgt c64_i32_444 c0_i32_447
  let v1032 : BitVec 32 := Scalar.extui v1031
  let c0_i32_448 : BitVec 32 := 0#32
  let v1033 : BitVec 1 := Scalar.cmpi .slt c64_i32_444 c0_i32_448
  let v1034 : BitVec 32 := Scalar.extui v1033
  let v1035 : BitVec 32 := Scalar.subi v1032 v1034
  let v1036 : BitVec 1 := Scalar.cmpi .ne v1030 v1035
  let v1037 : BitVec 32 := Scalar.remsi v9 c64_i32_444
  let c0_i32_449 : BitVec 32 := 0#32
  let v1038 : BitVec 1 := Scalar.cmpi .ne v1037 c0_i32_449
  let v1039 : BitVec 1 := Scalar.andi v1036 v1038
  let v1025 : BitVec 32 := Scalar.divsi v9 c64_i32_444
  let c1_i32_450 : BitVec 32 := 1#32
  let v1040 : BitVec 32 := Scalar.subi v1025 c1_i32_450
  let v1041 : BitVec 32 := Scalar.select v1039 v1040 v1025
  let c1_i32_462 : BitVec 32 := 1#32
  let arg8 : BitVec 32 := Scf.iv v1041 c1_i32_462 k0_t6
  let c64_i32_945 : BitVec 32 := 64#32
  let v2116 : BitVec 32 := Scalar.muli arg8 c64_i32_945
  let v2117 : BitVec 32 := v2116
  let v2118 : Index := Scalar.indexCast v2117
  let c0_946 : Index := 0#32
  ![v2118.toNat, 0]
def k0_off119 (v9 : BitVec 32) (v11 : BitVec 32) (k0_t6 : Fin (k0_t6_loop v9 v11).trips) : Fin 2 → Nat :=
  let c0_i32_445 : BitVec 32 := 0#32
  let v1026 : BitVec 1 := Scalar.cmpi .sgt v9 c0_i32_445
  let v1027 : BitVec 32 := Scalar.extui v1026
  let c0_i32_446 : BitVec 32 := 0#32
  let v1028 : BitVec 1 := Scalar.cmpi .slt v9 c0_i32_446
  let v1029 : BitVec 32 := Scalar.extui v1028
  let v1030 : BitVec 32 := Scalar.subi v1027 v1029
  let c64_i32_444 : BitVec 32 := 64#32
  let c0_i32_447 : BitVec 32 := 0#32
  let v1031 : BitVec 1 := Scalar.cmpi .sgt c64_i32_444 c0_i32_447
  let v1032 : BitVec 32 := Scalar.extui v1031
  let c0_i32_448 : BitVec 32 := 0#32
  let v1033 : BitVec 1 := Scalar.cmpi .slt c64_i32_444 c0_i32_448
  let v1034 : BitVec 32 := Scalar.extui v1033
  let v1035 : BitVec 32 := Scalar.subi v1032 v1034
  let v1036 : BitVec 1 := Scalar.cmpi .ne v1030 v1035
  let v1037 : BitVec 32 := Scalar.remsi v9 c64_i32_444
  let c0_i32_449 : BitVec 32 := 0#32
  let v1038 : BitVec 1 := Scalar.cmpi .ne v1037 c0_i32_449
  let v1039 : BitVec 1 := Scalar.andi v1036 v1038
  let v1025 : BitVec 32 := Scalar.divsi v9 c64_i32_444
  let c1_i32_450 : BitVec 32 := 1#32
  let v1040 : BitVec 32 := Scalar.subi v1025 c1_i32_450
  let v1041 : BitVec 32 := Scalar.select v1039 v1040 v1025
  let c1_i32_462 : BitVec 32 := 1#32
  let arg8 : BitVec 32 := Scf.iv v1041 c1_i32_462 k0_t6
  let c64_i32_945 : BitVec 32 := 64#32
  let v2116 : BitVec 32 := Scalar.muli arg8 c64_i32_945
  let v2117 : BitVec 32 := v2116
  let v2130 : Index := Scalar.indexCast v2117
  let c256_949 : Index := 256#32
  ![v2130.toNat, 256]
@[reducible] def k0_t7_loop (v9 : BitVec 32) (v11 : BitVec 32) : Scf.Loop 32 :=
  let c0_i32_445 : BitVec 32 := 0#32
  let v1026 : BitVec 1 := Scalar.cmpi .sgt v9 c0_i32_445
  let v1027 : BitVec 32 := Scalar.extui v1026
  let c0_i32_446 : BitVec 32 := 0#32
  let v1028 : BitVec 1 := Scalar.cmpi .slt v9 c0_i32_446
  let v1029 : BitVec 32 := Scalar.extui v1028
  let v1030 : BitVec 32 := Scalar.subi v1027 v1029
  let c64_i32_444 : BitVec 32 := 64#32
  let c0_i32_447 : BitVec 32 := 0#32
  let v1031 : BitVec 1 := Scalar.cmpi .sgt c64_i32_444 c0_i32_447
  let v1032 : BitVec 32 := Scalar.extui v1031
  let c0_i32_448 : BitVec 32 := 0#32
  let v1033 : BitVec 1 := Scalar.cmpi .slt c64_i32_444 c0_i32_448
  let v1034 : BitVec 32 := Scalar.extui v1033
  let v1035 : BitVec 32 := Scalar.subi v1032 v1034
  let v1036 : BitVec 1 := Scalar.cmpi .ne v1030 v1035
  let v1037 : BitVec 32 := Scalar.remsi v9 c64_i32_444
  let c0_i32_449 : BitVec 32 := 0#32
  let v1038 : BitVec 1 := Scalar.cmpi .ne v1037 c0_i32_449
  let v1039 : BitVec 1 := Scalar.andi v1036 v1038
  let v1025 : BitVec 32 := Scalar.divsi v9 c64_i32_444
  let c1_i32_450 : BitVec 32 := 1#32
  let v1040 : BitVec 32 := Scalar.subi v1025 c1_i32_450
  let v1041 : BitVec 32 := Scalar.select v1039 v1040 v1025
  let v12 : BitVec 32 := Scalar.addi v9 v11
  let c64_i32_451 : BitVec 32 := 64#32
  let v1042 : BitVec 32 := Scalar.addi v12 c64_i32_451
  let c1_i32_452 : BitVec 32 := 1#32
  let v1043 : BitVec 32 := Scalar.subi v1042 c1_i32_452
  let c0_i32_454 : BitVec 32 := 0#32
  let v1045 : BitVec 1 := Scalar.cmpi .sgt v1043 c0_i32_454
  let v1046 : BitVec 32 := Scalar.extui v1045
  let c0_i32_455 : BitVec 32 := 0#32
  let v1047 : BitVec 1 := Scalar.cmpi .slt v1043 c0_i32_455
  let v1048 : BitVec 32 := Scalar.extui v1047
  let v1049 : BitVec 32 := Scalar.subi v1046 v1048
  let c64_i32_453 : BitVec 32 := 64#32
  let c0_i32_456 : BitVec 32 := 0#32
  let v1050 : BitVec 1 := Scalar.cmpi .sgt c64_i32_453 c0_i32_456
  let v1051 : BitVec 32 := Scalar.extui v1050
  let c0_i32_457 : BitVec 32 := 0#32
  let v1052 : BitVec 1 := Scalar.cmpi .slt c64_i32_453 c0_i32_457
  let v1053 : BitVec 32 := Scalar.extui v1052
  let v1054 : BitVec 32 := Scalar.subi v1051 v1053
  let v1055 : BitVec 1 := Scalar.cmpi .ne v1049 v1054
  let v1056 : BitVec 32 := Scalar.remsi v1043 c64_i32_453
  let c0_i32_458 : BitVec 32 := 0#32
  let v1057 : BitVec 1 := Scalar.cmpi .ne v1056 c0_i32_458
  let v1058 : BitVec 1 := Scalar.andi v1055 v1057
  let v1044 : BitVec 32 := Scalar.divsi v1043 c64_i32_453
  let c1_i32_459 : BitVec 32 := 1#32
  let v1059 : BitVec 32 := Scalar.subi v1044 c1_i32_459
  let v1060 : BitVec 32 := Scalar.select v1058 v1059 v1044
  let v1061 : BitVec 32 := Scalar.subi v1060 v1041
  let c1_i32_461 : BitVec 32 := 1#32
  let v1063 : BitVec 32 := Scalar.divsi v1061 c1_i32_461
  let v1064 : BitVec 32 := Scalar.muli v1063 c1_i32_461
  let v1065 : BitVec 32 := Scalar.addi v1041 v1064
  let v1062 : BitVec 32 := Scalar.addi v1041 v1061
  let c1_i32_463 : BitVec 32 := 1#32
  ⟨v1065, v1062, c1_i32_463⟩
def k0_mult5 (v9 : BitVec 32) (v11 : BitVec 32) (k0_t7 : Fin (k0_t7_loop v9 v11).trips) : BitVec 32 :=
  let c0_i32_445 : BitVec 32 := 0#32
  let v1026 : BitVec 1 := Scalar.cmpi .sgt v9 c0_i32_445
  let v1027 : BitVec 32 := Scalar.extui v1026
  let c0_i32_446 : BitVec 32 := 0#32
  let v1028 : BitVec 1 := Scalar.cmpi .slt v9 c0_i32_446
  let v1029 : BitVec 32 := Scalar.extui v1028
  let v1030 : BitVec 32 := Scalar.subi v1027 v1029
  let c64_i32_444 : BitVec 32 := 64#32
  let c0_i32_447 : BitVec 32 := 0#32
  let v1031 : BitVec 1 := Scalar.cmpi .sgt c64_i32_444 c0_i32_447
  let v1032 : BitVec 32 := Scalar.extui v1031
  let c0_i32_448 : BitVec 32 := 0#32
  let v1033 : BitVec 1 := Scalar.cmpi .slt c64_i32_444 c0_i32_448
  let v1034 : BitVec 32 := Scalar.extui v1033
  let v1035 : BitVec 32 := Scalar.subi v1032 v1034
  let v1036 : BitVec 1 := Scalar.cmpi .ne v1030 v1035
  let v1037 : BitVec 32 := Scalar.remsi v9 c64_i32_444
  let c0_i32_449 : BitVec 32 := 0#32
  let v1038 : BitVec 1 := Scalar.cmpi .ne v1037 c0_i32_449
  let v1039 : BitVec 1 := Scalar.andi v1036 v1038
  let v1025 : BitVec 32 := Scalar.divsi v9 c64_i32_444
  let c1_i32_450 : BitVec 32 := 1#32
  let v1040 : BitVec 32 := Scalar.subi v1025 c1_i32_450
  let v1041 : BitVec 32 := Scalar.select v1039 v1040 v1025
  let v12 : BitVec 32 := Scalar.addi v9 v11
  let c64_i32_451 : BitVec 32 := 64#32
  let v1042 : BitVec 32 := Scalar.addi v12 c64_i32_451
  let c1_i32_452 : BitVec 32 := 1#32
  let v1043 : BitVec 32 := Scalar.subi v1042 c1_i32_452
  let c0_i32_454 : BitVec 32 := 0#32
  let v1045 : BitVec 1 := Scalar.cmpi .sgt v1043 c0_i32_454
  let v1046 : BitVec 32 := Scalar.extui v1045
  let c0_i32_455 : BitVec 32 := 0#32
  let v1047 : BitVec 1 := Scalar.cmpi .slt v1043 c0_i32_455
  let v1048 : BitVec 32 := Scalar.extui v1047
  let v1049 : BitVec 32 := Scalar.subi v1046 v1048
  let c64_i32_453 : BitVec 32 := 64#32
  let c0_i32_456 : BitVec 32 := 0#32
  let v1050 : BitVec 1 := Scalar.cmpi .sgt c64_i32_453 c0_i32_456
  let v1051 : BitVec 32 := Scalar.extui v1050
  let c0_i32_457 : BitVec 32 := 0#32
  let v1052 : BitVec 1 := Scalar.cmpi .slt c64_i32_453 c0_i32_457
  let v1053 : BitVec 32 := Scalar.extui v1052
  let v1054 : BitVec 32 := Scalar.subi v1051 v1053
  let v1055 : BitVec 1 := Scalar.cmpi .ne v1049 v1054
  let v1056 : BitVec 32 := Scalar.remsi v1043 c64_i32_453
  let c0_i32_458 : BitVec 32 := 0#32
  let v1057 : BitVec 1 := Scalar.cmpi .ne v1056 c0_i32_458
  let v1058 : BitVec 1 := Scalar.andi v1055 v1057
  let v1044 : BitVec 32 := Scalar.divsi v1043 c64_i32_453
  let c1_i32_459 : BitVec 32 := 1#32
  let v1059 : BitVec 32 := Scalar.subi v1044 c1_i32_459
  let v1060 : BitVec 32 := Scalar.select v1058 v1059 v1044
  let v1061 : BitVec 32 := Scalar.subi v1060 v1041
  let c1_i32_461 : BitVec 32 := 1#32
  let v1063 : BitVec 32 := Scalar.divsi v1061 c1_i32_461
  let v1064 : BitVec 32 := Scalar.muli v1063 c1_i32_461
  let v1065 : BitVec 32 := Scalar.addi v1041 v1064
  let c1_i32_463 : BitVec 32 := 1#32
  let arg8 : BitVec 32 := Scf.iv v1065 c1_i32_463 k0_t7
  let c64_i32_945 : BitVec 32 := 64#32
  let v2116 : BitVec 32 := Scalar.muli arg8 c64_i32_945
  v2116
def k0_off120 (v9 : BitVec 32) (v11 : BitVec 32) (k0_t7 : Fin (k0_t7_loop v9 v11).trips) : Fin 2 → Nat :=
  let c0_i32_445 : BitVec 32 := 0#32
  let v1026 : BitVec 1 := Scalar.cmpi .sgt v9 c0_i32_445
  let v1027 : BitVec 32 := Scalar.extui v1026
  let c0_i32_446 : BitVec 32 := 0#32
  let v1028 : BitVec 1 := Scalar.cmpi .slt v9 c0_i32_446
  let v1029 : BitVec 32 := Scalar.extui v1028
  let v1030 : BitVec 32 := Scalar.subi v1027 v1029
  let c64_i32_444 : BitVec 32 := 64#32
  let c0_i32_447 : BitVec 32 := 0#32
  let v1031 : BitVec 1 := Scalar.cmpi .sgt c64_i32_444 c0_i32_447
  let v1032 : BitVec 32 := Scalar.extui v1031
  let c0_i32_448 : BitVec 32 := 0#32
  let v1033 : BitVec 1 := Scalar.cmpi .slt c64_i32_444 c0_i32_448
  let v1034 : BitVec 32 := Scalar.extui v1033
  let v1035 : BitVec 32 := Scalar.subi v1032 v1034
  let v1036 : BitVec 1 := Scalar.cmpi .ne v1030 v1035
  let v1037 : BitVec 32 := Scalar.remsi v9 c64_i32_444
  let c0_i32_449 : BitVec 32 := 0#32
  let v1038 : BitVec 1 := Scalar.cmpi .ne v1037 c0_i32_449
  let v1039 : BitVec 1 := Scalar.andi v1036 v1038
  let v1025 : BitVec 32 := Scalar.divsi v9 c64_i32_444
  let c1_i32_450 : BitVec 32 := 1#32
  let v1040 : BitVec 32 := Scalar.subi v1025 c1_i32_450
  let v1041 : BitVec 32 := Scalar.select v1039 v1040 v1025
  let v12 : BitVec 32 := Scalar.addi v9 v11
  let c64_i32_451 : BitVec 32 := 64#32
  let v1042 : BitVec 32 := Scalar.addi v12 c64_i32_451
  let c1_i32_452 : BitVec 32 := 1#32
  let v1043 : BitVec 32 := Scalar.subi v1042 c1_i32_452
  let c0_i32_454 : BitVec 32 := 0#32
  let v1045 : BitVec 1 := Scalar.cmpi .sgt v1043 c0_i32_454
  let v1046 : BitVec 32 := Scalar.extui v1045
  let c0_i32_455 : BitVec 32 := 0#32
  let v1047 : BitVec 1 := Scalar.cmpi .slt v1043 c0_i32_455
  let v1048 : BitVec 32 := Scalar.extui v1047
  let v1049 : BitVec 32 := Scalar.subi v1046 v1048
  let c64_i32_453 : BitVec 32 := 64#32
  let c0_i32_456 : BitVec 32 := 0#32
  let v1050 : BitVec 1 := Scalar.cmpi .sgt c64_i32_453 c0_i32_456
  let v1051 : BitVec 32 := Scalar.extui v1050
  let c0_i32_457 : BitVec 32 := 0#32
  let v1052 : BitVec 1 := Scalar.cmpi .slt c64_i32_453 c0_i32_457
  let v1053 : BitVec 32 := Scalar.extui v1052
  let v1054 : BitVec 32 := Scalar.subi v1051 v1053
  let v1055 : BitVec 1 := Scalar.cmpi .ne v1049 v1054
  let v1056 : BitVec 32 := Scalar.remsi v1043 c64_i32_453
  let c0_i32_458 : BitVec 32 := 0#32
  let v1057 : BitVec 1 := Scalar.cmpi .ne v1056 c0_i32_458
  let v1058 : BitVec 1 := Scalar.andi v1055 v1057
  let v1044 : BitVec 32 := Scalar.divsi v1043 c64_i32_453
  let c1_i32_459 : BitVec 32 := 1#32
  let v1059 : BitVec 32 := Scalar.subi v1044 c1_i32_459
  let v1060 : BitVec 32 := Scalar.select v1058 v1059 v1044
  let v1061 : BitVec 32 := Scalar.subi v1060 v1041
  let c1_i32_461 : BitVec 32 := 1#32
  let v1063 : BitVec 32 := Scalar.divsi v1061 c1_i32_461
  let v1064 : BitVec 32 := Scalar.muli v1063 c1_i32_461
  let v1065 : BitVec 32 := Scalar.addi v1041 v1064
  let c1_i32_463 : BitVec 32 := 1#32
  let arg8 : BitVec 32 := Scf.iv v1065 c1_i32_463 k0_t7
  let c64_i32_945 : BitVec 32 := 64#32
  let v2116 : BitVec 32 := Scalar.muli arg8 c64_i32_945
  let v2117 : BitVec 32 := v2116
  let v2118 : Index := Scalar.indexCast v2117
  let c0_946 : Index := 0#32
  ![v2118.toNat, 0]
def k0_off121 (v9 : BitVec 32) (v11 : BitVec 32) (k0_t7 : Fin (k0_t7_loop v9 v11).trips) : Fin 2 → Nat :=
  let c0_i32_445 : BitVec 32 := 0#32
  let v1026 : BitVec 1 := Scalar.cmpi .sgt v9 c0_i32_445
  let v1027 : BitVec 32 := Scalar.extui v1026
  let c0_i32_446 : BitVec 32 := 0#32
  let v1028 : BitVec 1 := Scalar.cmpi .slt v9 c0_i32_446
  let v1029 : BitVec 32 := Scalar.extui v1028
  let v1030 : BitVec 32 := Scalar.subi v1027 v1029
  let c64_i32_444 : BitVec 32 := 64#32
  let c0_i32_447 : BitVec 32 := 0#32
  let v1031 : BitVec 1 := Scalar.cmpi .sgt c64_i32_444 c0_i32_447
  let v1032 : BitVec 32 := Scalar.extui v1031
  let c0_i32_448 : BitVec 32 := 0#32
  let v1033 : BitVec 1 := Scalar.cmpi .slt c64_i32_444 c0_i32_448
  let v1034 : BitVec 32 := Scalar.extui v1033
  let v1035 : BitVec 32 := Scalar.subi v1032 v1034
  let v1036 : BitVec 1 := Scalar.cmpi .ne v1030 v1035
  let v1037 : BitVec 32 := Scalar.remsi v9 c64_i32_444
  let c0_i32_449 : BitVec 32 := 0#32
  let v1038 : BitVec 1 := Scalar.cmpi .ne v1037 c0_i32_449
  let v1039 : BitVec 1 := Scalar.andi v1036 v1038
  let v1025 : BitVec 32 := Scalar.divsi v9 c64_i32_444
  let c1_i32_450 : BitVec 32 := 1#32
  let v1040 : BitVec 32 := Scalar.subi v1025 c1_i32_450
  let v1041 : BitVec 32 := Scalar.select v1039 v1040 v1025
  let v12 : BitVec 32 := Scalar.addi v9 v11
  let c64_i32_451 : BitVec 32 := 64#32
  let v1042 : BitVec 32 := Scalar.addi v12 c64_i32_451
  let c1_i32_452 : BitVec 32 := 1#32
  let v1043 : BitVec 32 := Scalar.subi v1042 c1_i32_452
  let c0_i32_454 : BitVec 32 := 0#32
  let v1045 : BitVec 1 := Scalar.cmpi .sgt v1043 c0_i32_454
  let v1046 : BitVec 32 := Scalar.extui v1045
  let c0_i32_455 : BitVec 32 := 0#32
  let v1047 : BitVec 1 := Scalar.cmpi .slt v1043 c0_i32_455
  let v1048 : BitVec 32 := Scalar.extui v1047
  let v1049 : BitVec 32 := Scalar.subi v1046 v1048
  let c64_i32_453 : BitVec 32 := 64#32
  let c0_i32_456 : BitVec 32 := 0#32
  let v1050 : BitVec 1 := Scalar.cmpi .sgt c64_i32_453 c0_i32_456
  let v1051 : BitVec 32 := Scalar.extui v1050
  let c0_i32_457 : BitVec 32 := 0#32
  let v1052 : BitVec 1 := Scalar.cmpi .slt c64_i32_453 c0_i32_457
  let v1053 : BitVec 32 := Scalar.extui v1052
  let v1054 : BitVec 32 := Scalar.subi v1051 v1053
  let v1055 : BitVec 1 := Scalar.cmpi .ne v1049 v1054
  let v1056 : BitVec 32 := Scalar.remsi v1043 c64_i32_453
  let c0_i32_458 : BitVec 32 := 0#32
  let v1057 : BitVec 1 := Scalar.cmpi .ne v1056 c0_i32_458
  let v1058 : BitVec 1 := Scalar.andi v1055 v1057
  let v1044 : BitVec 32 := Scalar.divsi v1043 c64_i32_453
  let c1_i32_459 : BitVec 32 := 1#32
  let v1059 : BitVec 32 := Scalar.subi v1044 c1_i32_459
  let v1060 : BitVec 32 := Scalar.select v1058 v1059 v1044
  let v1061 : BitVec 32 := Scalar.subi v1060 v1041
  let c1_i32_461 : BitVec 32 := 1#32
  let v1063 : BitVec 32 := Scalar.divsi v1061 c1_i32_461
  let v1064 : BitVec 32 := Scalar.muli v1063 c1_i32_461
  let v1065 : BitVec 32 := Scalar.addi v1041 v1064
  let c1_i32_463 : BitVec 32 := 1#32
  let arg8 : BitVec 32 := Scf.iv v1065 c1_i32_463 k0_t7
  let c64_i32_945 : BitVec 32 := 64#32
  let v2116 : BitVec 32 := Scalar.muli arg8 c64_i32_945
  let v2117 : BitVec 32 := v2116
  let v2130 : Index := Scalar.indexCast v2117
  let c256_949 : Index := 256#32
  ![v2130.toNat, 256]
def k0_off122 (i : grid0.Coords) : Fin 2 → Nat :=
  let arg0 : BitVec 32 := BitVec.ofNat 32 (i 0).val
  let v1066 : Index := Scalar.indexCast arg0
  let c88 : Index := 88#32
  ![v1066.toNat, 88]
def k0_off123 (i : grid0.Coords) : Fin 2 → Nat :=
  let arg0 : BitVec 32 := BitVec.ofNat 32 (i 0).val
  let v1077 : Index := Scalar.indexCast arg0
  let c89 : Index := 89#32
  ![v1077.toNat, 89]
def k0_off124 (i : grid0.Coords) : Fin 2 → Nat :=
  let arg0 : BitVec 32 := BitVec.ofNat 32 (i 0).val
  let v1088 : Index := Scalar.indexCast arg0
  let c90 : Index := 90#32
  ![v1088.toNat, 90]
def k0_off125 (i : grid0.Coords) : Fin 2 → Nat :=
  let arg0 : BitVec 32 := BitVec.ofNat 32 (i 0).val
  let v1099 : Index := Scalar.indexCast arg0
  let c91 : Index := 91#32
  ![v1099.toNat, 91]
def k0_off126 (i : grid0.Coords) : Fin 2 → Nat :=
  let arg0 : BitVec 32 := BitVec.ofNat 32 (i 0).val
  let v1110 : Index := Scalar.indexCast arg0
  let c92 : Index := 92#32
  ![v1110.toNat, 92]
def k0_off127 (i : grid0.Coords) : Fin 2 → Nat :=
  let arg0 : BitVec 32 := BitVec.ofNat 32 (i 0).val
  let v1121 : Index := Scalar.indexCast arg0
  let c93 : Index := 93#32
  ![v1121.toNat, 93]
def k0_off128 (i : grid0.Coords) : Fin 2 → Nat :=
  let arg0 : BitVec 32 := BitVec.ofNat 32 (i 0).val
  let v1132 : Index := Scalar.indexCast arg0
  let c94 : Index := 94#32
  ![v1132.toNat, 94]
def k0_off129 (i : grid0.Coords) : Fin 2 → Nat :=
  let arg0 : BitVec 32 := BitVec.ofNat 32 (i 0).val
  let v1143 : Index := Scalar.indexCast arg0
  let c95 : Index := 95#32
  ![v1143.toNat, 95]
def k0_off130 (i : grid0.Coords) : Fin 2 → Nat :=
  let arg0 : BitVec 32 := BitVec.ofNat 32 (i 0).val
  let v1154 : Index := Scalar.indexCast arg0
  let c96 : Index := 96#32
  ![v1154.toNat, 96]
def k0_off131 (i : grid0.Coords) : Fin 2 → Nat :=
  let arg0 : BitVec 32 := BitVec.ofNat 32 (i 0).val
  let v1165 : Index := Scalar.indexCast arg0
  let c97 : Index := 97#32
  ![v1165.toNat, 97]
def k0_off132 (i : grid0.Coords) : Fin 2 → Nat :=
  let arg0 : BitVec 32 := BitVec.ofNat 32 (i 0).val
  let v1176 : Index := Scalar.indexCast arg0
  let c98 : Index := 98#32
  ![v1176.toNat, 98]
def k0_off133 (i : grid0.Coords) : Fin 2 → Nat :=
  let arg0 : BitVec 32 := BitVec.ofNat 32 (i 0).val
  let v1187 : Index := Scalar.indexCast arg0
  let c99 : Index := 99#32
  ![v1187.toNat, 99]
def k0_off134 (i : grid0.Coords) : Fin 2 → Nat :=
  let arg0 : BitVec 32 := BitVec.ofNat 32 (i 0).val
  let v1198 : Index := Scalar.indexCast arg0
  let c100 : Index := 100#32
  ![v1198.toNat, 100]
def k0_off135 (i : grid0.Coords) : Fin 2 → Nat :=
  let arg0 : BitVec 32 := BitVec.ofNat 32 (i 0).val
  let v1209 : Index := Scalar.indexCast arg0
  let c101 : Index := 101#32
  ![v1209.toNat, 101]
def k0_off136 (i : grid0.Coords) : Fin 2 → Nat :=
  let arg0 : BitVec 32 := BitVec.ofNat 32 (i 0).val
  let v1220 : Index := Scalar.indexCast arg0
  let c102 : Index := 102#32
  ![v1220.toNat, 102]
def k0_off137 (i : grid0.Coords) : Fin 2 → Nat :=
  let arg0 : BitVec 32 := BitVec.ofNat 32 (i 0).val
  let v1231 : Index := Scalar.indexCast arg0
  let c103 : Index := 103#32
  ![v1231.toNat, 103]
def k0_off138 (i : grid0.Coords) : Fin 2 → Nat :=
  let arg0 : BitVec 32 := BitVec.ofNat 32 (i 0).val
  let v1242 : Index := Scalar.indexCast arg0
  let c104 : Index := 104#32
  ![v1242.toNat, 104]
def k0_off139 (i : grid0.Coords) : Fin 2 → Nat :=
  let arg0 : BitVec 32 := BitVec.ofNat 32 (i 0).val
  let v1253 : Index := Scalar.indexCast arg0
  let c105 : Index := 105#32
  ![v1253.toNat, 105]
def k0_off140 (i : grid0.Coords) : Fin 2 → Nat :=
  let arg0 : BitVec 32 := BitVec.ofNat 32 (i 0).val
  let v1264 : Index := Scalar.indexCast arg0
  let c106 : Index := 106#32
  ![v1264.toNat, 106]
def k0_off141 (i : grid0.Coords) : Fin 2 → Nat :=
  let arg0 : BitVec 32 := BitVec.ofNat 32 (i 0).val
  let v1275 : Index := Scalar.indexCast arg0
  let c107 : Index := 107#32
  ![v1275.toNat, 107]
def k0_off142 (i : grid0.Coords) : Fin 2 → Nat :=
  let arg0 : BitVec 32 := BitVec.ofNat 32 (i 0).val
  let v1286 : Index := Scalar.indexCast arg0
  let c108 : Index := 108#32
  ![v1286.toNat, 108]
def k0_off143 (i : grid0.Coords) : Fin 2 → Nat :=
  let arg0 : BitVec 32 := BitVec.ofNat 32 (i 0).val
  let v1297 : Index := Scalar.indexCast arg0
  let c109 : Index := 109#32
  ![v1297.toNat, 109]
def k0_off144 (i : grid0.Coords) : Fin 2 → Nat :=
  let arg0 : BitVec 32 := BitVec.ofNat 32 (i 0).val
  let v1308 : Index := Scalar.indexCast arg0
  let c110 : Index := 110#32
  ![v1308.toNat, 110]
def k0_off145 (i : grid0.Coords) : Fin 2 → Nat :=
  let arg0 : BitVec 32 := BitVec.ofNat 32 (i 0).val
  let v1319 : Index := Scalar.indexCast arg0
  let c111 : Index := 111#32
  ![v1319.toNat, 111]
def k0_off146 (i : grid0.Coords) : Fin 2 → Nat :=
  let arg0 : BitVec 32 := BitVec.ofNat 32 (i 0).val
  let v1330 : Index := Scalar.indexCast arg0
  let c112 : Index := 112#32
  ![v1330.toNat, 112]
def k0_off147 (i : grid0.Coords) : Fin 2 → Nat :=
  let arg0 : BitVec 32 := BitVec.ofNat 32 (i 0).val
  let v1341 : Index := Scalar.indexCast arg0
  let c113 : Index := 113#32
  ![v1341.toNat, 113]
def k0_off148 (i : grid0.Coords) : Fin 2 → Nat :=
  let arg0 : BitVec 32 := BitVec.ofNat 32 (i 0).val
  let v1352 : Index := Scalar.indexCast arg0
  let c114 : Index := 114#32
  ![v1352.toNat, 114]
def k0_off149 (i : grid0.Coords) : Fin 2 → Nat :=
  let arg0 : BitVec 32 := BitVec.ofNat 32 (i 0).val
  let v1363 : Index := Scalar.indexCast arg0
  let c115 : Index := 115#32
  ![v1363.toNat, 115]
def k0_off150 (i : grid0.Coords) : Fin 2 → Nat :=
  let arg0 : BitVec 32 := BitVec.ofNat 32 (i 0).val
  let v1374 : Index := Scalar.indexCast arg0
  let c116 : Index := 116#32
  ![v1374.toNat, 116]
def k0_off151 (i : grid0.Coords) : Fin 2 → Nat :=
  let arg0 : BitVec 32 := BitVec.ofNat 32 (i 0).val
  let v1385 : Index := Scalar.indexCast arg0
  let c117 : Index := 117#32
  ![v1385.toNat, 117]
def k0_off152 (i : grid0.Coords) : Fin 2 → Nat :=
  let arg0 : BitVec 32 := BitVec.ofNat 32 (i 0).val
  let v1396 : Index := Scalar.indexCast arg0
  let c118 : Index := 118#32
  ![v1396.toNat, 118]
def k0_off153 (i : grid0.Coords) : Fin 2 → Nat :=
  let arg0 : BitVec 32 := BitVec.ofNat 32 (i 0).val
  let v1407 : Index := Scalar.indexCast arg0
  let c119 : Index := 119#32
  ![v1407.toNat, 119]
def k0_off154 (i : grid0.Coords) : Fin 2 → Nat :=
  let arg0 : BitVec 32 := BitVec.ofNat 32 (i 0).val
  let v1418 : Index := Scalar.indexCast arg0
  let c120 : Index := 120#32
  ![v1418.toNat, 120]
def k0_off155 (i : grid0.Coords) : Fin 2 → Nat :=
  let arg0 : BitVec 32 := BitVec.ofNat 32 (i 0).val
  let v1429 : Index := Scalar.indexCast arg0
  let c121 : Index := 121#32
  ![v1429.toNat, 121]
def k0_off156 (i : grid0.Coords) : Fin 2 → Nat :=
  let arg0 : BitVec 32 := BitVec.ofNat 32 (i 0).val
  let v1440 : Index := Scalar.indexCast arg0
  let c122 : Index := 122#32
  ![v1440.toNat, 122]
def k0_off157 (i : grid0.Coords) : Fin 2 → Nat :=
  let arg0 : BitVec 32 := BitVec.ofNat 32 (i 0).val
  let v1451 : Index := Scalar.indexCast arg0
  let c123 : Index := 123#32
  ![v1451.toNat, 123]
def k0_off158 (i : grid0.Coords) : Fin 2 → Nat :=
  let arg0 : BitVec 32 := BitVec.ofNat 32 (i 0).val
  let v1462 : Index := Scalar.indexCast arg0
  let c124 : Index := 124#32
  ![v1462.toNat, 124]
def k0_off159 (i : grid0.Coords) : Fin 2 → Nat :=
  let arg0 : BitVec 32 := BitVec.ofNat 32 (i 0).val
  let v1473 : Index := Scalar.indexCast arg0
  let c125 : Index := 125#32
  ![v1473.toNat, 125]
def k0_off160 (i : grid0.Coords) : Fin 2 → Nat :=
  let arg0 : BitVec 32 := BitVec.ofNat 32 (i 0).val
  let v1484 : Index := Scalar.indexCast arg0
  let c126 : Index := 126#32
  ![v1484.toNat, 126]
def k0_off161 (i : grid0.Coords) : Fin 2 → Nat :=
  let arg0 : BitVec 32 := BitVec.ofNat 32 (i 0).val
  let v1495 : Index := Scalar.indexCast arg0
  let c127 : Index := 127#32
  ![v1495.toNat, 127]
def k0_off162 (i : grid0.Coords) : Fin 2 → Nat :=
  let arg0 : BitVec 32 := BitVec.ofNat 32 (i 0).val
  let v1506 : Index := Scalar.indexCast arg0
  let c128_664 : Index := 128#32
  ![v1506.toNat, 128]
def k0_off163 (i : grid0.Coords) : Fin 2 → Nat :=
  let arg0 : BitVec 32 := BitVec.ofNat 32 (i 0).val
  let v1517 : Index := Scalar.indexCast arg0
  let c129 : Index := 129#32
  ![v1517.toNat, 129]
def k0_off164 (i : grid0.Coords) : Fin 2 → Nat :=
  let arg0 : BitVec 32 := BitVec.ofNat 32 (i 0).val
  let v1528 : Index := Scalar.indexCast arg0
  let c130 : Index := 130#32
  ![v1528.toNat, 130]
def k0_off165 (i : grid0.Coords) : Fin 2 → Nat :=
  let arg0 : BitVec 32 := BitVec.ofNat 32 (i 0).val
  let v1539 : Index := Scalar.indexCast arg0
  let c131 : Index := 131#32
  ![v1539.toNat, 131]
@[reducible] def k0_t8_loop (v9 : BitVec 32) (v11 : BitVec 32) : Scf.Loop 32 :=
  let c0_i32_686 : BitVec 32 := 0#32
  let v1551 : BitVec 1 := Scalar.cmpi .sgt v9 c0_i32_686
  let v1552 : BitVec 32 := Scalar.extui v1551
  let c0_i32_687 : BitVec 32 := 0#32
  let v1553 : BitVec 1 := Scalar.cmpi .slt v9 c0_i32_687
  let v1554 : BitVec 32 := Scalar.extui v1553
  let v1555 : BitVec 32 := Scalar.subi v1552 v1554
  let c64_i32_685 : BitVec 32 := 64#32
  let c0_i32_688 : BitVec 32 := 0#32
  let v1556 : BitVec 1 := Scalar.cmpi .sgt c64_i32_685 c0_i32_688
  let v1557 : BitVec 32 := Scalar.extui v1556
  let c0_i32_689 : BitVec 32 := 0#32
  let v1558 : BitVec 1 := Scalar.cmpi .slt c64_i32_685 c0_i32_689
  let v1559 : BitVec 32 := Scalar.extui v1558
  let v1560 : BitVec 32 := Scalar.subi v1557 v1559
  let v1561 : BitVec 1 := Scalar.cmpi .ne v1555 v1560
  let v1562 : BitVec 32 := Scalar.remsi v9 c64_i32_685
  let c0_i32_690 : BitVec 32 := 0#32
  let v1563 : BitVec 1 := Scalar.cmpi .ne v1562 c0_i32_690
  let v1564 : BitVec 1 := Scalar.andi v1561 v1563
  let v1550 : BitVec 32 := Scalar.divsi v9 c64_i32_685
  let c1_i32_691 : BitVec 32 := 1#32
  let v1565 : BitVec 32 := Scalar.subi v1550 c1_i32_691
  let v1566 : BitVec 32 := Scalar.select v1564 v1565 v1550
  let v12 : BitVec 32 := Scalar.addi v9 v11
  let c64_i32_692 : BitVec 32 := 64#32
  let v1567 : BitVec 32 := Scalar.addi v12 c64_i32_692
  let c1_i32_693 : BitVec 32 := 1#32
  let v1568 : BitVec 32 := Scalar.subi v1567 c1_i32_693
  let c0_i32_695 : BitVec 32 := 0#32
  let v1570 : BitVec 1 := Scalar.cmpi .sgt v1568 c0_i32_695
  let v1571 : BitVec 32 := Scalar.extui v1570
  let c0_i32_696 : BitVec 32 := 0#32
  let v1572 : BitVec 1 := Scalar.cmpi .slt v1568 c0_i32_696
  let v1573 : BitVec 32 := Scalar.extui v1572
  let v1574 : BitVec 32 := Scalar.subi v1571 v1573
  let c64_i32_694 : BitVec 32 := 64#32
  let c0_i32_697 : BitVec 32 := 0#32
  let v1575 : BitVec 1 := Scalar.cmpi .sgt c64_i32_694 c0_i32_697
  let v1576 : BitVec 32 := Scalar.extui v1575
  let c0_i32_698 : BitVec 32 := 0#32
  let v1577 : BitVec 1 := Scalar.cmpi .slt c64_i32_694 c0_i32_698
  let v1578 : BitVec 32 := Scalar.extui v1577
  let v1579 : BitVec 32 := Scalar.subi v1576 v1578
  let v1580 : BitVec 1 := Scalar.cmpi .ne v1574 v1579
  let v1581 : BitVec 32 := Scalar.remsi v1568 c64_i32_694
  let c0_i32_699 : BitVec 32 := 0#32
  let v1582 : BitVec 1 := Scalar.cmpi .ne v1581 c0_i32_699
  let v1583 : BitVec 1 := Scalar.andi v1580 v1582
  let v1569 : BitVec 32 := Scalar.divsi v1568 c64_i32_694
  let c1_i32_700 : BitVec 32 := 1#32
  let v1584 : BitVec 32 := Scalar.subi v1569 c1_i32_700
  let v1585 : BitVec 32 := Scalar.select v1583 v1584 v1569
  let v1586 : BitVec 32 := Scalar.subi v1585 v1566
  let c1_i32_702 : BitVec 32 := 1#32
  let v1588 : BitVec 32 := Scalar.divsi v1586 c1_i32_702
  let v1589 : BitVec 32 := Scalar.muli v1588 c1_i32_702
  let v1590 : BitVec 32 := Scalar.addi v1566 v1589
  let c1_i32_703 : BitVec 32 := 1#32
  ⟨v1566, v1590, c1_i32_703⟩
def k0_mult6 (v9 : BitVec 32) (v11 : BitVec 32) (k0_t8 : Fin (k0_t8_loop v9 v11).trips) : BitVec 32 :=
  let c0_i32_686 : BitVec 32 := 0#32
  let v1551 : BitVec 1 := Scalar.cmpi .sgt v9 c0_i32_686
  let v1552 : BitVec 32 := Scalar.extui v1551
  let c0_i32_687 : BitVec 32 := 0#32
  let v1553 : BitVec 1 := Scalar.cmpi .slt v9 c0_i32_687
  let v1554 : BitVec 32 := Scalar.extui v1553
  let v1555 : BitVec 32 := Scalar.subi v1552 v1554
  let c64_i32_685 : BitVec 32 := 64#32
  let c0_i32_688 : BitVec 32 := 0#32
  let v1556 : BitVec 1 := Scalar.cmpi .sgt c64_i32_685 c0_i32_688
  let v1557 : BitVec 32 := Scalar.extui v1556
  let c0_i32_689 : BitVec 32 := 0#32
  let v1558 : BitVec 1 := Scalar.cmpi .slt c64_i32_685 c0_i32_689
  let v1559 : BitVec 32 := Scalar.extui v1558
  let v1560 : BitVec 32 := Scalar.subi v1557 v1559
  let v1561 : BitVec 1 := Scalar.cmpi .ne v1555 v1560
  let v1562 : BitVec 32 := Scalar.remsi v9 c64_i32_685
  let c0_i32_690 : BitVec 32 := 0#32
  let v1563 : BitVec 1 := Scalar.cmpi .ne v1562 c0_i32_690
  let v1564 : BitVec 1 := Scalar.andi v1561 v1563
  let v1550 : BitVec 32 := Scalar.divsi v9 c64_i32_685
  let c1_i32_691 : BitVec 32 := 1#32
  let v1565 : BitVec 32 := Scalar.subi v1550 c1_i32_691
  let v1566 : BitVec 32 := Scalar.select v1564 v1565 v1550
  let c1_i32_703 : BitVec 32 := 1#32
  let arg8 : BitVec 32 := Scf.iv v1566 c1_i32_703 k0_t8
  let c64_i32_945 : BitVec 32 := 64#32
  let v2116 : BitVec 32 := Scalar.muli arg8 c64_i32_945
  v2116
def k0_off166 (v9 : BitVec 32) (v11 : BitVec 32) (k0_t8 : Fin (k0_t8_loop v9 v11).trips) : Fin 2 → Nat :=
  let c0_i32_686 : BitVec 32 := 0#32
  let v1551 : BitVec 1 := Scalar.cmpi .sgt v9 c0_i32_686
  let v1552 : BitVec 32 := Scalar.extui v1551
  let c0_i32_687 : BitVec 32 := 0#32
  let v1553 : BitVec 1 := Scalar.cmpi .slt v9 c0_i32_687
  let v1554 : BitVec 32 := Scalar.extui v1553
  let v1555 : BitVec 32 := Scalar.subi v1552 v1554
  let c64_i32_685 : BitVec 32 := 64#32
  let c0_i32_688 : BitVec 32 := 0#32
  let v1556 : BitVec 1 := Scalar.cmpi .sgt c64_i32_685 c0_i32_688
  let v1557 : BitVec 32 := Scalar.extui v1556
  let c0_i32_689 : BitVec 32 := 0#32
  let v1558 : BitVec 1 := Scalar.cmpi .slt c64_i32_685 c0_i32_689
  let v1559 : BitVec 32 := Scalar.extui v1558
  let v1560 : BitVec 32 := Scalar.subi v1557 v1559
  let v1561 : BitVec 1 := Scalar.cmpi .ne v1555 v1560
  let v1562 : BitVec 32 := Scalar.remsi v9 c64_i32_685
  let c0_i32_690 : BitVec 32 := 0#32
  let v1563 : BitVec 1 := Scalar.cmpi .ne v1562 c0_i32_690
  let v1564 : BitVec 1 := Scalar.andi v1561 v1563
  let v1550 : BitVec 32 := Scalar.divsi v9 c64_i32_685
  let c1_i32_691 : BitVec 32 := 1#32
  let v1565 : BitVec 32 := Scalar.subi v1550 c1_i32_691
  let v1566 : BitVec 32 := Scalar.select v1564 v1565 v1550
  let c1_i32_703 : BitVec 32 := 1#32
  let arg8 : BitVec 32 := Scf.iv v1566 c1_i32_703 k0_t8
  let c64_i32_945 : BitVec 32 := 64#32
  let v2116 : BitVec 32 := Scalar.muli arg8 c64_i32_945
  let v2117 : BitVec 32 := v2116
  let v2118 : Index := Scalar.indexCast v2117
  let c0_946 : Index := 0#32
  ![v2118.toNat, 0]
def k0_off167 (v9 : BitVec 32) (v11 : BitVec 32) (k0_t8 : Fin (k0_t8_loop v9 v11).trips) : Fin 2 → Nat :=
  let c0_i32_686 : BitVec 32 := 0#32
  let v1551 : BitVec 1 := Scalar.cmpi .sgt v9 c0_i32_686
  let v1552 : BitVec 32 := Scalar.extui v1551
  let c0_i32_687 : BitVec 32 := 0#32
  let v1553 : BitVec 1 := Scalar.cmpi .slt v9 c0_i32_687
  let v1554 : BitVec 32 := Scalar.extui v1553
  let v1555 : BitVec 32 := Scalar.subi v1552 v1554
  let c64_i32_685 : BitVec 32 := 64#32
  let c0_i32_688 : BitVec 32 := 0#32
  let v1556 : BitVec 1 := Scalar.cmpi .sgt c64_i32_685 c0_i32_688
  let v1557 : BitVec 32 := Scalar.extui v1556
  let c0_i32_689 : BitVec 32 := 0#32
  let v1558 : BitVec 1 := Scalar.cmpi .slt c64_i32_685 c0_i32_689
  let v1559 : BitVec 32 := Scalar.extui v1558
  let v1560 : BitVec 32 := Scalar.subi v1557 v1559
  let v1561 : BitVec 1 := Scalar.cmpi .ne v1555 v1560
  let v1562 : BitVec 32 := Scalar.remsi v9 c64_i32_685
  let c0_i32_690 : BitVec 32 := 0#32
  let v1563 : BitVec 1 := Scalar.cmpi .ne v1562 c0_i32_690
  let v1564 : BitVec 1 := Scalar.andi v1561 v1563
  let v1550 : BitVec 32 := Scalar.divsi v9 c64_i32_685
  let c1_i32_691 : BitVec 32 := 1#32
  let v1565 : BitVec 32 := Scalar.subi v1550 c1_i32_691
  let v1566 : BitVec 32 := Scalar.select v1564 v1565 v1550
  let c1_i32_703 : BitVec 32 := 1#32
  let arg8 : BitVec 32 := Scf.iv v1566 c1_i32_703 k0_t8
  let c64_i32_945 : BitVec 32 := 64#32
  let v2116 : BitVec 32 := Scalar.muli arg8 c64_i32_945
  let v2117 : BitVec 32 := v2116
  let v2130 : Index := Scalar.indexCast v2117
  let c512_949 : Index := 512#32
  ![v2130.toNat, 512]
@[reducible] def k0_t9_loop (v9 : BitVec 32) (v11 : BitVec 32) : Scf.Loop 32 :=
  let c0_i32_686 : BitVec 32 := 0#32
  let v1551 : BitVec 1 := Scalar.cmpi .sgt v9 c0_i32_686
  let v1552 : BitVec 32 := Scalar.extui v1551
  let c0_i32_687 : BitVec 32 := 0#32
  let v1553 : BitVec 1 := Scalar.cmpi .slt v9 c0_i32_687
  let v1554 : BitVec 32 := Scalar.extui v1553
  let v1555 : BitVec 32 := Scalar.subi v1552 v1554
  let c64_i32_685 : BitVec 32 := 64#32
  let c0_i32_688 : BitVec 32 := 0#32
  let v1556 : BitVec 1 := Scalar.cmpi .sgt c64_i32_685 c0_i32_688
  let v1557 : BitVec 32 := Scalar.extui v1556
  let c0_i32_689 : BitVec 32 := 0#32
  let v1558 : BitVec 1 := Scalar.cmpi .slt c64_i32_685 c0_i32_689
  let v1559 : BitVec 32 := Scalar.extui v1558
  let v1560 : BitVec 32 := Scalar.subi v1557 v1559
  let v1561 : BitVec 1 := Scalar.cmpi .ne v1555 v1560
  let v1562 : BitVec 32 := Scalar.remsi v9 c64_i32_685
  let c0_i32_690 : BitVec 32 := 0#32
  let v1563 : BitVec 1 := Scalar.cmpi .ne v1562 c0_i32_690
  let v1564 : BitVec 1 := Scalar.andi v1561 v1563
  let v1550 : BitVec 32 := Scalar.divsi v9 c64_i32_685
  let c1_i32_691 : BitVec 32 := 1#32
  let v1565 : BitVec 32 := Scalar.subi v1550 c1_i32_691
  let v1566 : BitVec 32 := Scalar.select v1564 v1565 v1550
  let v12 : BitVec 32 := Scalar.addi v9 v11
  let c64_i32_692 : BitVec 32 := 64#32
  let v1567 : BitVec 32 := Scalar.addi v12 c64_i32_692
  let c1_i32_693 : BitVec 32 := 1#32
  let v1568 : BitVec 32 := Scalar.subi v1567 c1_i32_693
  let c0_i32_695 : BitVec 32 := 0#32
  let v1570 : BitVec 1 := Scalar.cmpi .sgt v1568 c0_i32_695
  let v1571 : BitVec 32 := Scalar.extui v1570
  let c0_i32_696 : BitVec 32 := 0#32
  let v1572 : BitVec 1 := Scalar.cmpi .slt v1568 c0_i32_696
  let v1573 : BitVec 32 := Scalar.extui v1572
  let v1574 : BitVec 32 := Scalar.subi v1571 v1573
  let c64_i32_694 : BitVec 32 := 64#32
  let c0_i32_697 : BitVec 32 := 0#32
  let v1575 : BitVec 1 := Scalar.cmpi .sgt c64_i32_694 c0_i32_697
  let v1576 : BitVec 32 := Scalar.extui v1575
  let c0_i32_698 : BitVec 32 := 0#32
  let v1577 : BitVec 1 := Scalar.cmpi .slt c64_i32_694 c0_i32_698
  let v1578 : BitVec 32 := Scalar.extui v1577
  let v1579 : BitVec 32 := Scalar.subi v1576 v1578
  let v1580 : BitVec 1 := Scalar.cmpi .ne v1574 v1579
  let v1581 : BitVec 32 := Scalar.remsi v1568 c64_i32_694
  let c0_i32_699 : BitVec 32 := 0#32
  let v1582 : BitVec 1 := Scalar.cmpi .ne v1581 c0_i32_699
  let v1583 : BitVec 1 := Scalar.andi v1580 v1582
  let v1569 : BitVec 32 := Scalar.divsi v1568 c64_i32_694
  let c1_i32_700 : BitVec 32 := 1#32
  let v1584 : BitVec 32 := Scalar.subi v1569 c1_i32_700
  let v1585 : BitVec 32 := Scalar.select v1583 v1584 v1569
  let v1586 : BitVec 32 := Scalar.subi v1585 v1566
  let c1_i32_702 : BitVec 32 := 1#32
  let v1588 : BitVec 32 := Scalar.divsi v1586 c1_i32_702
  let v1589 : BitVec 32 := Scalar.muli v1588 c1_i32_702
  let v1590 : BitVec 32 := Scalar.addi v1566 v1589
  let v1587 : BitVec 32 := Scalar.addi v1566 v1586
  let c1_i32_704 : BitVec 32 := 1#32
  ⟨v1590, v1587, c1_i32_704⟩
def k0_mult7 (v9 : BitVec 32) (v11 : BitVec 32) (k0_t9 : Fin (k0_t9_loop v9 v11).trips) : BitVec 32 :=
  let c0_i32_686 : BitVec 32 := 0#32
  let v1551 : BitVec 1 := Scalar.cmpi .sgt v9 c0_i32_686
  let v1552 : BitVec 32 := Scalar.extui v1551
  let c0_i32_687 : BitVec 32 := 0#32
  let v1553 : BitVec 1 := Scalar.cmpi .slt v9 c0_i32_687
  let v1554 : BitVec 32 := Scalar.extui v1553
  let v1555 : BitVec 32 := Scalar.subi v1552 v1554
  let c64_i32_685 : BitVec 32 := 64#32
  let c0_i32_688 : BitVec 32 := 0#32
  let v1556 : BitVec 1 := Scalar.cmpi .sgt c64_i32_685 c0_i32_688
  let v1557 : BitVec 32 := Scalar.extui v1556
  let c0_i32_689 : BitVec 32 := 0#32
  let v1558 : BitVec 1 := Scalar.cmpi .slt c64_i32_685 c0_i32_689
  let v1559 : BitVec 32 := Scalar.extui v1558
  let v1560 : BitVec 32 := Scalar.subi v1557 v1559
  let v1561 : BitVec 1 := Scalar.cmpi .ne v1555 v1560
  let v1562 : BitVec 32 := Scalar.remsi v9 c64_i32_685
  let c0_i32_690 : BitVec 32 := 0#32
  let v1563 : BitVec 1 := Scalar.cmpi .ne v1562 c0_i32_690
  let v1564 : BitVec 1 := Scalar.andi v1561 v1563
  let v1550 : BitVec 32 := Scalar.divsi v9 c64_i32_685
  let c1_i32_691 : BitVec 32 := 1#32
  let v1565 : BitVec 32 := Scalar.subi v1550 c1_i32_691
  let v1566 : BitVec 32 := Scalar.select v1564 v1565 v1550
  let v12 : BitVec 32 := Scalar.addi v9 v11
  let c64_i32_692 : BitVec 32 := 64#32
  let v1567 : BitVec 32 := Scalar.addi v12 c64_i32_692
  let c1_i32_693 : BitVec 32 := 1#32
  let v1568 : BitVec 32 := Scalar.subi v1567 c1_i32_693
  let c0_i32_695 : BitVec 32 := 0#32
  let v1570 : BitVec 1 := Scalar.cmpi .sgt v1568 c0_i32_695
  let v1571 : BitVec 32 := Scalar.extui v1570
  let c0_i32_696 : BitVec 32 := 0#32
  let v1572 : BitVec 1 := Scalar.cmpi .slt v1568 c0_i32_696
  let v1573 : BitVec 32 := Scalar.extui v1572
  let v1574 : BitVec 32 := Scalar.subi v1571 v1573
  let c64_i32_694 : BitVec 32 := 64#32
  let c0_i32_697 : BitVec 32 := 0#32
  let v1575 : BitVec 1 := Scalar.cmpi .sgt c64_i32_694 c0_i32_697
  let v1576 : BitVec 32 := Scalar.extui v1575
  let c0_i32_698 : BitVec 32 := 0#32
  let v1577 : BitVec 1 := Scalar.cmpi .slt c64_i32_694 c0_i32_698
  let v1578 : BitVec 32 := Scalar.extui v1577
  let v1579 : BitVec 32 := Scalar.subi v1576 v1578
  let v1580 : BitVec 1 := Scalar.cmpi .ne v1574 v1579
  let v1581 : BitVec 32 := Scalar.remsi v1568 c64_i32_694
  let c0_i32_699 : BitVec 32 := 0#32
  let v1582 : BitVec 1 := Scalar.cmpi .ne v1581 c0_i32_699
  let v1583 : BitVec 1 := Scalar.andi v1580 v1582
  let v1569 : BitVec 32 := Scalar.divsi v1568 c64_i32_694
  let c1_i32_700 : BitVec 32 := 1#32
  let v1584 : BitVec 32 := Scalar.subi v1569 c1_i32_700
  let v1585 : BitVec 32 := Scalar.select v1583 v1584 v1569
  let v1586 : BitVec 32 := Scalar.subi v1585 v1566
  let c1_i32_702 : BitVec 32 := 1#32
  let v1588 : BitVec 32 := Scalar.divsi v1586 c1_i32_702
  let v1589 : BitVec 32 := Scalar.muli v1588 c1_i32_702
  let v1590 : BitVec 32 := Scalar.addi v1566 v1589
  let c1_i32_704 : BitVec 32 := 1#32
  let arg8 : BitVec 32 := Scf.iv v1590 c1_i32_704 k0_t9
  let c64_i32_945 : BitVec 32 := 64#32
  let v2116 : BitVec 32 := Scalar.muli arg8 c64_i32_945
  v2116
def k0_off168 (v9 : BitVec 32) (v11 : BitVec 32) (k0_t9 : Fin (k0_t9_loop v9 v11).trips) : Fin 2 → Nat :=
  let c0_i32_686 : BitVec 32 := 0#32
  let v1551 : BitVec 1 := Scalar.cmpi .sgt v9 c0_i32_686
  let v1552 : BitVec 32 := Scalar.extui v1551
  let c0_i32_687 : BitVec 32 := 0#32
  let v1553 : BitVec 1 := Scalar.cmpi .slt v9 c0_i32_687
  let v1554 : BitVec 32 := Scalar.extui v1553
  let v1555 : BitVec 32 := Scalar.subi v1552 v1554
  let c64_i32_685 : BitVec 32 := 64#32
  let c0_i32_688 : BitVec 32 := 0#32
  let v1556 : BitVec 1 := Scalar.cmpi .sgt c64_i32_685 c0_i32_688
  let v1557 : BitVec 32 := Scalar.extui v1556
  let c0_i32_689 : BitVec 32 := 0#32
  let v1558 : BitVec 1 := Scalar.cmpi .slt c64_i32_685 c0_i32_689
  let v1559 : BitVec 32 := Scalar.extui v1558
  let v1560 : BitVec 32 := Scalar.subi v1557 v1559
  let v1561 : BitVec 1 := Scalar.cmpi .ne v1555 v1560
  let v1562 : BitVec 32 := Scalar.remsi v9 c64_i32_685
  let c0_i32_690 : BitVec 32 := 0#32
  let v1563 : BitVec 1 := Scalar.cmpi .ne v1562 c0_i32_690
  let v1564 : BitVec 1 := Scalar.andi v1561 v1563
  let v1550 : BitVec 32 := Scalar.divsi v9 c64_i32_685
  let c1_i32_691 : BitVec 32 := 1#32
  let v1565 : BitVec 32 := Scalar.subi v1550 c1_i32_691
  let v1566 : BitVec 32 := Scalar.select v1564 v1565 v1550
  let v12 : BitVec 32 := Scalar.addi v9 v11
  let c64_i32_692 : BitVec 32 := 64#32
  let v1567 : BitVec 32 := Scalar.addi v12 c64_i32_692
  let c1_i32_693 : BitVec 32 := 1#32
  let v1568 : BitVec 32 := Scalar.subi v1567 c1_i32_693
  let c0_i32_695 : BitVec 32 := 0#32
  let v1570 : BitVec 1 := Scalar.cmpi .sgt v1568 c0_i32_695
  let v1571 : BitVec 32 := Scalar.extui v1570
  let c0_i32_696 : BitVec 32 := 0#32
  let v1572 : BitVec 1 := Scalar.cmpi .slt v1568 c0_i32_696
  let v1573 : BitVec 32 := Scalar.extui v1572
  let v1574 : BitVec 32 := Scalar.subi v1571 v1573
  let c64_i32_694 : BitVec 32 := 64#32
  let c0_i32_697 : BitVec 32 := 0#32
  let v1575 : BitVec 1 := Scalar.cmpi .sgt c64_i32_694 c0_i32_697
  let v1576 : BitVec 32 := Scalar.extui v1575
  let c0_i32_698 : BitVec 32 := 0#32
  let v1577 : BitVec 1 := Scalar.cmpi .slt c64_i32_694 c0_i32_698
  let v1578 : BitVec 32 := Scalar.extui v1577
  let v1579 : BitVec 32 := Scalar.subi v1576 v1578
  let v1580 : BitVec 1 := Scalar.cmpi .ne v1574 v1579
  let v1581 : BitVec 32 := Scalar.remsi v1568 c64_i32_694
  let c0_i32_699 : BitVec 32 := 0#32
  let v1582 : BitVec 1 := Scalar.cmpi .ne v1581 c0_i32_699
  let v1583 : BitVec 1 := Scalar.andi v1580 v1582
  let v1569 : BitVec 32 := Scalar.divsi v1568 c64_i32_694
  let c1_i32_700 : BitVec 32 := 1#32
  let v1584 : BitVec 32 := Scalar.subi v1569 c1_i32_700
  let v1585 : BitVec 32 := Scalar.select v1583 v1584 v1569
  let v1586 : BitVec 32 := Scalar.subi v1585 v1566
  let c1_i32_702 : BitVec 32 := 1#32
  let v1588 : BitVec 32 := Scalar.divsi v1586 c1_i32_702
  let v1589 : BitVec 32 := Scalar.muli v1588 c1_i32_702
  let v1590 : BitVec 32 := Scalar.addi v1566 v1589
  let c1_i32_704 : BitVec 32 := 1#32
  let arg8 : BitVec 32 := Scf.iv v1590 c1_i32_704 k0_t9
  let c64_i32_945 : BitVec 32 := 64#32
  let v2116 : BitVec 32 := Scalar.muli arg8 c64_i32_945
  let v2117 : BitVec 32 := v2116
  let v2118 : Index := Scalar.indexCast v2117
  let c0_946 : Index := 0#32
  ![v2118.toNat, 0]
def k0_off169 (v9 : BitVec 32) (v11 : BitVec 32) (k0_t9 : Fin (k0_t9_loop v9 v11).trips) : Fin 2 → Nat :=
  let c0_i32_686 : BitVec 32 := 0#32
  let v1551 : BitVec 1 := Scalar.cmpi .sgt v9 c0_i32_686
  let v1552 : BitVec 32 := Scalar.extui v1551
  let c0_i32_687 : BitVec 32 := 0#32
  let v1553 : BitVec 1 := Scalar.cmpi .slt v9 c0_i32_687
  let v1554 : BitVec 32 := Scalar.extui v1553
  let v1555 : BitVec 32 := Scalar.subi v1552 v1554
  let c64_i32_685 : BitVec 32 := 64#32
  let c0_i32_688 : BitVec 32 := 0#32
  let v1556 : BitVec 1 := Scalar.cmpi .sgt c64_i32_685 c0_i32_688
  let v1557 : BitVec 32 := Scalar.extui v1556
  let c0_i32_689 : BitVec 32 := 0#32
  let v1558 : BitVec 1 := Scalar.cmpi .slt c64_i32_685 c0_i32_689
  let v1559 : BitVec 32 := Scalar.extui v1558
  let v1560 : BitVec 32 := Scalar.subi v1557 v1559
  let v1561 : BitVec 1 := Scalar.cmpi .ne v1555 v1560
  let v1562 : BitVec 32 := Scalar.remsi v9 c64_i32_685
  let c0_i32_690 : BitVec 32 := 0#32
  let v1563 : BitVec 1 := Scalar.cmpi .ne v1562 c0_i32_690
  let v1564 : BitVec 1 := Scalar.andi v1561 v1563
  let v1550 : BitVec 32 := Scalar.divsi v9 c64_i32_685
  let c1_i32_691 : BitVec 32 := 1#32
  let v1565 : BitVec 32 := Scalar.subi v1550 c1_i32_691
  let v1566 : BitVec 32 := Scalar.select v1564 v1565 v1550
  let v12 : BitVec 32 := Scalar.addi v9 v11
  let c64_i32_692 : BitVec 32 := 64#32
  let v1567 : BitVec 32 := Scalar.addi v12 c64_i32_692
  let c1_i32_693 : BitVec 32 := 1#32
  let v1568 : BitVec 32 := Scalar.subi v1567 c1_i32_693
  let c0_i32_695 : BitVec 32 := 0#32
  let v1570 : BitVec 1 := Scalar.cmpi .sgt v1568 c0_i32_695
  let v1571 : BitVec 32 := Scalar.extui v1570
  let c0_i32_696 : BitVec 32 := 0#32
  let v1572 : BitVec 1 := Scalar.cmpi .slt v1568 c0_i32_696
  let v1573 : BitVec 32 := Scalar.extui v1572
  let v1574 : BitVec 32 := Scalar.subi v1571 v1573
  let c64_i32_694 : BitVec 32 := 64#32
  let c0_i32_697 : BitVec 32 := 0#32
  let v1575 : BitVec 1 := Scalar.cmpi .sgt c64_i32_694 c0_i32_697
  let v1576 : BitVec 32 := Scalar.extui v1575
  let c0_i32_698 : BitVec 32 := 0#32
  let v1577 : BitVec 1 := Scalar.cmpi .slt c64_i32_694 c0_i32_698
  let v1578 : BitVec 32 := Scalar.extui v1577
  let v1579 : BitVec 32 := Scalar.subi v1576 v1578
  let v1580 : BitVec 1 := Scalar.cmpi .ne v1574 v1579
  let v1581 : BitVec 32 := Scalar.remsi v1568 c64_i32_694
  let c0_i32_699 : BitVec 32 := 0#32
  let v1582 : BitVec 1 := Scalar.cmpi .ne v1581 c0_i32_699
  let v1583 : BitVec 1 := Scalar.andi v1580 v1582
  let v1569 : BitVec 32 := Scalar.divsi v1568 c64_i32_694
  let c1_i32_700 : BitVec 32 := 1#32
  let v1584 : BitVec 32 := Scalar.subi v1569 c1_i32_700
  let v1585 : BitVec 32 := Scalar.select v1583 v1584 v1569
  let v1586 : BitVec 32 := Scalar.subi v1585 v1566
  let c1_i32_702 : BitVec 32 := 1#32
  let v1588 : BitVec 32 := Scalar.divsi v1586 c1_i32_702
  let v1589 : BitVec 32 := Scalar.muli v1588 c1_i32_702
  let v1590 : BitVec 32 := Scalar.addi v1566 v1589
  let c1_i32_704 : BitVec 32 := 1#32
  let arg8 : BitVec 32 := Scf.iv v1590 c1_i32_704 k0_t9
  let c64_i32_945 : BitVec 32 := 64#32
  let v2116 : BitVec 32 := Scalar.muli arg8 c64_i32_945
  let v2117 : BitVec 32 := v2116
  let v2130 : Index := Scalar.indexCast v2117
  let c512_949 : Index := 512#32
  ![v2130.toNat, 512]
def k0_off170 (i : grid0.Coords) : Fin 2 → Nat :=
  let arg0 : BitVec 32 := BitVec.ofNat 32 (i 0).val
  let v1591 : Index := Scalar.indexCast arg0
  let c132 : Index := 132#32
  ![v1591.toNat, 132]
def k0_off171 (i : grid0.Coords) : Fin 2 → Nat :=
  let arg0 : BitVec 32 := BitVec.ofNat 32 (i 0).val
  let v1602 : Index := Scalar.indexCast arg0
  let c133 : Index := 133#32
  ![v1602.toNat, 133]
def k0_off172 (i : grid0.Coords) : Fin 2 → Nat :=
  let arg0 : BitVec 32 := BitVec.ofNat 32 (i 0).val
  let v1613 : Index := Scalar.indexCast arg0
  let c134 : Index := 134#32
  ![v1613.toNat, 134]
def k0_off173 (i : grid0.Coords) : Fin 2 → Nat :=
  let arg0 : BitVec 32 := BitVec.ofNat 32 (i 0).val
  let v1624 : Index := Scalar.indexCast arg0
  let c135 : Index := 135#32
  ![v1624.toNat, 135]
def k0_off174 (i : grid0.Coords) : Fin 2 → Nat :=
  let arg0 : BitVec 32 := BitVec.ofNat 32 (i 0).val
  let v1635 : Index := Scalar.indexCast arg0
  let c136 : Index := 136#32
  ![v1635.toNat, 136]
def k0_off175 (i : grid0.Coords) : Fin 2 → Nat :=
  let arg0 : BitVec 32 := BitVec.ofNat 32 (i 0).val
  let v1646 : Index := Scalar.indexCast arg0
  let c137 : Index := 137#32
  ![v1646.toNat, 137]
def k0_off176 (i : grid0.Coords) : Fin 2 → Nat :=
  let arg0 : BitVec 32 := BitVec.ofNat 32 (i 0).val
  let v1657 : Index := Scalar.indexCast arg0
  let c138 : Index := 138#32
  ![v1657.toNat, 138]
def k0_off177 (i : grid0.Coords) : Fin 2 → Nat :=
  let arg0 : BitVec 32 := BitVec.ofNat 32 (i 0).val
  let v1668 : Index := Scalar.indexCast arg0
  let c139 : Index := 139#32
  ![v1668.toNat, 139]
def k0_off178 (i : grid0.Coords) : Fin 2 → Nat :=
  let arg0 : BitVec 32 := BitVec.ofNat 32 (i 0).val
  let v1679 : Index := Scalar.indexCast arg0
  let c140 : Index := 140#32
  ![v1679.toNat, 140]
def k0_off179 (i : grid0.Coords) : Fin 2 → Nat :=
  let arg0 : BitVec 32 := BitVec.ofNat 32 (i 0).val
  let v1690 : Index := Scalar.indexCast arg0
  let c141 : Index := 141#32
  ![v1690.toNat, 141]
def k0_off180 (i : grid0.Coords) : Fin 2 → Nat :=
  let arg0 : BitVec 32 := BitVec.ofNat 32 (i 0).val
  let v1701 : Index := Scalar.indexCast arg0
  let c142 : Index := 142#32
  ![v1701.toNat, 142]
def k0_off181 (i : grid0.Coords) : Fin 2 → Nat :=
  let arg0 : BitVec 32 := BitVec.ofNat 32 (i 0).val
  let v1712 : Index := Scalar.indexCast arg0
  let c143 : Index := 143#32
  ![v1712.toNat, 143]
def k0_off182 (i : grid0.Coords) : Fin 2 → Nat :=
  let arg0 : BitVec 32 := BitVec.ofNat 32 (i 0).val
  let v1723 : Index := Scalar.indexCast arg0
  let c144 : Index := 144#32
  ![v1723.toNat, 144]
def k0_off183 (i : grid0.Coords) : Fin 2 → Nat :=
  let arg0 : BitVec 32 := BitVec.ofNat 32 (i 0).val
  let v1734 : Index := Scalar.indexCast arg0
  let c145 : Index := 145#32
  ![v1734.toNat, 145]
def k0_off184 (i : grid0.Coords) : Fin 2 → Nat :=
  let arg0 : BitVec 32 := BitVec.ofNat 32 (i 0).val
  let v1745 : Index := Scalar.indexCast arg0
  let c146 : Index := 146#32
  ![v1745.toNat, 146]
def k0_off185 (i : grid0.Coords) : Fin 2 → Nat :=
  let arg0 : BitVec 32 := BitVec.ofNat 32 (i 0).val
  let v1756 : Index := Scalar.indexCast arg0
  let c147 : Index := 147#32
  ![v1756.toNat, 147]
def k0_off186 (i : grid0.Coords) : Fin 2 → Nat :=
  let arg0 : BitVec 32 := BitVec.ofNat 32 (i 0).val
  let v1767 : Index := Scalar.indexCast arg0
  let c148 : Index := 148#32
  ![v1767.toNat, 148]
def k0_off187 (i : grid0.Coords) : Fin 2 → Nat :=
  let arg0 : BitVec 32 := BitVec.ofNat 32 (i 0).val
  let v1778 : Index := Scalar.indexCast arg0
  let c149 : Index := 149#32
  ![v1778.toNat, 149]
def k0_off188 (i : grid0.Coords) : Fin 2 → Nat :=
  let arg0 : BitVec 32 := BitVec.ofNat 32 (i 0).val
  let v1789 : Index := Scalar.indexCast arg0
  let c150 : Index := 150#32
  ![v1789.toNat, 150]
def k0_off189 (i : grid0.Coords) : Fin 2 → Nat :=
  let arg0 : BitVec 32 := BitVec.ofNat 32 (i 0).val
  let v1800 : Index := Scalar.indexCast arg0
  let c151 : Index := 151#32
  ![v1800.toNat, 151]
def k0_off190 (i : grid0.Coords) : Fin 2 → Nat :=
  let arg0 : BitVec 32 := BitVec.ofNat 32 (i 0).val
  let v1811 : Index := Scalar.indexCast arg0
  let c152 : Index := 152#32
  ![v1811.toNat, 152]
def k0_off191 (i : grid0.Coords) : Fin 2 → Nat :=
  let arg0 : BitVec 32 := BitVec.ofNat 32 (i 0).val
  let v1822 : Index := Scalar.indexCast arg0
  let c153 : Index := 153#32
  ![v1822.toNat, 153]
def k0_off192 (i : grid0.Coords) : Fin 2 → Nat :=
  let arg0 : BitVec 32 := BitVec.ofNat 32 (i 0).val
  let v1833 : Index := Scalar.indexCast arg0
  let c154 : Index := 154#32
  ![v1833.toNat, 154]
def k0_off193 (i : grid0.Coords) : Fin 2 → Nat :=
  let arg0 : BitVec 32 := BitVec.ofNat 32 (i 0).val
  let v1844 : Index := Scalar.indexCast arg0
  let c155 : Index := 155#32
  ![v1844.toNat, 155]
def k0_off194 (i : grid0.Coords) : Fin 2 → Nat :=
  let arg0 : BitVec 32 := BitVec.ofNat 32 (i 0).val
  let v1855 : Index := Scalar.indexCast arg0
  let c156 : Index := 156#32
  ![v1855.toNat, 156]
def k0_off195 (i : grid0.Coords) : Fin 2 → Nat :=
  let arg0 : BitVec 32 := BitVec.ofNat 32 (i 0).val
  let v1866 : Index := Scalar.indexCast arg0
  let c157 : Index := 157#32
  ![v1866.toNat, 157]
def k0_off196 (i : grid0.Coords) : Fin 2 → Nat :=
  let arg0 : BitVec 32 := BitVec.ofNat 32 (i 0).val
  let v1877 : Index := Scalar.indexCast arg0
  let c158 : Index := 158#32
  ![v1877.toNat, 158]
def k0_off197 (i : grid0.Coords) : Fin 2 → Nat :=
  let arg0 : BitVec 32 := BitVec.ofNat 32 (i 0).val
  let v1888 : Index := Scalar.indexCast arg0
  let c159 : Index := 159#32
  ![v1888.toNat, 159]
def k0_off198 (i : grid0.Coords) : Fin 2 → Nat :=
  let arg0 : BitVec 32 := BitVec.ofNat 32 (i 0).val
  let v1899 : Index := Scalar.indexCast arg0
  let c160 : Index := 160#32
  ![v1899.toNat, 160]
def k0_off199 (i : grid0.Coords) : Fin 2 → Nat :=
  let arg0 : BitVec 32 := BitVec.ofNat 32 (i 0).val
  let v1910 : Index := Scalar.indexCast arg0
  let c161 : Index := 161#32
  ![v1910.toNat, 161]
def k0_off200 (i : grid0.Coords) : Fin 2 → Nat :=
  let arg0 : BitVec 32 := BitVec.ofNat 32 (i 0).val
  let v1921 : Index := Scalar.indexCast arg0
  let c162 : Index := 162#32
  ![v1921.toNat, 162]
def k0_off201 (i : grid0.Coords) : Fin 2 → Nat :=
  let arg0 : BitVec 32 := BitVec.ofNat 32 (i 0).val
  let v1932 : Index := Scalar.indexCast arg0
  let c163 : Index := 163#32
  ![v1932.toNat, 163]
def k0_off202 (i : grid0.Coords) : Fin 2 → Nat :=
  let arg0 : BitVec 32 := BitVec.ofNat 32 (i 0).val
  let v1943 : Index := Scalar.indexCast arg0
  let c164 : Index := 164#32
  ![v1943.toNat, 164]
def k0_off203 (i : grid0.Coords) : Fin 2 → Nat :=
  let arg0 : BitVec 32 := BitVec.ofNat 32 (i 0).val
  let v1954 : Index := Scalar.indexCast arg0
  let c165 : Index := 165#32
  ![v1954.toNat, 165]
def k0_off204 (i : grid0.Coords) : Fin 2 → Nat :=
  let arg0 : BitVec 32 := BitVec.ofNat 32 (i 0).val
  let v1965 : Index := Scalar.indexCast arg0
  let c166 : Index := 166#32
  ![v1965.toNat, 166]
def k0_off205 (i : grid0.Coords) : Fin 2 → Nat :=
  let arg0 : BitVec 32 := BitVec.ofNat 32 (i 0).val
  let v1976 : Index := Scalar.indexCast arg0
  let c167 : Index := 167#32
  ![v1976.toNat, 167]
def k0_off206 (i : grid0.Coords) : Fin 2 → Nat :=
  let arg0 : BitVec 32 := BitVec.ofNat 32 (i 0).val
  let v1987 : Index := Scalar.indexCast arg0
  let c168 : Index := 168#32
  ![v1987.toNat, 168]
def k0_off207 (i : grid0.Coords) : Fin 2 → Nat :=
  let arg0 : BitVec 32 := BitVec.ofNat 32 (i 0).val
  let v1998 : Index := Scalar.indexCast arg0
  let c169 : Index := 169#32
  ![v1998.toNat, 169]
def k0_off208 (i : grid0.Coords) : Fin 2 → Nat :=
  let arg0 : BitVec 32 := BitVec.ofNat 32 (i 0).val
  let v2009 : Index := Scalar.indexCast arg0
  let c170 : Index := 170#32
  ![v2009.toNat, 170]
def k0_off209 (i : grid0.Coords) : Fin 2 → Nat :=
  let arg0 : BitVec 32 := BitVec.ofNat 32 (i 0).val
  let v2020 : Index := Scalar.indexCast arg0
  let c171 : Index := 171#32
  ![v2020.toNat, 171]
def k0_off210 (i : grid0.Coords) : Fin 2 → Nat :=
  let arg0 : BitVec 32 := BitVec.ofNat 32 (i 0).val
  let v2031 : Index := Scalar.indexCast arg0
  let c172 : Index := 172#32
  ![v2031.toNat, 172]
def k0_off211 (i : grid0.Coords) : Fin 2 → Nat :=
  let arg0 : BitVec 32 := BitVec.ofNat 32 (i 0).val
  let v2042 : Index := Scalar.indexCast arg0
  let c173 : Index := 173#32
  ![v2042.toNat, 173]
def k0_off212 (i : grid0.Coords) : Fin 2 → Nat :=
  let arg0 : BitVec 32 := BitVec.ofNat 32 (i 0).val
  let v2053 : Index := Scalar.indexCast arg0
  let c174 : Index := 174#32
  ![v2053.toNat, 174]
def k0_off213 (i : grid0.Coords) : Fin 2 → Nat :=
  let arg0 : BitVec 32 := BitVec.ofNat 32 (i 0).val
  let v2064 : Index := Scalar.indexCast arg0
  let c175 : Index := 175#32
  ![v2064.toNat, 175]
@[reducible] def k0_t10_loop (v9 : BitVec 32) (v11 : BitVec 32) : Scf.Loop 32 :=
  let c0_i32_926 : BitVec 32 := 0#32
  let v2076 : BitVec 1 := Scalar.cmpi .sgt v9 c0_i32_926
  let v2077 : BitVec 32 := Scalar.extui v2076
  let c0_i32_927 : BitVec 32 := 0#32
  let v2078 : BitVec 1 := Scalar.cmpi .slt v9 c0_i32_927
  let v2079 : BitVec 32 := Scalar.extui v2078
  let v2080 : BitVec 32 := Scalar.subi v2077 v2079
  let c64_i32_925 : BitVec 32 := 64#32
  let c0_i32_928 : BitVec 32 := 0#32
  let v2081 : BitVec 1 := Scalar.cmpi .sgt c64_i32_925 c0_i32_928
  let v2082 : BitVec 32 := Scalar.extui v2081
  let c0_i32_929 : BitVec 32 := 0#32
  let v2083 : BitVec 1 := Scalar.cmpi .slt c64_i32_925 c0_i32_929
  let v2084 : BitVec 32 := Scalar.extui v2083
  let v2085 : BitVec 32 := Scalar.subi v2082 v2084
  let v2086 : BitVec 1 := Scalar.cmpi .ne v2080 v2085
  let v2087 : BitVec 32 := Scalar.remsi v9 c64_i32_925
  let c0_i32_930 : BitVec 32 := 0#32
  let v2088 : BitVec 1 := Scalar.cmpi .ne v2087 c0_i32_930
  let v2089 : BitVec 1 := Scalar.andi v2086 v2088
  let v2075 : BitVec 32 := Scalar.divsi v9 c64_i32_925
  let c1_i32_931 : BitVec 32 := 1#32
  let v2090 : BitVec 32 := Scalar.subi v2075 c1_i32_931
  let v2091 : BitVec 32 := Scalar.select v2089 v2090 v2075
  let v12 : BitVec 32 := Scalar.addi v9 v11
  let c64_i32_932 : BitVec 32 := 64#32
  let v2092 : BitVec 32 := Scalar.addi v12 c64_i32_932
  let c1_i32_933 : BitVec 32 := 1#32
  let v2093 : BitVec 32 := Scalar.subi v2092 c1_i32_933
  let c0_i32_935 : BitVec 32 := 0#32
  let v2095 : BitVec 1 := Scalar.cmpi .sgt v2093 c0_i32_935
  let v2096 : BitVec 32 := Scalar.extui v2095
  let c0_i32_936 : BitVec 32 := 0#32
  let v2097 : BitVec 1 := Scalar.cmpi .slt v2093 c0_i32_936
  let v2098 : BitVec 32 := Scalar.extui v2097
  let v2099 : BitVec 32 := Scalar.subi v2096 v2098
  let c64_i32_934 : BitVec 32 := 64#32
  let c0_i32_937 : BitVec 32 := 0#32
  let v2100 : BitVec 1 := Scalar.cmpi .sgt c64_i32_934 c0_i32_937
  let v2101 : BitVec 32 := Scalar.extui v2100
  let c0_i32_938 : BitVec 32 := 0#32
  let v2102 : BitVec 1 := Scalar.cmpi .slt c64_i32_934 c0_i32_938
  let v2103 : BitVec 32 := Scalar.extui v2102
  let v2104 : BitVec 32 := Scalar.subi v2101 v2103
  let v2105 : BitVec 1 := Scalar.cmpi .ne v2099 v2104
  let v2106 : BitVec 32 := Scalar.remsi v2093 c64_i32_934
  let c0_i32_939 : BitVec 32 := 0#32
  let v2107 : BitVec 1 := Scalar.cmpi .ne v2106 c0_i32_939
  let v2108 : BitVec 1 := Scalar.andi v2105 v2107
  let v2094 : BitVec 32 := Scalar.divsi v2093 c64_i32_934
  let c1_i32_940 : BitVec 32 := 1#32
  let v2109 : BitVec 32 := Scalar.subi v2094 c1_i32_940
  let v2110 : BitVec 32 := Scalar.select v2108 v2109 v2094
  let v2111 : BitVec 32 := Scalar.subi v2110 v2091
  let c1_i32_942 : BitVec 32 := 1#32
  let v2113 : BitVec 32 := Scalar.divsi v2111 c1_i32_942
  let v2114 : BitVec 32 := Scalar.muli v2113 c1_i32_942
  let v2115 : BitVec 32 := Scalar.addi v2091 v2114
  let c1_i32_943 : BitVec 32 := 1#32
  ⟨v2091, v2115, c1_i32_943⟩
def k0_mult8 (v9 : BitVec 32) (v11 : BitVec 32) (k0_t10 : Fin (k0_t10_loop v9 v11).trips) : BitVec 32 :=
  let c0_i32_926 : BitVec 32 := 0#32
  let v2076 : BitVec 1 := Scalar.cmpi .sgt v9 c0_i32_926
  let v2077 : BitVec 32 := Scalar.extui v2076
  let c0_i32_927 : BitVec 32 := 0#32
  let v2078 : BitVec 1 := Scalar.cmpi .slt v9 c0_i32_927
  let v2079 : BitVec 32 := Scalar.extui v2078
  let v2080 : BitVec 32 := Scalar.subi v2077 v2079
  let c64_i32_925 : BitVec 32 := 64#32
  let c0_i32_928 : BitVec 32 := 0#32
  let v2081 : BitVec 1 := Scalar.cmpi .sgt c64_i32_925 c0_i32_928
  let v2082 : BitVec 32 := Scalar.extui v2081
  let c0_i32_929 : BitVec 32 := 0#32
  let v2083 : BitVec 1 := Scalar.cmpi .slt c64_i32_925 c0_i32_929
  let v2084 : BitVec 32 := Scalar.extui v2083
  let v2085 : BitVec 32 := Scalar.subi v2082 v2084
  let v2086 : BitVec 1 := Scalar.cmpi .ne v2080 v2085
  let v2087 : BitVec 32 := Scalar.remsi v9 c64_i32_925
  let c0_i32_930 : BitVec 32 := 0#32
  let v2088 : BitVec 1 := Scalar.cmpi .ne v2087 c0_i32_930
  let v2089 : BitVec 1 := Scalar.andi v2086 v2088
  let v2075 : BitVec 32 := Scalar.divsi v9 c64_i32_925
  let c1_i32_931 : BitVec 32 := 1#32
  let v2090 : BitVec 32 := Scalar.subi v2075 c1_i32_931
  let v2091 : BitVec 32 := Scalar.select v2089 v2090 v2075
  let c1_i32_943 : BitVec 32 := 1#32
  let arg8 : BitVec 32 := Scf.iv v2091 c1_i32_943 k0_t10
  let c64_i32_945 : BitVec 32 := 64#32
  let v2116 : BitVec 32 := Scalar.muli arg8 c64_i32_945
  v2116
def k0_off214 (v9 : BitVec 32) (v11 : BitVec 32) (k0_t10 : Fin (k0_t10_loop v9 v11).trips) : Fin 2 → Nat :=
  let c0_i32_926 : BitVec 32 := 0#32
  let v2076 : BitVec 1 := Scalar.cmpi .sgt v9 c0_i32_926
  let v2077 : BitVec 32 := Scalar.extui v2076
  let c0_i32_927 : BitVec 32 := 0#32
  let v2078 : BitVec 1 := Scalar.cmpi .slt v9 c0_i32_927
  let v2079 : BitVec 32 := Scalar.extui v2078
  let v2080 : BitVec 32 := Scalar.subi v2077 v2079
  let c64_i32_925 : BitVec 32 := 64#32
  let c0_i32_928 : BitVec 32 := 0#32
  let v2081 : BitVec 1 := Scalar.cmpi .sgt c64_i32_925 c0_i32_928
  let v2082 : BitVec 32 := Scalar.extui v2081
  let c0_i32_929 : BitVec 32 := 0#32
  let v2083 : BitVec 1 := Scalar.cmpi .slt c64_i32_925 c0_i32_929
  let v2084 : BitVec 32 := Scalar.extui v2083
  let v2085 : BitVec 32 := Scalar.subi v2082 v2084
  let v2086 : BitVec 1 := Scalar.cmpi .ne v2080 v2085
  let v2087 : BitVec 32 := Scalar.remsi v9 c64_i32_925
  let c0_i32_930 : BitVec 32 := 0#32
  let v2088 : BitVec 1 := Scalar.cmpi .ne v2087 c0_i32_930
  let v2089 : BitVec 1 := Scalar.andi v2086 v2088
  let v2075 : BitVec 32 := Scalar.divsi v9 c64_i32_925
  let c1_i32_931 : BitVec 32 := 1#32
  let v2090 : BitVec 32 := Scalar.subi v2075 c1_i32_931
  let v2091 : BitVec 32 := Scalar.select v2089 v2090 v2075
  let c1_i32_943 : BitVec 32 := 1#32
  let arg8 : BitVec 32 := Scf.iv v2091 c1_i32_943 k0_t10
  let c64_i32_945 : BitVec 32 := 64#32
  let v2116 : BitVec 32 := Scalar.muli arg8 c64_i32_945
  let v2117 : BitVec 32 := v2116
  let v2118 : Index := Scalar.indexCast v2117
  let c0_946 : Index := 0#32
  ![v2118.toNat, 0]
def k0_off215 (v9 : BitVec 32) (v11 : BitVec 32) (k0_t10 : Fin (k0_t10_loop v9 v11).trips) : Fin 2 → Nat :=
  let c0_i32_926 : BitVec 32 := 0#32
  let v2076 : BitVec 1 := Scalar.cmpi .sgt v9 c0_i32_926
  let v2077 : BitVec 32 := Scalar.extui v2076
  let c0_i32_927 : BitVec 32 := 0#32
  let v2078 : BitVec 1 := Scalar.cmpi .slt v9 c0_i32_927
  let v2079 : BitVec 32 := Scalar.extui v2078
  let v2080 : BitVec 32 := Scalar.subi v2077 v2079
  let c64_i32_925 : BitVec 32 := 64#32
  let c0_i32_928 : BitVec 32 := 0#32
  let v2081 : BitVec 1 := Scalar.cmpi .sgt c64_i32_925 c0_i32_928
  let v2082 : BitVec 32 := Scalar.extui v2081
  let c0_i32_929 : BitVec 32 := 0#32
  let v2083 : BitVec 1 := Scalar.cmpi .slt c64_i32_925 c0_i32_929
  let v2084 : BitVec 32 := Scalar.extui v2083
  let v2085 : BitVec 32 := Scalar.subi v2082 v2084
  let v2086 : BitVec 1 := Scalar.cmpi .ne v2080 v2085
  let v2087 : BitVec 32 := Scalar.remsi v9 c64_i32_925
  let c0_i32_930 : BitVec 32 := 0#32
  let v2088 : BitVec 1 := Scalar.cmpi .ne v2087 c0_i32_930
  let v2089 : BitVec 1 := Scalar.andi v2086 v2088
  let v2075 : BitVec 32 := Scalar.divsi v9 c64_i32_925
  let c1_i32_931 : BitVec 32 := 1#32
  let v2090 : BitVec 32 := Scalar.subi v2075 c1_i32_931
  let v2091 : BitVec 32 := Scalar.select v2089 v2090 v2075
  let c1_i32_943 : BitVec 32 := 1#32
  let arg8 : BitVec 32 := Scf.iv v2091 c1_i32_943 k0_t10
  let c64_i32_945 : BitVec 32 := 64#32
  let v2116 : BitVec 32 := Scalar.muli arg8 c64_i32_945
  let v2117 : BitVec 32 := v2116
  let v2130 : Index := Scalar.indexCast v2117
  let c768_949 : Index := 768#32
  ![v2130.toNat, 768]
@[reducible] def k0_t11_loop (v9 : BitVec 32) (v11 : BitVec 32) : Scf.Loop 32 :=
  let c0_i32_926 : BitVec 32 := 0#32
  let v2076 : BitVec 1 := Scalar.cmpi .sgt v9 c0_i32_926
  let v2077 : BitVec 32 := Scalar.extui v2076
  let c0_i32_927 : BitVec 32 := 0#32
  let v2078 : BitVec 1 := Scalar.cmpi .slt v9 c0_i32_927
  let v2079 : BitVec 32 := Scalar.extui v2078
  let v2080 : BitVec 32 := Scalar.subi v2077 v2079
  let c64_i32_925 : BitVec 32 := 64#32
  let c0_i32_928 : BitVec 32 := 0#32
  let v2081 : BitVec 1 := Scalar.cmpi .sgt c64_i32_925 c0_i32_928
  let v2082 : BitVec 32 := Scalar.extui v2081
  let c0_i32_929 : BitVec 32 := 0#32
  let v2083 : BitVec 1 := Scalar.cmpi .slt c64_i32_925 c0_i32_929
  let v2084 : BitVec 32 := Scalar.extui v2083
  let v2085 : BitVec 32 := Scalar.subi v2082 v2084
  let v2086 : BitVec 1 := Scalar.cmpi .ne v2080 v2085
  let v2087 : BitVec 32 := Scalar.remsi v9 c64_i32_925
  let c0_i32_930 : BitVec 32 := 0#32
  let v2088 : BitVec 1 := Scalar.cmpi .ne v2087 c0_i32_930
  let v2089 : BitVec 1 := Scalar.andi v2086 v2088
  let v2075 : BitVec 32 := Scalar.divsi v9 c64_i32_925
  let c1_i32_931 : BitVec 32 := 1#32
  let v2090 : BitVec 32 := Scalar.subi v2075 c1_i32_931
  let v2091 : BitVec 32 := Scalar.select v2089 v2090 v2075
  let v12 : BitVec 32 := Scalar.addi v9 v11
  let c64_i32_932 : BitVec 32 := 64#32
  let v2092 : BitVec 32 := Scalar.addi v12 c64_i32_932
  let c1_i32_933 : BitVec 32 := 1#32
  let v2093 : BitVec 32 := Scalar.subi v2092 c1_i32_933
  let c0_i32_935 : BitVec 32 := 0#32
  let v2095 : BitVec 1 := Scalar.cmpi .sgt v2093 c0_i32_935
  let v2096 : BitVec 32 := Scalar.extui v2095
  let c0_i32_936 : BitVec 32 := 0#32
  let v2097 : BitVec 1 := Scalar.cmpi .slt v2093 c0_i32_936
  let v2098 : BitVec 32 := Scalar.extui v2097
  let v2099 : BitVec 32 := Scalar.subi v2096 v2098
  let c64_i32_934 : BitVec 32 := 64#32
  let c0_i32_937 : BitVec 32 := 0#32
  let v2100 : BitVec 1 := Scalar.cmpi .sgt c64_i32_934 c0_i32_937
  let v2101 : BitVec 32 := Scalar.extui v2100
  let c0_i32_938 : BitVec 32 := 0#32
  let v2102 : BitVec 1 := Scalar.cmpi .slt c64_i32_934 c0_i32_938
  let v2103 : BitVec 32 := Scalar.extui v2102
  let v2104 : BitVec 32 := Scalar.subi v2101 v2103
  let v2105 : BitVec 1 := Scalar.cmpi .ne v2099 v2104
  let v2106 : BitVec 32 := Scalar.remsi v2093 c64_i32_934
  let c0_i32_939 : BitVec 32 := 0#32
  let v2107 : BitVec 1 := Scalar.cmpi .ne v2106 c0_i32_939
  let v2108 : BitVec 1 := Scalar.andi v2105 v2107
  let v2094 : BitVec 32 := Scalar.divsi v2093 c64_i32_934
  let c1_i32_940 : BitVec 32 := 1#32
  let v2109 : BitVec 32 := Scalar.subi v2094 c1_i32_940
  let v2110 : BitVec 32 := Scalar.select v2108 v2109 v2094
  let v2111 : BitVec 32 := Scalar.subi v2110 v2091
  let c1_i32_942 : BitVec 32 := 1#32
  let v2113 : BitVec 32 := Scalar.divsi v2111 c1_i32_942
  let v2114 : BitVec 32 := Scalar.muli v2113 c1_i32_942
  let v2115 : BitVec 32 := Scalar.addi v2091 v2114
  let v2112 : BitVec 32 := Scalar.addi v2091 v2111
  let c1_i32_944 : BitVec 32 := 1#32
  ⟨v2115, v2112, c1_i32_944⟩
def k0_mult9 (v9 : BitVec 32) (v11 : BitVec 32) (k0_t11 : Fin (k0_t11_loop v9 v11).trips) : BitVec 32 :=
  let c0_i32_926 : BitVec 32 := 0#32
  let v2076 : BitVec 1 := Scalar.cmpi .sgt v9 c0_i32_926
  let v2077 : BitVec 32 := Scalar.extui v2076
  let c0_i32_927 : BitVec 32 := 0#32
  let v2078 : BitVec 1 := Scalar.cmpi .slt v9 c0_i32_927
  let v2079 : BitVec 32 := Scalar.extui v2078
  let v2080 : BitVec 32 := Scalar.subi v2077 v2079
  let c64_i32_925 : BitVec 32 := 64#32
  let c0_i32_928 : BitVec 32 := 0#32
  let v2081 : BitVec 1 := Scalar.cmpi .sgt c64_i32_925 c0_i32_928
  let v2082 : BitVec 32 := Scalar.extui v2081
  let c0_i32_929 : BitVec 32 := 0#32
  let v2083 : BitVec 1 := Scalar.cmpi .slt c64_i32_925 c0_i32_929
  let v2084 : BitVec 32 := Scalar.extui v2083
  let v2085 : BitVec 32 := Scalar.subi v2082 v2084
  let v2086 : BitVec 1 := Scalar.cmpi .ne v2080 v2085
  let v2087 : BitVec 32 := Scalar.remsi v9 c64_i32_925
  let c0_i32_930 : BitVec 32 := 0#32
  let v2088 : BitVec 1 := Scalar.cmpi .ne v2087 c0_i32_930
  let v2089 : BitVec 1 := Scalar.andi v2086 v2088
  let v2075 : BitVec 32 := Scalar.divsi v9 c64_i32_925
  let c1_i32_931 : BitVec 32 := 1#32
  let v2090 : BitVec 32 := Scalar.subi v2075 c1_i32_931
  let v2091 : BitVec 32 := Scalar.select v2089 v2090 v2075
  let v12 : BitVec 32 := Scalar.addi v9 v11
  let c64_i32_932 : BitVec 32 := 64#32
  let v2092 : BitVec 32 := Scalar.addi v12 c64_i32_932
  let c1_i32_933 : BitVec 32 := 1#32
  let v2093 : BitVec 32 := Scalar.subi v2092 c1_i32_933
  let c0_i32_935 : BitVec 32 := 0#32
  let v2095 : BitVec 1 := Scalar.cmpi .sgt v2093 c0_i32_935
  let v2096 : BitVec 32 := Scalar.extui v2095
  let c0_i32_936 : BitVec 32 := 0#32
  let v2097 : BitVec 1 := Scalar.cmpi .slt v2093 c0_i32_936
  let v2098 : BitVec 32 := Scalar.extui v2097
  let v2099 : BitVec 32 := Scalar.subi v2096 v2098
  let c64_i32_934 : BitVec 32 := 64#32
  let c0_i32_937 : BitVec 32 := 0#32
  let v2100 : BitVec 1 := Scalar.cmpi .sgt c64_i32_934 c0_i32_937
  let v2101 : BitVec 32 := Scalar.extui v2100
  let c0_i32_938 : BitVec 32 := 0#32
  let v2102 : BitVec 1 := Scalar.cmpi .slt c64_i32_934 c0_i32_938
  let v2103 : BitVec 32 := Scalar.extui v2102
  let v2104 : BitVec 32 := Scalar.subi v2101 v2103
  let v2105 : BitVec 1 := Scalar.cmpi .ne v2099 v2104
  let v2106 : BitVec 32 := Scalar.remsi v2093 c64_i32_934
  let c0_i32_939 : BitVec 32 := 0#32
  let v2107 : BitVec 1 := Scalar.cmpi .ne v2106 c0_i32_939
  let v2108 : BitVec 1 := Scalar.andi v2105 v2107
  let v2094 : BitVec 32 := Scalar.divsi v2093 c64_i32_934
  let c1_i32_940 : BitVec 32 := 1#32
  let v2109 : BitVec 32 := Scalar.subi v2094 c1_i32_940
  let v2110 : BitVec 32 := Scalar.select v2108 v2109 v2094
  let v2111 : BitVec 32 := Scalar.subi v2110 v2091
  let c1_i32_942 : BitVec 32 := 1#32
  let v2113 : BitVec 32 := Scalar.divsi v2111 c1_i32_942
  let v2114 : BitVec 32 := Scalar.muli v2113 c1_i32_942
  let v2115 : BitVec 32 := Scalar.addi v2091 v2114
  let c1_i32_944 : BitVec 32 := 1#32
  let arg8 : BitVec 32 := Scf.iv v2115 c1_i32_944 k0_t11
  let c64_i32_945 : BitVec 32 := 64#32
  let v2116 : BitVec 32 := Scalar.muli arg8 c64_i32_945
  v2116
def k0_off216 (v9 : BitVec 32) (v11 : BitVec 32) (k0_t11 : Fin (k0_t11_loop v9 v11).trips) : Fin 2 → Nat :=
  let c0_i32_926 : BitVec 32 := 0#32
  let v2076 : BitVec 1 := Scalar.cmpi .sgt v9 c0_i32_926
  let v2077 : BitVec 32 := Scalar.extui v2076
  let c0_i32_927 : BitVec 32 := 0#32
  let v2078 : BitVec 1 := Scalar.cmpi .slt v9 c0_i32_927
  let v2079 : BitVec 32 := Scalar.extui v2078
  let v2080 : BitVec 32 := Scalar.subi v2077 v2079
  let c64_i32_925 : BitVec 32 := 64#32
  let c0_i32_928 : BitVec 32 := 0#32
  let v2081 : BitVec 1 := Scalar.cmpi .sgt c64_i32_925 c0_i32_928
  let v2082 : BitVec 32 := Scalar.extui v2081
  let c0_i32_929 : BitVec 32 := 0#32
  let v2083 : BitVec 1 := Scalar.cmpi .slt c64_i32_925 c0_i32_929
  let v2084 : BitVec 32 := Scalar.extui v2083
  let v2085 : BitVec 32 := Scalar.subi v2082 v2084
  let v2086 : BitVec 1 := Scalar.cmpi .ne v2080 v2085
  let v2087 : BitVec 32 := Scalar.remsi v9 c64_i32_925
  let c0_i32_930 : BitVec 32 := 0#32
  let v2088 : BitVec 1 := Scalar.cmpi .ne v2087 c0_i32_930
  let v2089 : BitVec 1 := Scalar.andi v2086 v2088
  let v2075 : BitVec 32 := Scalar.divsi v9 c64_i32_925
  let c1_i32_931 : BitVec 32 := 1#32
  let v2090 : BitVec 32 := Scalar.subi v2075 c1_i32_931
  let v2091 : BitVec 32 := Scalar.select v2089 v2090 v2075
  let v12 : BitVec 32 := Scalar.addi v9 v11
  let c64_i32_932 : BitVec 32 := 64#32
  let v2092 : BitVec 32 := Scalar.addi v12 c64_i32_932
  let c1_i32_933 : BitVec 32 := 1#32
  let v2093 : BitVec 32 := Scalar.subi v2092 c1_i32_933
  let c0_i32_935 : BitVec 32 := 0#32
  let v2095 : BitVec 1 := Scalar.cmpi .sgt v2093 c0_i32_935
  let v2096 : BitVec 32 := Scalar.extui v2095
  let c0_i32_936 : BitVec 32 := 0#32
  let v2097 : BitVec 1 := Scalar.cmpi .slt v2093 c0_i32_936
  let v2098 : BitVec 32 := Scalar.extui v2097
  let v2099 : BitVec 32 := Scalar.subi v2096 v2098
  let c64_i32_934 : BitVec 32 := 64#32
  let c0_i32_937 : BitVec 32 := 0#32
  let v2100 : BitVec 1 := Scalar.cmpi .sgt c64_i32_934 c0_i32_937
  let v2101 : BitVec 32 := Scalar.extui v2100
  let c0_i32_938 : BitVec 32 := 0#32
  let v2102 : BitVec 1 := Scalar.cmpi .slt c64_i32_934 c0_i32_938
  let v2103 : BitVec 32 := Scalar.extui v2102
  let v2104 : BitVec 32 := Scalar.subi v2101 v2103
  let v2105 : BitVec 1 := Scalar.cmpi .ne v2099 v2104
  let v2106 : BitVec 32 := Scalar.remsi v2093 c64_i32_934
  let c0_i32_939 : BitVec 32 := 0#32
  let v2107 : BitVec 1 := Scalar.cmpi .ne v2106 c0_i32_939
  let v2108 : BitVec 1 := Scalar.andi v2105 v2107
  let v2094 : BitVec 32 := Scalar.divsi v2093 c64_i32_934
  let c1_i32_940 : BitVec 32 := 1#32
  let v2109 : BitVec 32 := Scalar.subi v2094 c1_i32_940
  let v2110 : BitVec 32 := Scalar.select v2108 v2109 v2094
  let v2111 : BitVec 32 := Scalar.subi v2110 v2091
  let c1_i32_942 : BitVec 32 := 1#32
  let v2113 : BitVec 32 := Scalar.divsi v2111 c1_i32_942
  let v2114 : BitVec 32 := Scalar.muli v2113 c1_i32_942
  let v2115 : BitVec 32 := Scalar.addi v2091 v2114
  let c1_i32_944 : BitVec 32 := 1#32
  let arg8 : BitVec 32 := Scf.iv v2115 c1_i32_944 k0_t11
  let c64_i32_945 : BitVec 32 := 64#32
  let v2116 : BitVec 32 := Scalar.muli arg8 c64_i32_945
  let v2117 : BitVec 32 := v2116
  let v2118 : Index := Scalar.indexCast v2117
  let c0_946 : Index := 0#32
  ![v2118.toNat, 0]
def k0_off217 (v9 : BitVec 32) (v11 : BitVec 32) (k0_t11 : Fin (k0_t11_loop v9 v11).trips) : Fin 2 → Nat :=
  let c0_i32_926 : BitVec 32 := 0#32
  let v2076 : BitVec 1 := Scalar.cmpi .sgt v9 c0_i32_926
  let v2077 : BitVec 32 := Scalar.extui v2076
  let c0_i32_927 : BitVec 32 := 0#32
  let v2078 : BitVec 1 := Scalar.cmpi .slt v9 c0_i32_927
  let v2079 : BitVec 32 := Scalar.extui v2078
  let v2080 : BitVec 32 := Scalar.subi v2077 v2079
  let c64_i32_925 : BitVec 32 := 64#32
  let c0_i32_928 : BitVec 32 := 0#32
  let v2081 : BitVec 1 := Scalar.cmpi .sgt c64_i32_925 c0_i32_928
  let v2082 : BitVec 32 := Scalar.extui v2081
  let c0_i32_929 : BitVec 32 := 0#32
  let v2083 : BitVec 1 := Scalar.cmpi .slt c64_i32_925 c0_i32_929
  let v2084 : BitVec 32 := Scalar.extui v2083
  let v2085 : BitVec 32 := Scalar.subi v2082 v2084
  let v2086 : BitVec 1 := Scalar.cmpi .ne v2080 v2085
  let v2087 : BitVec 32 := Scalar.remsi v9 c64_i32_925
  let c0_i32_930 : BitVec 32 := 0#32
  let v2088 : BitVec 1 := Scalar.cmpi .ne v2087 c0_i32_930
  let v2089 : BitVec 1 := Scalar.andi v2086 v2088
  let v2075 : BitVec 32 := Scalar.divsi v9 c64_i32_925
  let c1_i32_931 : BitVec 32 := 1#32
  let v2090 : BitVec 32 := Scalar.subi v2075 c1_i32_931
  let v2091 : BitVec 32 := Scalar.select v2089 v2090 v2075
  let v12 : BitVec 32 := Scalar.addi v9 v11
  let c64_i32_932 : BitVec 32 := 64#32
  let v2092 : BitVec 32 := Scalar.addi v12 c64_i32_932
  let c1_i32_933 : BitVec 32 := 1#32
  let v2093 : BitVec 32 := Scalar.subi v2092 c1_i32_933
  let c0_i32_935 : BitVec 32 := 0#32
  let v2095 : BitVec 1 := Scalar.cmpi .sgt v2093 c0_i32_935
  let v2096 : BitVec 32 := Scalar.extui v2095
  let c0_i32_936 : BitVec 32 := 0#32
  let v2097 : BitVec 1 := Scalar.cmpi .slt v2093 c0_i32_936
  let v2098 : BitVec 32 := Scalar.extui v2097
  let v2099 : BitVec 32 := Scalar.subi v2096 v2098
  let c64_i32_934 : BitVec 32 := 64#32
  let c0_i32_937 : BitVec 32 := 0#32
  let v2100 : BitVec 1 := Scalar.cmpi .sgt c64_i32_934 c0_i32_937
  let v2101 : BitVec 32 := Scalar.extui v2100
  let c0_i32_938 : BitVec 32 := 0#32
  let v2102 : BitVec 1 := Scalar.cmpi .slt c64_i32_934 c0_i32_938
  let v2103 : BitVec 32 := Scalar.extui v2102
  let v2104 : BitVec 32 := Scalar.subi v2101 v2103
  let v2105 : BitVec 1 := Scalar.cmpi .ne v2099 v2104
  let v2106 : BitVec 32 := Scalar.remsi v2093 c64_i32_934
  let c0_i32_939 : BitVec 32 := 0#32
  let v2107 : BitVec 1 := Scalar.cmpi .ne v2106 c0_i32_939
  let v2108 : BitVec 1 := Scalar.andi v2105 v2107
  let v2094 : BitVec 32 := Scalar.divsi v2093 c64_i32_934
  let c1_i32_940 : BitVec 32 := 1#32
  let v2109 : BitVec 32 := Scalar.subi v2094 c1_i32_940
  let v2110 : BitVec 32 := Scalar.select v2108 v2109 v2094
  let v2111 : BitVec 32 := Scalar.subi v2110 v2091
  let c1_i32_942 : BitVec 32 := 1#32
  let v2113 : BitVec 32 := Scalar.divsi v2111 c1_i32_942
  let v2114 : BitVec 32 := Scalar.muli v2113 c1_i32_942
  let v2115 : BitVec 32 := Scalar.addi v2091 v2114
  let c1_i32_944 : BitVec 32 := 1#32
  let arg8 : BitVec 32 := Scf.iv v2115 c1_i32_944 k0_t11
  let c64_i32_945 : BitVec 32 := 64#32
  let v2116 : BitVec 32 := Scalar.muli arg8 c64_i32_945
  let v2117 : BitVec 32 := v2116
  let v2130 : Index := Scalar.indexCast v2117
  let c768_949 : Index := 768#32
  ![v2130.toNat, 768]

def k0_chk1_0 (v9 : BitVec 32) (v11 : BitVec 32) : Prop :=
  (∀ (k0_h2 : k0_cond2 v9 v11 = 1#1), (k0_t4_loop v9 v11).OK) ∧
  (∀ k0_t4 : Fin (k0_t4_loop v9 v11).trips, ∀ (k0_h2 : k0_cond2 v9 v11 = 1#1), 64 ∣ (k0_mult2 v9 v11 k0_t4).toNat) ∧
  (∀ k0_t4 : Fin (k0_t4_loop v9 v11).trips, ∀ (k0_h2 : k0_cond2 v9 v11 = 1#1), ∀ a, (k0_off70 v9 v11 k0_t4) a + S64x2816.size a ≤ S768x2816.size a) ∧
  (∀ k0_t4 : Fin (k0_t4_loop v9 v11).trips, ∀ (k0_h2 : k0_cond2 v9 v11 = 1#1), ∀ a, (k0_off71 v9 v11 k0_t4) a + S64x256.size a ≤ S768x1024.size a) ∧
  (∀ k0_t4 : Fin (k0_t4_loop v9 v11).trips, ∀ (k0_h2 : k0_cond2 v9 v11 = 1#1), ∀ (hinb : ∀ a, (k0_off71 v9 v11 k0_t4) a + S64x256.size a ≤ S768x1024.size a), (Rect.unit (s := S768x1024) (k0_off71 v9 v11 k0_t4) S64x256.size hinb).PackedRows (EltTy.packing .bf16)) ∧
  (∀ (k0_h2 : k0_cond2 v9 v11 = 1#1), (k0_t5_loop v9 v11).OK) ∧
  (∀ k0_t5 : Fin (k0_t5_loop v9 v11).trips, ∀ (k0_h2 : k0_cond2 v9 v11 = 1#1), 64 ∣ (k0_mult3 v9 v11 k0_t5).toNat) ∧
  (∀ k0_t5 : Fin (k0_t5_loop v9 v11).trips, ∀ (k0_h2 : k0_cond2 v9 v11 = 1#1), ∀ a, (k0_off72 v9 v11 k0_t5) a + S64x2816.size a ≤ S768x2816.size a) ∧
  (∀ k0_t5 : Fin (k0_t5_loop v9 v11).trips, ∀ (k0_h2 : k0_cond2 v9 v11 = 1#1), ∀ a, (k0_off73 v9 v11 k0_t5) a + S64x256.size a ≤ S768x1024.size a) ∧
  (∀ k0_t5 : Fin (k0_t5_loop v9 v11).trips, ∀ (k0_h2 : k0_cond2 v9 v11 = 1#1), ∀ (hinb : ∀ a, (k0_off73 v9 v11 k0_t5) a + S64x256.size a ≤ S768x1024.size a), (Rect.unit (s := S768x1024) (k0_off73 v9 v11 k0_t5) S64x256.size hinb).PackedRows (EltTy.packing .bf16)) ∧
  (∀ (k0_h2 : k0_cond2 v9 v11 = 1#1), (k0_t6_loop v9 v11).OK) ∧
  (∀ k0_t6 : Fin (k0_t6_loop v9 v11).trips, ∀ (k0_h2 : k0_cond2 v9 v11 = 1#1), 64 ∣ (k0_mult4 v9 v11 k0_t6).toNat) ∧
  (∀ k0_t6 : Fin (k0_t6_loop v9 v11).trips, ∀ (k0_h2 : k0_cond2 v9 v11 = 1#1), ∀ a, (k0_off118 v9 v11 k0_t6) a + S64x2816.size a ≤ S768x2816.size a) ∧
  (∀ k0_t6 : Fin (k0_t6_loop v9 v11).trips, ∀ (k0_h2 : k0_cond2 v9 v11 = 1#1), ∀ a, (k0_off119 v9 v11 k0_t6) a + S64x256.size a ≤ S768x1024.size a) ∧
  (∀ k0_t6 : Fin (k0_t6_loop v9 v11).trips, ∀ (k0_h2 : k0_cond2 v9 v11 = 1#1), ∀ (hinb : ∀ a, (k0_off119 v9 v11 k0_t6) a + S64x256.size a ≤ S768x1024.size a), (Rect.unit (s := S768x1024) (k0_off119 v9 v11 k0_t6) S64x256.size hinb).PackedRows (EltTy.packing .bf16)) ∧
  (∀ (k0_h2 : k0_cond2 v9 v11 = 1#1), (k0_t7_loop v9 v11).OK) ∧
  (∀ k0_t7 : Fin (k0_t7_loop v9 v11).trips, ∀ (k0_h2 : k0_cond2 v9 v11 = 1#1), 64 ∣ (k0_mult5 v9 v11 k0_t7).toNat) ∧
  (∀ k0_t7 : Fin (k0_t7_loop v9 v11).trips, ∀ (k0_h2 : k0_cond2 v9 v11 = 1#1), ∀ a, (k0_off120 v9 v11 k0_t7) a + S64x2816.size a ≤ S768x2816.size a) ∧
  (∀ k0_t7 : Fin (k0_t7_loop v9 v11).trips, ∀ (k0_h2 : k0_cond2 v9 v11 = 1#1), ∀ a, (k0_off121 v9 v11 k0_t7) a + S64x256.size a ≤ S768x1024.size a) ∧
  (∀ k0_t7 : Fin (k0_t7_loop v9 v11).trips, ∀ (k0_h2 : k0_cond2 v9 v11 = 1#1), ∀ (hinb : ∀ a, (k0_off121 v9 v11 k0_t7) a + S64x256.size a ≤ S768x1024.size a), (Rect.unit (s := S768x1024) (k0_off121 v9 v11 k0_t7) S64x256.size hinb).PackedRows (EltTy.packing .bf16)) ∧
  (∀ (k0_h2 : k0_cond2 v9 v11 = 1#1), (k0_t8_loop v9 v11).OK) ∧
  (∀ k0_t8 : Fin (k0_t8_loop v9 v11).trips, ∀ (k0_h2 : k0_cond2 v9 v11 = 1#1), 64 ∣ (k0_mult6 v9 v11 k0_t8).toNat) ∧
  (∀ k0_t8 : Fin (k0_t8_loop v9 v11).trips, ∀ (k0_h2 : k0_cond2 v9 v11 = 1#1), ∀ a, (k0_off166 v9 v11 k0_t8) a + S64x2816.size a ≤ S768x2816.size a) ∧
  (∀ k0_t8 : Fin (k0_t8_loop v9 v11).trips, ∀ (k0_h2 : k0_cond2 v9 v11 = 1#1), ∀ a, (k0_off167 v9 v11 k0_t8) a + S64x256.size a ≤ S768x1024.size a) ∧
  (∀ k0_t8 : Fin (k0_t8_loop v9 v11).trips, ∀ (k0_h2 : k0_cond2 v9 v11 = 1#1), ∀ (hinb : ∀ a, (k0_off167 v9 v11 k0_t8) a + S64x256.size a ≤ S768x1024.size a), (Rect.unit (s := S768x1024) (k0_off167 v9 v11 k0_t8) S64x256.size hinb).PackedRows (EltTy.packing .bf16)) ∧
  (∀ (k0_h2 : k0_cond2 v9 v11 = 1#1), (k0_t9_loop v9 v11).OK) ∧
  (∀ k0_t9 : Fin (k0_t9_loop v9 v11).trips, ∀ (k0_h2 : k0_cond2 v9 v11 = 1#1), 64 ∣ (k0_mult7 v9 v11 k0_t9).toNat) ∧
  (∀ k0_t9 : Fin (k0_t9_loop v9 v11).trips, ∀ (k0_h2 : k0_cond2 v9 v11 = 1#1), ∀ a, (k0_off168 v9 v11 k0_t9) a + S64x2816.size a ≤ S768x2816.size a) ∧
  (∀ k0_t9 : Fin (k0_t9_loop v9 v11).trips, ∀ (k0_h2 : k0_cond2 v9 v11 = 1#1), ∀ a, (k0_off169 v9 v11 k0_t9) a + S64x256.size a ≤ S768x1024.size a) ∧
  (∀ k0_t9 : Fin (k0_t9_loop v9 v11).trips, ∀ (k0_h2 : k0_cond2 v9 v11 = 1#1), ∀ (hinb : ∀ a, (k0_off169 v9 v11 k0_t9) a + S64x256.size a ≤ S768x1024.size a), (Rect.unit (s := S768x1024) (k0_off169 v9 v11 k0_t9) S64x256.size hinb).PackedRows (EltTy.packing .bf16)) ∧
  (∀ (k0_h2 : k0_cond2 v9 v11 = 1#1), (k0_t10_loop v9 v11).OK) ∧
  (∀ k0_t10 : Fin (k0_t10_loop v9 v11).trips, ∀ (k0_h2 : k0_cond2 v9 v11 = 1#1), 64 ∣ (k0_mult8 v9 v11 k0_t10).toNat)
def k0_chk1_1 (v9 : BitVec 32) (v11 : BitVec 32) : Prop :=
  (∀ k0_t10 : Fin (k0_t10_loop v9 v11).trips, ∀ (k0_h2 : k0_cond2 v9 v11 = 1#1), ∀ a, (k0_off214 v9 v11 k0_t10) a + S64x2816.size a ≤ S768x2816.size a) ∧
  (∀ k0_t10 : Fin (k0_t10_loop v9 v11).trips, ∀ (k0_h2 : k0_cond2 v9 v11 = 1#1), ∀ a, (k0_off215 v9 v11 k0_t10) a + S64x256.size a ≤ S768x1024.size a) ∧
  (∀ k0_t10 : Fin (k0_t10_loop v9 v11).trips, ∀ (k0_h2 : k0_cond2 v9 v11 = 1#1), ∀ (hinb : ∀ a, (k0_off215 v9 v11 k0_t10) a + S64x256.size a ≤ S768x1024.size a), (Rect.unit (s := S768x1024) (k0_off215 v9 v11 k0_t10) S64x256.size hinb).PackedRows (EltTy.packing .bf16)) ∧
  (∀ (k0_h2 : k0_cond2 v9 v11 = 1#1), (k0_t11_loop v9 v11).OK) ∧
  (∀ k0_t11 : Fin (k0_t11_loop v9 v11).trips, ∀ (k0_h2 : k0_cond2 v9 v11 = 1#1), 64 ∣ (k0_mult9 v9 v11 k0_t11).toNat) ∧
  (∀ k0_t11 : Fin (k0_t11_loop v9 v11).trips, ∀ (k0_h2 : k0_cond2 v9 v11 = 1#1), ∀ a, (k0_off216 v9 v11 k0_t11) a + S64x2816.size a ≤ S768x2816.size a) ∧
  (∀ k0_t11 : Fin (k0_t11_loop v9 v11).trips, ∀ (k0_h2 : k0_cond2 v9 v11 = 1#1), ∀ a, (k0_off217 v9 v11 k0_t11) a + S64x256.size a ≤ S768x1024.size a) ∧
  (∀ k0_t11 : Fin (k0_t11_loop v9 v11).trips, ∀ (k0_h2 : k0_cond2 v9 v11 = 1#1), ∀ (hinb : ∀ a, (k0_off217 v9 v11 k0_t11) a + S64x256.size a ≤ S768x1024.size a), (Rect.unit (s := S768x1024) (k0_off217 v9 v11 k0_t11) S64x256.size hinb).PackedRows (EltTy.packing .bf16))
def k0_chk1 (v9 : BitVec 32) (v11 : BitVec 32) : Prop :=
  k0_chk1_0 v9 v11 ∧
  k0_chk1_1 v9 v11
theorem k0_t4_ok : ∀ (v9 : BitVec 32) (v11 : BitVec 32) (k0_hw1 : k0_chk1 v9 v11), ∀ (k0_h2 : k0_cond2 v9 v11 = 1#1), (k0_t4_loop v9 v11).OK := fun v9 v11 k0_hw1 k0_h2 => k0_hw1.1.1 k0_h2
theorem k0_mult2_dvd : ∀ (v9 : BitVec 32) (v11 : BitVec 32) (k0_hw1 : k0_chk1 v9 v11) (k0_t4 : Fin (k0_t4_loop v9 v11).trips), ∀ (k0_h2 : k0_cond2 v9 v11 = 1#1), 64 ∣ (k0_mult2 v9 v11 k0_t4).toNat := fun v9 v11 k0_hw1 k0_t4 k0_h2 => k0_hw1.1.2.1 k0_t4 k0_h2
theorem k0_off70_inb : ∀ (v9 : BitVec 32) (v11 : BitVec 32) (k0_hw1 : k0_chk1 v9 v11) (k0_t4 : Fin (k0_t4_loop v9 v11).trips), ∀ (k0_h2 : k0_cond2 v9 v11 = 1#1), ∀ a, (k0_off70 v9 v11 k0_t4) a + S64x2816.size a ≤ S768x2816.size a := fun v9 v11 k0_hw1 k0_t4 k0_h2 => k0_hw1.1.2.2.1 k0_t4 k0_h2
theorem k0_off71_inb : ∀ (v9 : BitVec 32) (v11 : BitVec 32) (k0_hw1 : k0_chk1 v9 v11) (k0_t4 : Fin (k0_t4_loop v9 v11).trips), ∀ (k0_h2 : k0_cond2 v9 v11 = 1#1), ∀ a, (k0_off71 v9 v11 k0_t4) a + S64x256.size a ≤ S768x1024.size a := fun v9 v11 k0_hw1 k0_t4 k0_h2 => k0_hw1.1.2.2.2.1 k0_t4 k0_h2
theorem k0_off71_packedbf16 : ∀ (v9 : BitVec 32) (v11 : BitVec 32) (k0_hw1 : k0_chk1 v9 v11) (k0_t4 : Fin (k0_t4_loop v9 v11).trips), ∀ (k0_h2 : k0_cond2 v9 v11 = 1#1), (Rect.unit (s := S768x1024) (k0_off71 v9 v11 k0_t4) S64x256.size (k0_off71_inb v9 v11 k0_hw1 k0_t4 k0_h2)).PackedRows (EltTy.packing .bf16) := fun v9 v11 k0_hw1 k0_t4 k0_h2 => k0_hw1.1.2.2.2.2.1 k0_t4 k0_h2 (k0_off71_inb v9 v11 k0_hw1 k0_t4 k0_h2)
theorem k0_t5_ok : ∀ (v9 : BitVec 32) (v11 : BitVec 32) (k0_hw1 : k0_chk1 v9 v11), ∀ (k0_h2 : k0_cond2 v9 v11 = 1#1), (k0_t5_loop v9 v11).OK := fun v9 v11 k0_hw1 k0_h2 => k0_hw1.1.2.2.2.2.2.1 k0_h2
theorem k0_mult3_dvd : ∀ (v9 : BitVec 32) (v11 : BitVec 32) (k0_hw1 : k0_chk1 v9 v11) (k0_t5 : Fin (k0_t5_loop v9 v11).trips), ∀ (k0_h2 : k0_cond2 v9 v11 = 1#1), 64 ∣ (k0_mult3 v9 v11 k0_t5).toNat := fun v9 v11 k0_hw1 k0_t5 k0_h2 => k0_hw1.1.2.2.2.2.2.2.1 k0_t5 k0_h2
theorem k0_off72_inb : ∀ (v9 : BitVec 32) (v11 : BitVec 32) (k0_hw1 : k0_chk1 v9 v11) (k0_t5 : Fin (k0_t5_loop v9 v11).trips), ∀ (k0_h2 : k0_cond2 v9 v11 = 1#1), ∀ a, (k0_off72 v9 v11 k0_t5) a + S64x2816.size a ≤ S768x2816.size a := fun v9 v11 k0_hw1 k0_t5 k0_h2 => k0_hw1.1.2.2.2.2.2.2.2.1 k0_t5 k0_h2
theorem k0_off73_inb : ∀ (v9 : BitVec 32) (v11 : BitVec 32) (k0_hw1 : k0_chk1 v9 v11) (k0_t5 : Fin (k0_t5_loop v9 v11).trips), ∀ (k0_h2 : k0_cond2 v9 v11 = 1#1), ∀ a, (k0_off73 v9 v11 k0_t5) a + S64x256.size a ≤ S768x1024.size a := fun v9 v11 k0_hw1 k0_t5 k0_h2 => k0_hw1.1.2.2.2.2.2.2.2.2.1 k0_t5 k0_h2
theorem k0_off73_packedbf16 : ∀ (v9 : BitVec 32) (v11 : BitVec 32) (k0_hw1 : k0_chk1 v9 v11) (k0_t5 : Fin (k0_t5_loop v9 v11).trips), ∀ (k0_h2 : k0_cond2 v9 v11 = 1#1), (Rect.unit (s := S768x1024) (k0_off73 v9 v11 k0_t5) S64x256.size (k0_off73_inb v9 v11 k0_hw1 k0_t5 k0_h2)).PackedRows (EltTy.packing .bf16) := fun v9 v11 k0_hw1 k0_t5 k0_h2 => k0_hw1.1.2.2.2.2.2.2.2.2.2.1 k0_t5 k0_h2 (k0_off73_inb v9 v11 k0_hw1 k0_t5 k0_h2)
theorem k0_t6_ok : ∀ (v9 : BitVec 32) (v11 : BitVec 32) (k0_hw1 : k0_chk1 v9 v11), ∀ (k0_h2 : k0_cond2 v9 v11 = 1#1), (k0_t6_loop v9 v11).OK := fun v9 v11 k0_hw1 k0_h2 => k0_hw1.1.2.2.2.2.2.2.2.2.2.2.1 k0_h2
theorem k0_mult4_dvd : ∀ (v9 : BitVec 32) (v11 : BitVec 32) (k0_hw1 : k0_chk1 v9 v11) (k0_t6 : Fin (k0_t6_loop v9 v11).trips), ∀ (k0_h2 : k0_cond2 v9 v11 = 1#1), 64 ∣ (k0_mult4 v9 v11 k0_t6).toNat := fun v9 v11 k0_hw1 k0_t6 k0_h2 => k0_hw1.1.2.2.2.2.2.2.2.2.2.2.2.1 k0_t6 k0_h2
theorem k0_off118_inb : ∀ (v9 : BitVec 32) (v11 : BitVec 32) (k0_hw1 : k0_chk1 v9 v11) (k0_t6 : Fin (k0_t6_loop v9 v11).trips), ∀ (k0_h2 : k0_cond2 v9 v11 = 1#1), ∀ a, (k0_off118 v9 v11 k0_t6) a + S64x2816.size a ≤ S768x2816.size a := fun v9 v11 k0_hw1 k0_t6 k0_h2 => k0_hw1.1.2.2.2.2.2.2.2.2.2.2.2.2.1 k0_t6 k0_h2
theorem k0_off119_inb : ∀ (v9 : BitVec 32) (v11 : BitVec 32) (k0_hw1 : k0_chk1 v9 v11) (k0_t6 : Fin (k0_t6_loop v9 v11).trips), ∀ (k0_h2 : k0_cond2 v9 v11 = 1#1), ∀ a, (k0_off119 v9 v11 k0_t6) a + S64x256.size a ≤ S768x1024.size a := fun v9 v11 k0_hw1 k0_t6 k0_h2 => k0_hw1.1.2.2.2.2.2.2.2.2.2.2.2.2.2.1 k0_t6 k0_h2
theorem k0_off119_packedbf16 : ∀ (v9 : BitVec 32) (v11 : BitVec 32) (k0_hw1 : k0_chk1 v9 v11) (k0_t6 : Fin (k0_t6_loop v9 v11).trips), ∀ (k0_h2 : k0_cond2 v9 v11 = 1#1), (Rect.unit (s := S768x1024) (k0_off119 v9 v11 k0_t6) S64x256.size (k0_off119_inb v9 v11 k0_hw1 k0_t6 k0_h2)).PackedRows (EltTy.packing .bf16) := fun v9 v11 k0_hw1 k0_t6 k0_h2 => k0_hw1.1.2.2.2.2.2.2.2.2.2.2.2.2.2.2.1 k0_t6 k0_h2 (k0_off119_inb v9 v11 k0_hw1 k0_t6 k0_h2)
theorem k0_t7_ok : ∀ (v9 : BitVec 32) (v11 : BitVec 32) (k0_hw1 : k0_chk1 v9 v11), ∀ (k0_h2 : k0_cond2 v9 v11 = 1#1), (k0_t7_loop v9 v11).OK := fun v9 v11 k0_hw1 k0_h2 => k0_hw1.1.2.2.2.2.2.2.2.2.2.2.2.2.2.2.2.1 k0_h2
theorem k0_mult5_dvd : ∀ (v9 : BitVec 32) (v11 : BitVec 32) (k0_hw1 : k0_chk1 v9 v11) (k0_t7 : Fin (k0_t7_loop v9 v11).trips), ∀ (k0_h2 : k0_cond2 v9 v11 = 1#1), 64 ∣ (k0_mult5 v9 v11 k0_t7).toNat := fun v9 v11 k0_hw1 k0_t7 k0_h2 => k0_hw1.1.2.2.2.2.2.2.2.2.2.2.2.2.2.2.2.2.1 k0_t7 k0_h2
theorem k0_off120_inb : ∀ (v9 : BitVec 32) (v11 : BitVec 32) (k0_hw1 : k0_chk1 v9 v11) (k0_t7 : Fin (k0_t7_loop v9 v11).trips), ∀ (k0_h2 : k0_cond2 v9 v11 = 1#1), ∀ a, (k0_off120 v9 v11 k0_t7) a + S64x2816.size a ≤ S768x2816.size a := fun v9 v11 k0_hw1 k0_t7 k0_h2 => k0_hw1.1.2.2.2.2.2.2.2.2.2.2.2.2.2.2.2.2.2.1 k0_t7 k0_h2
theorem k0_off121_inb : ∀ (v9 : BitVec 32) (v11 : BitVec 32) (k0_hw1 : k0_chk1 v9 v11) (k0_t7 : Fin (k0_t7_loop v9 v11).trips), ∀ (k0_h2 : k0_cond2 v9 v11 = 1#1), ∀ a, (k0_off121 v9 v11 k0_t7) a + S64x256.size a ≤ S768x1024.size a := fun v9 v11 k0_hw1 k0_t7 k0_h2 => k0_hw1.1.2.2.2.2.2.2.2.2.2.2.2.2.2.2.2.2.2.2.1 k0_t7 k0_h2
theorem k0_off121_packedbf16 : ∀ (v9 : BitVec 32) (v11 : BitVec 32) (k0_hw1 : k0_chk1 v9 v11) (k0_t7 : Fin (k0_t7_loop v9 v11).trips), ∀ (k0_h2 : k0_cond2 v9 v11 = 1#1), (Rect.unit (s := S768x1024) (k0_off121 v9 v11 k0_t7) S64x256.size (k0_off121_inb v9 v11 k0_hw1 k0_t7 k0_h2)).PackedRows (EltTy.packing .bf16) := fun v9 v11 k0_hw1 k0_t7 k0_h2 => k0_hw1.1.2.2.2.2.2.2.2.2.2.2.2.2.2.2.2.2.2.2.2.1 k0_t7 k0_h2 (k0_off121_inb v9 v11 k0_hw1 k0_t7 k0_h2)
theorem k0_t8_ok : ∀ (v9 : BitVec 32) (v11 : BitVec 32) (k0_hw1 : k0_chk1 v9 v11), ∀ (k0_h2 : k0_cond2 v9 v11 = 1#1), (k0_t8_loop v9 v11).OK := fun v9 v11 k0_hw1 k0_h2 => k0_hw1.1.2.2.2.2.2.2.2.2.2.2.2.2.2.2.2.2.2.2.2.2.1 k0_h2
theorem k0_mult6_dvd : ∀ (v9 : BitVec 32) (v11 : BitVec 32) (k0_hw1 : k0_chk1 v9 v11) (k0_t8 : Fin (k0_t8_loop v9 v11).trips), ∀ (k0_h2 : k0_cond2 v9 v11 = 1#1), 64 ∣ (k0_mult6 v9 v11 k0_t8).toNat := fun v9 v11 k0_hw1 k0_t8 k0_h2 => k0_hw1.1.2.2.2.2.2.2.2.2.2.2.2.2.2.2.2.2.2.2.2.2.2.1 k0_t8 k0_h2
theorem k0_off166_inb : ∀ (v9 : BitVec 32) (v11 : BitVec 32) (k0_hw1 : k0_chk1 v9 v11) (k0_t8 : Fin (k0_t8_loop v9 v11).trips), ∀ (k0_h2 : k0_cond2 v9 v11 = 1#1), ∀ a, (k0_off166 v9 v11 k0_t8) a + S64x2816.size a ≤ S768x2816.size a := fun v9 v11 k0_hw1 k0_t8 k0_h2 => k0_hw1.1.2.2.2.2.2.2.2.2.2.2.2.2.2.2.2.2.2.2.2.2.2.2.1 k0_t8 k0_h2
theorem k0_off167_inb : ∀ (v9 : BitVec 32) (v11 : BitVec 32) (k0_hw1 : k0_chk1 v9 v11) (k0_t8 : Fin (k0_t8_loop v9 v11).trips), ∀ (k0_h2 : k0_cond2 v9 v11 = 1#1), ∀ a, (k0_off167 v9 v11 k0_t8) a + S64x256.size a ≤ S768x1024.size a := fun v9 v11 k0_hw1 k0_t8 k0_h2 => k0_hw1.1.2.2.2.2.2.2.2.2.2.2.2.2.2.2.2.2.2.2.2.2.2.2.2.1 k0_t8 k0_h2
theorem k0_off167_packedbf16 : ∀ (v9 : BitVec 32) (v11 : BitVec 32) (k0_hw1 : k0_chk1 v9 v11) (k0_t8 : Fin (k0_t8_loop v9 v11).trips), ∀ (k0_h2 : k0_cond2 v9 v11 = 1#1), (Rect.unit (s := S768x1024) (k0_off167 v9 v11 k0_t8) S64x256.size (k0_off167_inb v9 v11 k0_hw1 k0_t8 k0_h2)).PackedRows (EltTy.packing .bf16) := fun v9 v11 k0_hw1 k0_t8 k0_h2 => k0_hw1.1.2.2.2.2.2.2.2.2.2.2.2.2.2.2.2.2.2.2.2.2.2.2.2.2.1 k0_t8 k0_h2 (k0_off167_inb v9 v11 k0_hw1 k0_t8 k0_h2)
theorem k0_t9_ok : ∀ (v9 : BitVec 32) (v11 : BitVec 32) (k0_hw1 : k0_chk1 v9 v11), ∀ (k0_h2 : k0_cond2 v9 v11 = 1#1), (k0_t9_loop v9 v11).OK := fun v9 v11 k0_hw1 k0_h2 => k0_hw1.1.2.2.2.2.2.2.2.2.2.2.2.2.2.2.2.2.2.2.2.2.2.2.2.2.2.1 k0_h2
theorem k0_mult7_dvd : ∀ (v9 : BitVec 32) (v11 : BitVec 32) (k0_hw1 : k0_chk1 v9 v11) (k0_t9 : Fin (k0_t9_loop v9 v11).trips), ∀ (k0_h2 : k0_cond2 v9 v11 = 1#1), 64 ∣ (k0_mult7 v9 v11 k0_t9).toNat := fun v9 v11 k0_hw1 k0_t9 k0_h2 => k0_hw1.1.2.2.2.2.2.2.2.2.2.2.2.2.2.2.2.2.2.2.2.2.2.2.2.2.2.2.1 k0_t9 k0_h2
theorem k0_off168_inb : ∀ (v9 : BitVec 32) (v11 : BitVec 32) (k0_hw1 : k0_chk1 v9 v11) (k0_t9 : Fin (k0_t9_loop v9 v11).trips), ∀ (k0_h2 : k0_cond2 v9 v11 = 1#1), ∀ a, (k0_off168 v9 v11 k0_t9) a + S64x2816.size a ≤ S768x2816.size a := fun v9 v11 k0_hw1 k0_t9 k0_h2 => k0_hw1.1.2.2.2.2.2.2.2.2.2.2.2.2.2.2.2.2.2.2.2.2.2.2.2.2.2.2.2.1 k0_t9 k0_h2
theorem k0_off169_inb : ∀ (v9 : BitVec 32) (v11 : BitVec 32) (k0_hw1 : k0_chk1 v9 v11) (k0_t9 : Fin (k0_t9_loop v9 v11).trips), ∀ (k0_h2 : k0_cond2 v9 v11 = 1#1), ∀ a, (k0_off169 v9 v11 k0_t9) a + S64x256.size a ≤ S768x1024.size a := fun v9 v11 k0_hw1 k0_t9 k0_h2 => k0_hw1.1.2.2.2.2.2.2.2.2.2.2.2.2.2.2.2.2.2.2.2.2.2.2.2.2.2.2.2.2.1 k0_t9 k0_h2
theorem k0_off169_packedbf16 : ∀ (v9 : BitVec 32) (v11 : BitVec 32) (k0_hw1 : k0_chk1 v9 v11) (k0_t9 : Fin (k0_t9_loop v9 v11).trips), ∀ (k0_h2 : k0_cond2 v9 v11 = 1#1), (Rect.unit (s := S768x1024) (k0_off169 v9 v11 k0_t9) S64x256.size (k0_off169_inb v9 v11 k0_hw1 k0_t9 k0_h2)).PackedRows (EltTy.packing .bf16) := fun v9 v11 k0_hw1 k0_t9 k0_h2 => k0_hw1.1.2.2.2.2.2.2.2.2.2.2.2.2.2.2.2.2.2.2.2.2.2.2.2.2.2.2.2.2.2.1 k0_t9 k0_h2 (k0_off169_inb v9 v11 k0_hw1 k0_t9 k0_h2)
theorem k0_t10_ok : ∀ (v9 : BitVec 32) (v11 : BitVec 32) (k0_hw1 : k0_chk1 v9 v11), ∀ (k0_h2 : k0_cond2 v9 v11 = 1#1), (k0_t10_loop v9 v11).OK := fun v9 v11 k0_hw1 k0_h2 => k0_hw1.1.2.2.2.2.2.2.2.2.2.2.2.2.2.2.2.2.2.2.2.2.2.2.2.2.2.2.2.2.2.2.1 k0_h2
theorem k0_mult8_dvd : ∀ (v9 : BitVec 32) (v11 : BitVec 32) (k0_hw1 : k0_chk1 v9 v11) (k0_t10 : Fin (k0_t10_loop v9 v11).trips), ∀ (k0_h2 : k0_cond2 v9 v11 = 1#1), 64 ∣ (k0_mult8 v9 v11 k0_t10).toNat := fun v9 v11 k0_hw1 k0_t10 k0_h2 => k0_hw1.1.2.2.2.2.2.2.2.2.2.2.2.2.2.2.2.2.2.2.2.2.2.2.2.2.2.2.2.2.2.2.2 k0_t10 k0_h2
theorem k0_off214_inb : ∀ (v9 : BitVec 32) (v11 : BitVec 32) (k0_hw1 : k0_chk1 v9 v11) (k0_t10 : Fin (k0_t10_loop v9 v11).trips), ∀ (k0_h2 : k0_cond2 v9 v11 = 1#1), ∀ a, (k0_off214 v9 v11 k0_t10) a + S64x2816.size a ≤ S768x2816.size a := fun v9 v11 k0_hw1 k0_t10 k0_h2 => k0_hw1.2.1 k0_t10 k0_h2
theorem k0_off215_inb : ∀ (v9 : BitVec 32) (v11 : BitVec 32) (k0_hw1 : k0_chk1 v9 v11) (k0_t10 : Fin (k0_t10_loop v9 v11).trips), ∀ (k0_h2 : k0_cond2 v9 v11 = 1#1), ∀ a, (k0_off215 v9 v11 k0_t10) a + S64x256.size a ≤ S768x1024.size a := fun v9 v11 k0_hw1 k0_t10 k0_h2 => k0_hw1.2.2.1 k0_t10 k0_h2
theorem k0_off215_packedbf16 : ∀ (v9 : BitVec 32) (v11 : BitVec 32) (k0_hw1 : k0_chk1 v9 v11) (k0_t10 : Fin (k0_t10_loop v9 v11).trips), ∀ (k0_h2 : k0_cond2 v9 v11 = 1#1), (Rect.unit (s := S768x1024) (k0_off215 v9 v11 k0_t10) S64x256.size (k0_off215_inb v9 v11 k0_hw1 k0_t10 k0_h2)).PackedRows (EltTy.packing .bf16) := fun v9 v11 k0_hw1 k0_t10 k0_h2 => k0_hw1.2.2.2.1 k0_t10 k0_h2 (k0_off215_inb v9 v11 k0_hw1 k0_t10 k0_h2)
theorem k0_t11_ok : ∀ (v9 : BitVec 32) (v11 : BitVec 32) (k0_hw1 : k0_chk1 v9 v11), ∀ (k0_h2 : k0_cond2 v9 v11 = 1#1), (k0_t11_loop v9 v11).OK := fun v9 v11 k0_hw1 k0_h2 => k0_hw1.2.2.2.2.1 k0_h2
theorem k0_mult9_dvd : ∀ (v9 : BitVec 32) (v11 : BitVec 32) (k0_hw1 : k0_chk1 v9 v11) (k0_t11 : Fin (k0_t11_loop v9 v11).trips), ∀ (k0_h2 : k0_cond2 v9 v11 = 1#1), 64 ∣ (k0_mult9 v9 v11 k0_t11).toNat := fun v9 v11 k0_hw1 k0_t11 k0_h2 => k0_hw1.2.2.2.2.2.1 k0_t11 k0_h2
theorem k0_off216_inb : ∀ (v9 : BitVec 32) (v11 : BitVec 32) (k0_hw1 : k0_chk1 v9 v11) (k0_t11 : Fin (k0_t11_loop v9 v11).trips), ∀ (k0_h2 : k0_cond2 v9 v11 = 1#1), ∀ a, (k0_off216 v9 v11 k0_t11) a + S64x2816.size a ≤ S768x2816.size a := fun v9 v11 k0_hw1 k0_t11 k0_h2 => k0_hw1.2.2.2.2.2.2.1 k0_t11 k0_h2
theorem k0_off217_inb : ∀ (v9 : BitVec 32) (v11 : BitVec 32) (k0_hw1 : k0_chk1 v9 v11) (k0_t11 : Fin (k0_t11_loop v9 v11).trips), ∀ (k0_h2 : k0_cond2 v9 v11 = 1#1), ∀ a, (k0_off217 v9 v11 k0_t11) a + S64x256.size a ≤ S768x1024.size a := fun v9 v11 k0_hw1 k0_t11 k0_h2 => k0_hw1.2.2.2.2.2.2.2.1 k0_t11 k0_h2
theorem k0_off217_packedbf16 : ∀ (v9 : BitVec 32) (v11 : BitVec 32) (k0_hw1 : k0_chk1 v9 v11) (k0_t11 : Fin (k0_t11_loop v9 v11).trips), ∀ (k0_h2 : k0_cond2 v9 v11 = 1#1), (Rect.unit (s := S768x1024) (k0_off217 v9 v11 k0_t11) S64x256.size (k0_off217_inb v9 v11 k0_hw1 k0_t11 k0_h2)).PackedRows (EltTy.packing .bf16) := fun v9 v11 k0_hw1 k0_t11 k0_h2 => k0_hw1.2.2.2.2.2.2.2.2 k0_t11 k0_h2 (k0_off217_inb v9 v11 k0_hw1 k0_t11 k0_h2)

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S9 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S9x176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x2816 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S768x2816 : Shape := ⟨2, ![768, 2816]⟩
abbrev S9 : Shape := ⟨1, ![9]⟩
abbrev S9x1024x2816 : Shape := ⟨3, ![9, 1024, 2816]⟩
abbrev S9x8x22 : Shape := ⟨3, ![9, 8, 22]⟩
abbrev S768x1024 : Shape := ⟨2, ![768, 1024]⟩
abbrev S768x22x128 : Shape := ⟨3, ![768, 22, 128]⟩
abbrev S768x22 : Shape := ⟨2, ![768, 22]⟩
abbrev S768x22x1 : Shape := ⟨3, ![768, 22, 1]⟩
abbrev S768x22x277 : Shape := ⟨3, ![768, 22, 277]⟩
abbrev S1 : Shape := ⟨1, ![1]⟩
abbrev S1x1024x2816 : Shape := ⟨3, ![1, 1024, 2816]⟩
abbrev S1024x2816 : Shape := ⟨2, ![1024, 2816]⟩
abbrev S8x128x22x128 : Shape := ⟨4, ![8, 128, 22, 128]⟩
abbrev S1x8x22 : Shape := ⟨3, ![1, 8, 22]⟩
abbrev S8x22 : Shape := ⟨2, ![8, 22]⟩
abbrev S8x1x22x1 : Shape := ⟨4, ![8, 1, 22, 1]⟩

abbrev nBuf : Space → Nat
  | .hbm => 5
  | .vmem => 4
  | .smem => 1
  | _ => 0

abbrev bufTy : (tb : Table) → Fin (tcTables nBuf tb) → BufTy
  | .hbm, ⟨0, _⟩ => ⟨S768x2816, .bf16⟩
  | .hbm, ⟨1, _⟩ => ⟨S9, .i32⟩
  | .hbm, ⟨2, _⟩ => ⟨S9x1024x2816, .fp8e4m3⟩
  | .hbm, ⟨3, _⟩ => ⟨S9x8x22, .f32⟩
  | .hbm, ⟨4, _⟩ => ⟨S768x1024, .bf16⟩
  | .local _ .vmem, ⟨0, _⟩ => ⟨S768x2816, .bf16⟩
  | .local _ .vmem, ⟨1, _⟩ => ⟨S9x1024x2816, .fp8e4m3⟩
  | .local _ .vmem, ⟨2, _⟩ => ⟨S9x8x22, .f32⟩
  | .local _ .vmem, ⟨3, _⟩ => ⟨S768x1024, .bf16⟩
  | .local _ .smem, ⟨0, _⟩ => ⟨S9, .i32⟩
  | _, _ => ⟨S768x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S768x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S9 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x1024x2816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x8x22 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Seq.lean ====
/-
  One block of code run for every element of a list: what the kernel's unrolled code is an instance of.
-/
module

public import Idealize.SL.Sem.Prog

@[expose] public section

namespace Cert.Hand

open Idealize.SL.Sem

/-- The block of code `f x`, run for every `x` of the list, in order. -/
def seqAll {Ef : Type → Type} {ι : Type} (f : ι → Prog Ef PUnit) : List ι → Prog Ef PUnit
  | [] => pure ⟨⟩
  | x :: l => f x >>= fun _ => seqAll f l

end Cert.Hand
-- ==== Proof.KernelBlocks.lean ====
/-
  The kernel's body as blocks. The printed body is unrolled: 22 quantising blocks a trip, and four
  times 44 blocks that scale the weights back followed by two multiplying loops. Here each kind of
  block is one program of its position, the body is written with them (`body`), and the printed body
  is shown to be it (`body_eq`), by unfolding.
-/
module

public import proofs.«01_k».proof.Proof.Gen.Kernel.Skeleton
public import proofs.«01_k».proof.Proof.Seq

@[expose] public section

noncomputable section

namespace Cert.Kernel.Hand

open Cert.Hand
open Cert.Kernel Cert.Kernel.Gen
open Idealize.ShloMosaic Idealize.SL.Sem

variable {F : FTy → Type} [FloatOps F]

/-! ## The quantising block -/

/-- Where the quantiser's block `j` of its trip `k` lies: 64 rows, 128 columns. -/
def qoff (k : Fin k0_t1_loop.trips) (j : Fin 22) : Fin 2 → ℕ :=
  ![(Scalar.indexCast (Scalar.muli (Scf.iv 0#32 1#32 k) 64#32)).toNat, 128 * j.val]

theorem qoff_inb : ∀ (k : Fin k0_t1_loop.trips) (j : Fin 22), ∀ a, qoff k j a + S64x128.size a ≤ S768x2816.size a := by
  decide +kernel

theorem qoff_packed : ∀ (k : Fin k0_t1_loop.trips) (j : Fin 22),
    (Rect.unit (s := S768x2816) (qoff k j) S64x128.size (qoff_inb k j)).PackedRows (EltTy.packing .bf16) := by
  decide +kernel

/-- Block `j` of trip `k` of the quantising loop: the block of the activations is read, and its quantised and
    scaled-back values are stored. -/
def qblk (arg3 : Memref sig .tc .vmem S768x2816 .bf16) (arg6 : Memref sig .tc .vmem S768x2816 .bf16) (harg6 : arg6.IsWhole)
    (k : Fin k0_t1_loop.trips) (j : Fin 22) : Prog (TpuEff nD τ sig (Elt F) Λ₀ .tc) PUnit := do
  let v : Vec F S64x128 .bf16 ← Prog.lift (.load arg3 (Rect.unit (s := S768x2816) (qoff k j) S64x128.size (qoff_inb k j)).toLoadRect (View.loadsAt_vmem h_S64x128))
  let _u : Vec F S64x128 .bf16 ← Prog.lift (.load arg6 (Rect.unit (s := S768x2816) (qoff k j) S64x128.size (qoff_inb k j)).toLoadRect (View.loadsAt_vmem h_S64x128))
  Prog.lift (.store arg6 (Rect.unit (s := S768x2816) (qoff k j) S64x128.size (qoff_inb k j)) (k0_pay2 v) Finset.univ (View.stores_vmem h_S64x128 (harg6.storeExact_slice rfl _ (qoff_packed k j)) (fun _ => rfl)) (.inl rfl))

variable (arg1 : Memref sig .tc .smem S9 .i32) (harg1 : arg1.IsWhole) (arg2 : Memref sig .tc .smem S9x176 .f32) (harg2 : arg2.IsWhole) (arg3 : Memref sig .tc .vmem S768x2816 .bf16) (harg3 : arg3.IsWhole) (arg4 : Memref sig .tc .vmem S1x1024x2816 .fp8e4m3) (harg4 : arg4.IsWhole) (arg5 : Memref sig .tc .vmem S768x1024 .bf16) (harg5 : arg5.IsWhole) (arg6 : Memref sig .tc .vmem S768x2816 .bf16) (harg6 : arg6.IsWhole) (arg7 : Memref sig .tc .vmem S256x2816 .bf16) (harg7 : arg7.IsWhole)

/-- The blocks of one trip of the quantising loop. -/
def qlist : List (Fin 22) := [0, 1, 2, 3, 4, 5, 6, 7, 8, 9, 10, 11, 12, 13, 14, 15, 16, 17, 18, 19, 20, 21]

set_option maxRecDepth 65536 in
set_option maxHeartbeats 4000000 in
/-- One trip of the quantising loop is its 22 blocks in order. -/
theorem k0_t1_body_eq (i : grid0.Coords) (k0_h1 : k0_cond1 i = 1#1) (k : Fin k0_t1_loop.trips) (u : Unit) :
    k0_t1_body (F := F) i arg1 harg1 arg2 harg2 arg3 harg3 arg4 harg4 arg5 harg5 arg6 harg6 arg7 harg7 k0_h1 k u = seqAll (qblk (F := F) arg3 arg6 harg6 k) qlist := rfl

/-! ## The block scaling the weights back -/

/-- Where the factor of block `j` of quarter `nt` of the weights lies. -/
def soff (i : grid0.Coords) (nt : Fin 4) (j : Fin 44) : Fin 2 → ℕ :=
  ![(Scalar.indexCast (BitVec.ofNat 32 (i 0).val)).toNat, 44 * nt.val + j.val]

theorem soff_inb : ∀ (i : grid0.Coords) (nt : Fin 4) (j : Fin 44), ∀ a, soff i nt j a + S1x1.size a ≤ S9x176.size a := by
  decide +kernel

/-- Where block `j` of quarter `nt` lies in the weights. -/
def woff (nt : Fin 4) (j : Fin 44) : Fin 3 → ℕ := ![0, 256 * nt.val + 128 * (j.val / 22), 128 * (j.val % 22)]

theorem woff_inb : ∀ (nt : Fin 4) (j : Fin 44), ∀ a, woff nt j a + S1x128x128.size a ≤ S1x1024x2816.size a := by
  decide +kernel

/-- Where block `j` lies in the quarter scaled back. -/
def doff (j : Fin 44) : Fin 2 → ℕ := ![128 * (j.val / 22), 128 * (j.val % 22)]

theorem doff_inb : ∀ (j : Fin 44), ∀ a, doff j a + S128x128.size a ≤ S256x2816.size a := by
  decide +kernel

theorem doff_packed : ∀ (j : Fin 44),
    (Rect.unit (s := S256x2816) (doff j) S128x128.size (doff_inb j)).PackedRows (EltTy.packing .bf16) := by
  decide +kernel

/-- Block `j` of quarter `nt` of the weights: its factor and its values are read, and their product is stored. -/
def wblk (i : grid0.Coords) (arg2 : Memref sig .tc .smem S9x176 .f32) (arg4 : Memref sig .tc .vmem S1x1024x2816 .fp8e4m3)
    (arg7 : Memref sig .tc .vmem S256x2816 .bf16) (harg7 : arg7.IsWhole) (nt : Fin 4) (j : Fin 44) :
    Prog (TpuEff nD τ sig (Elt F) Λ₀ .tc) PUnit := do
  let v : Elt F .f32 ← smemLoad arg2 (Rect.unit (s := S9x176) (soff i nt j) S1x1.size (soff_inb i nt j)) numel1_S1x1 rfl
  let w : Vec F S1x128x128 .fp8e4m3 ← Prog.lift (.load arg4 (Rect.unit (s := S1x1024x2816) (woff nt j) S1x128x128.size (woff_inb nt j)).toLoadRect (View.loadsAt_vmem h_S1x128x128))
  let _u : Vec F S128x128 .bf16 ← Prog.lift (.load arg7 (Rect.unit (s := S256x2816) (doff j) S128x128.size (doff_inb j)).toLoadRect (View.loadsAt_vmem h_S128x128))
  Prog.lift (.store arg7 (Rect.unit (s := S256x2816) (doff j) S128x128.size (doff_inb j)) (k0_pay79 v w) Finset.univ (View.stores_vmem h_S128x128 (harg7.storeExact_slice rfl _ (doff_packed j)) (fun _ => rfl)) (.inl rfl))

/-- The blocks of a quarter of the weights. -/
def wlist : List (Fin 44) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43]

/-! ## The trip of the multiplying loops -/

/-- A row block the multiplying loops may address: inside the array, at a multiple of 64. -/
def RowOK (row : BitVec 32) : Prop := (Scalar.indexCast row).toNat + 64 ≤ 768 ∧ 64 ∣ (Scalar.indexCast row).toNat

/-- Where the row block lies in the quantised activations. -/
def aoff (row : BitVec 32) : Fin 2 → ℕ := ![(Scalar.indexCast row).toNat, 0]

/-- Where the row block of quarter `nt` lies in the result. -/
def ooff (nt : Fin 4) (row : BitVec 32) : Fin 2 → ℕ := ![(Scalar.indexCast row).toNat, 256 * nt.val]

theorem aoff_inb {row : BitVec 32} (h : RowOK row) : ∀ a, aoff row a + S64x2816.size a ≤ S768x2816.size a := by
  intro a; fin_cases a
  · exact h.1
  · exact le_refl _

theorem ooff_inb (nt : Fin 4) {row : BitVec 32} (h : RowOK row) : ∀ a, ooff nt row a + S64x256.size a ≤ S768x1024.size a := by
  intro a; fin_cases a
  · exact h.1
  · show 256 * nt.val + 256 ≤ 1024; omega

theorem ooff_packed (nt : Fin 4) {row : BitVec 32} (h : RowOK row) :
    (Rect.unit (s := S768x1024) (ooff nt row) S64x256.size (ooff_inb nt h)).PackedRows (EltTy.packing .bf16) := by
  refine Or.inr ⟨by decide, rfl, Or.inl ⟨?_, ?_⟩⟩
  on_goal 2 => exact (show 2 ∣ 64 by decide)
  exact Dvd.dvd.trans (show 2 ∣ 64 by decide) h.2

/-- What a trip stores: at the rows from `lo` up to `hi` the product, at the others the old result. -/
def mpay (lo hi row : BitVec 32) (a : Vec F S64x2816 .bf16) (w : Vec F S256x2816 .bf16) (o : Vec F S64x256 .bf16) : FVec F S64x256 .bf16 :=
  truncf .bf16 (select (andi (cmpi .sge (addi (iota .tc S64x256 32 [0] iota_S64x256_d0_w32) (broadcast S64x256 row)) (broadcast S64x256 lo))
      (cmpi .slt (addi (iota .tc S64x256 32 [0] iota_S64x256_d0_w32) (broadcast S64x256 row)) (broadcast S64x256 hi)))
    (matmul dot_S64x2816_S256x2816_S64x256_1_1_0_0_n_n none a w (constant S64x256 .f32 0x00000000#32))
    (extf .f32 (shapeCast S64x256 o shapeCasts_S64x256_S64x256) bitsLt_bf16_f32)) bitsLt_bf16_f32

/-- One trip over a row block, of quarter `nt`. -/
def mtrip (arg5 : Memref sig .tc .vmem S768x1024 .bf16) (harg5 : arg5.IsWhole) (arg6 : Memref sig .tc .vmem S768x2816 .bf16)
    (arg7 : Memref sig .tc .vmem S256x2816 .bf16) (lo hi : BitVec 32) (nt : Fin 4) (row : BitVec 32) (h : RowOK row) :
    Prog (TpuEff nD τ sig (Elt F) Λ₀ .tc) PUnit := do
  let a : Vec F S64x2816 .bf16 ← Prog.lift (.load arg6 (Rect.unit (s := S768x2816) (aoff row) S64x2816.size (aoff_inb h)).toLoadRect (View.loadsAt_vmem h_S64x2816))
  let w : Vec F S256x2816 .bf16 ← Prog.lift (.load arg7 (Rect.unit (s := S256x2816) ![0, 0] S256x2816.size inb_S256x2816_S256x2816_0_0).toLoadRect (View.loadsAt_vmem h_S256x2816))
  let o : Vec F S64x256 .bf16 ← Prog.lift (.load arg5 (Rect.unit (s := S768x1024) (ooff nt row) S64x256.size (ooff_inb nt h)).toLoadRect (View.loadsAt_vmem h_S64x256))
  let _u : Vec F S64x256 .bf16 ← Prog.lift (.load arg5 (Rect.unit (s := S768x1024) (ooff nt row) S64x256.size (ooff_inb nt h)).toLoadRect (View.loadsAt_vmem h_S64x256))
  Prog.lift (.store arg5 (Rect.unit (s := S768x1024) (ooff nt row) S64x256.size (ooff_inb nt h)) (mpay lo hi row a w o) Finset.univ (View.stores_vmem h_S64x256 (harg5.storeExact_slice rfl _ (ooff_packed nt h)) (fun _ => rfl)) (.inl rfl))

/-- The row block of trip `k` of the loop over whole steps, -/
def row4 (v9 v11 : BitVec 32) (k : Fin (k0_t4_loop v9 v11).trips) : BitVec 32 := Scalar.muli (Scf.iv (k0_t4_loop v9 v11).lb 1#32 k) 64#32

/-- and of trip `k` of the loop over the remainder (there is none). -/
def row5 (v9 v11 : BitVec 32) (k : Fin (k0_t5_loop v9 v11).trips) : BitVec 32 := Scalar.muli (Scf.iv (k0_t5_loop v9 v11).lb 1#32 k) 64#32

theorem row4_ok {v9 v11 : BitVec 32} (hw : k0_chk1 v9 v11) (h2 : k0_cond2 v9 v11 = 1#1) (k : Fin (k0_t4_loop v9 v11).trips) : RowOK (row4 v9 v11 k) :=
  ⟨k0_off70_inb v9 v11 hw k h2 0, hw.1.2.1 k h2⟩

theorem row5_ok {v9 v11 : BitVec 32} (hw : k0_chk1 v9 v11) (h2 : k0_cond2 v9 v11 = 1#1) (k : Fin (k0_t5_loop v9 v11).trips) : RowOK (row5 v9 v11 k) :=
  ⟨k0_off72_inb v9 v11 hw k h2 0, hw.1.2.2.2.2.2.2.1 k h2⟩

/-- The two multiplying loops of quarter `nt`. -/
def mloops (arg5 : Memref sig .tc .vmem S768x1024 .bf16) (harg5 : arg5.IsWhole) (arg6 : Memref sig .tc .vmem S768x2816 .bf16)
    (arg7 : Memref sig .tc .vmem S256x2816 .bf16) (v9 v11 : BitVec 32) (hw : k0_chk1 v9 v11) (h2 : k0_cond2 v9 v11 = 1#1) (nt : Fin 4) :
    Prog (TpuEff nD τ sig (Elt F) Λ₀ .tc) PUnit :=
  Scf.Loop.for (k0_t4_loop v9 v11) (k0_t4_ok v9 v11 hw h2) ⟨⟩ (fun k _ => mtrip arg5 harg5 arg6 arg7 v9 (Scalar.addi v9 v11) nt (row4 v9 v11 k) (row4_ok hw h2 k)) >>= fun _ =>
  Scf.Loop.for (k0_t5_loop v9 v11) (k0_t5_ok v9 v11 hw h2) ⟨⟩ (fun k _ => mtrip arg5 harg5 arg6 arg7 v9 (Scalar.addi v9 v11) nt (row5 v9 v11 k) (row5_ok hw h2 k))

/-! ## The whole body -/

/-- What the body does for an expert that has rows: quarter by quarter, the weights scaled back and multiplied. -/
def heavy (i : grid0.Coords) (arg2 : Memref sig .tc .smem S9x176 .f32) (arg4 : Memref sig .tc .vmem S1x1024x2816 .fp8e4m3)
    (arg5 : Memref sig .tc .vmem S768x1024 .bf16) (harg5 : arg5.IsWhole) (arg6 : Memref sig .tc .vmem S768x2816 .bf16)
    (arg7 : Memref sig .tc .vmem S256x2816 .bf16) (harg7 : arg7.IsWhole) (v9 v11 : BitVec 32) (hw : k0_chk1 v9 v11) (h2 : k0_cond2 v9 v11 = 1#1) :
    List (Fin 4) → Prog (TpuEff nD τ sig (Elt F) Λ₀ .tc) PUnit :=
  seqAll fun nt => seqAll (wblk i arg2 arg4 arg7 harg7 nt) wlist >>= fun _ => mloops arg5 harg5 arg6 arg7 v9 v11 hw h2 nt

/-- A program that runs a list of blocks, two loops, and goes on: its blocks and its loops may be grouped. -/
theorem quarter {Ef : Type → Type} {α β ι : Type} {f : ι → Prog Ef PUnit} {l : List ι} {p R Y : Prog Ef β} {A B A' B' : Prog Ef PUnit}
    {X : Prog Ef α} {g : α → Prog Ef β} (h : p = seqAll f l >>= fun _ => R) (hR : R = (A >>= fun _ => B >>= fun _ => X) >>= g)
    (hA : A = A') (hB : B = B') (hY : X >>= g = Y) :
    p = (seqAll f l >>= fun _ => A' >>= fun _ => B') >>= fun _ => Y := by
  subst h hR hA hB hY
  simp only [Prog.bind_assoc]

theorem bind_congr₁ {Ef : Type → Type} {α β : Type} {A A' : Prog Ef α} {B B' : α → Prog Ef β} (hA : A = A') (hB : ∀ x, B x = B' x) :
    A >>= B = A' >>= B' := by rw [hA, funext hB]

theorem dite_congr₁ {c : Prop} [Decidable c] {α : Type 1} {A A' : c → α} {B B' : ¬ c → α} (hA : ∀ h, A h = A' h) (hB : ∀ h, B h = B' h) :
    dite c A B = dite c A' B' := by rw [funext hA, funext hB]

/-- What the body does after the quantising: the rows of the expert are found, and if there are any they are multiplied. -/
def rest (i : grid0.Coords) : Prog (TpuEff nD τ sig (Elt F) Λ₀ .tc) PUnit :=
  Scf.Loop.for (k0_t2_loop i) (k0_t2_ok i) 0#32 (k0_t2_body i arg1 harg1 arg2 harg2 arg3 harg3 arg4 harg4 arg5 harg5 arg6 harg6 arg7 harg7) >>= fun v8 =>
  Scf.Loop.for (k0_t3_loop i) (k0_t3_ok i) v8 (k0_t3_body i arg1 harg1 arg2 harg2 arg3 harg3 arg4 harg4 arg5 harg5 arg6 harg6 arg7 harg7) >>= fun v9 =>
  smemLoad arg1 (Rect.unit (s := S9) (k0_off25 i) S1.size (k0_off25_inb i)) numel1_S1 rfl >>= fun v11 =>
  Prog.lift (TpuEff.assume (k0_chk1 v9 v11) (k0_chk1.dec v9 v11)) >>= fun hw =>
  if h2 : k0_cond2 v9 v11 = 1#1 then heavy i arg2 arg4 arg5 harg5 arg6 arg7 harg7 v9 v11 hw.down h2 [0, 1, 2, 3] else pure ⟨⟩

/-- The body, as blocks: at the first expert the activations are quantised, then comes the rest. -/
def body (i : grid0.Coords) : Prog (TpuEff nD τ sig (Elt F) Λ₀ .tc) PUnit :=
  if h1 : k0_cond1 i = 1#1 then
    Scf.Loop.for k0_t1_loop (k0_t1_ok i h1) ⟨⟩ (fun k _ => seqAll (qblk arg3 arg6 harg6 k) qlist) >>= fun _ => rest arg1 harg1 arg2 harg2 arg3 harg3 arg4 harg4 arg5 harg5 arg6 harg6 arg7 harg7 i
  else rest arg1 harg1 arg2 harg2 arg3 harg3 arg4 harg4 arg5 harg5 arg6 harg6 arg7 harg7 i

set_option maxRecDepth 65536 in
set_option maxHeartbeats 40000000 in
theorem body_eq (i : grid0.Coords) :
    cc0__body_skel (F := F) i arg1 harg1 arg2 harg2 arg3 harg3 arg4 harg4 arg5 harg5 arg6 harg6 arg7 harg7 = body (F := F) arg1 harg1 arg2 harg2 arg3 harg3 arg4 harg4 arg5 harg5 arg6 harg6 arg7 harg7 i := by
  unfold cc0__body_skel body
  refine dite_congr₁ (fun h1 => bind_congr₁ rfl fun _ => ?_) (fun h1 => ?_)
  all_goals
    unfold rest
    refine bind_congr₁ rfl fun v8 => bind_congr₁ rfl fun v9 => bind_congr₁ rfl fun v11 => bind_congr₁ rfl fun hw => ?_
    refine dite_congr₁ (fun h2 => ?_) (fun h2 => rfl)
    refine quarter (f := wblk i arg2 arg4 arg7 harg7 0) (l := wlist) rfl rfl rfl rfl ?_
    refine quarter (f := wblk i arg2 arg4 arg7 harg7 1) (l := wlist) rfl rfl rfl rfl ?_
    refine quarter (f := wblk i arg2 arg4 arg7 harg7 2) (l := wlist) rfl rfl rfl rfl ?_
    refine quarter (f := wblk i arg2 arg4 arg7 harg7 3) (l := wlist) rfl rfl rfl rfl ?_
    rfl

end Cert.Kernel.Hand
-- ==== Proof.KernelCheck.lean ====
/-
  What the body assumes of the rows of an expert (`k0_chk1`), from where they start and how many
  they are: that the expert's rows end inside the array. And what the multiplying loops then run
  over: the row blocks of 64 from the one the rows start in up to the one they end in.
-/
module

public import proofs.«01_k».proof.Proof.KernelBlocks

@[expose] public section

noncomputable section

namespace Cert.Kernel.Hand

open Cert.Hand
open Cert.Kernel Cert.Kernel.Gen
open Idealize.ShloMosaic Idealize.SL.Sem

/-- The row block the multiplying loops start at, for rows that start at `a`. -/
theorem lb4 : ∀ a : Fin 769, (k0_t4_loop (BitVec.ofNat 32 a) 0#32).lb = BitVec.ofNat 32 (a / 64) := by decide +kernel

/-- The loops' end of the row blocks, as computed from the rows' end `e`. -/
def hi (e : BitVec 32) : BitVec 32 :=
  let v518 : BitVec 32 := Scalar.subi (Scalar.addi e 64#32) 1#32
  Scalar.select
    (Scalar.andi
      (Scalar.cmpi .ne
        (Scalar.subi (Scalar.extui (Scalar.cmpi .sgt v518 0#32) : BitVec 32) (Scalar.extui (Scalar.cmpi .slt v518 0#32) : BitVec 32))
        (Scalar.subi (Scalar.extui (Scalar.cmpi .sgt 64#32 0#32) : BitVec 32) (Scalar.extui (Scalar.cmpi .slt 64#32 0#32) : BitVec 32)))
      (Scalar.cmpi .ne (Scalar.remsi v518 64#32) 0#32))
    (Scalar.subi (Scalar.divsi v518 64#32) 1#32) (Scalar.divsi v518 64#32)

theorem hi_eq : ∀ e : Fin 769, hi (BitVec.ofNat 32 e) = BitVec.ofNat 32 ((e + 63) / 64) := by decide +kernel

/-- The end of the loop over whole steps, from its start and the row blocks' end. -/
def ub (l h : BitVec 32) : BitVec 32 := Scalar.addi l (Scalar.muli (Scalar.divsi (Scalar.subi h l) 1#32) 1#32)

theorem ub_eq : ∀ p q : Fin 13, p ≤ q → ub (BitVec.ofNat 32 p) (BitVec.ofNat 32 q) = BitVec.ofNat 32 q := by decide +kernel

theorem loop_ext {l : Scf.Loop 32} {a b c : BitVec 32} (h1 : l.lb = a) (h2 : l.ub = b) (h3 : l.st = c) : l = ⟨a, b, c⟩ := by
  cases l; subst h1 h2 h3; rfl

theorem lb4_any (v9 v11 : BitVec 32) : (k0_t4_loop v9 v11).lb = (k0_t4_loop v9 0#32).lb := rfl
theorem ub4_eq (v9 v11 : BitVec 32) : (k0_t4_loop v9 v11).ub = ub (k0_t4_loop v9 v11).lb (hi (Scalar.addi v9 v11)) := rfl
theorem lb5_eq (v9 v11 : BitVec 32) : (k0_t5_loop v9 v11).lb = (k0_t4_loop v9 v11).ub := rfl
theorem ub5_eq (v9 v11 : BitVec 32) : (k0_t5_loop v9 v11).ub =
    Scalar.addi (k0_t4_loop v9 v11).lb (Scalar.subi (hi (Scalar.addi v9 v11)) (k0_t4_loop v9 v11).lb) := rfl

theorem back_eq : ∀ p q : Fin 13, Scalar.addi (BitVec.ofNat 32 p) (Scalar.subi (BitVec.ofNat 32 q) (BitVec.ofNat 32 p)) = BitVec.ofNat 32 q := by
  decide +kernel

theorem trips_eq : ∀ p q : Fin 13, p ≤ q → Scf.trips (BitVec.ofNat 32 p) (BitVec.ofNat 32 q) 1#32 = q - p := by decide +kernel

theorem ok_eq : ∀ p q : Fin 13, Scf.OK (BitVec.ofNat 32 p) (BitVec.ofNat 32 q) 1#32 := by decide +kernel

theorem row_eq : ∀ p k : Fin 13, (Scalar.indexCast (Scalar.muli (Scf.iv (BitVec.ofNat 32 p) 1#32 k) 64#32)).toNat = 64 * (p + k) := by decide +kernel

section

variable {v9 v11 : BitVec 32} {a b : ℕ} (h9 : v9 = BitVec.ofNat 32 a) (h11 : v11 = BitVec.ofNat 32 b) (hab : a + b ≤ 768)

include h9 h11 hab

theorem hi_of : hi (Scalar.addi v9 v11) = BitVec.ofNat 32 ((a + b + 63) / 64) := by
  rw [show Scalar.addi v9 v11 = BitVec.ofNat 32 (a + b) by rw [h9, h11, BitVec.ofNat_add]; rfl]
  exact hi_eq ⟨a + b, by omega⟩

theorem lb4_of : (k0_t4_loop v9 v11).lb = BitVec.ofNat 32 (a / 64) := by
  rw [lb4_any, h9]
  exact lb4 ⟨a, by omega⟩

theorem ub4_of : (k0_t4_loop v9 v11).ub = BitVec.ofNat 32 ((a + b + 63) / 64) := by
  rw [ub4_eq, lb4_of h9 h11 hab, hi_of h9 h11 hab]
  exact ub_eq ⟨a / 64, by omega⟩ ⟨(a + b + 63) / 64, by omega⟩ (by simp only [Fin.mk_le_mk]; omega)

/-- The loop over whole steps goes from the first row block to the last. -/
theorem loop4_eq : k0_t4_loop v9 v11 = ⟨BitVec.ofNat 32 (a / 64), BitVec.ofNat 32 ((a + b + 63) / 64), 1#32⟩ :=
  loop_ext (lb4_of h9 h11 hab) (ub4_of h9 h11 hab) rfl

/-- The loop over the remainder makes no trip. -/
theorem loop5_eq : k0_t5_loop v9 v11 = ⟨BitVec.ofNat 32 ((a + b + 63) / 64), BitVec.ofNat 32 ((a + b + 63) / 64), 1#32⟩ := by
  refine loop_ext ((lb5_eq _ _).trans (ub4_of h9 h11 hab)) ?_ rfl
  rw [ub5_eq, lb4_of h9 h11 hab, hi_of h9 h11 hab]
  exact back_eq ⟨a / 64, by omega⟩ ⟨(a + b + 63) / 64, by omega⟩

theorem trips4 : (k0_t4_loop v9 v11).trips = (a + b + 63) / 64 - a / 64 := by
  rw [loop4_eq h9 h11 hab]
  exact trips_eq ⟨a / 64, by omega⟩ ⟨(a + b + 63) / 64, by omega⟩ (by simp only [Fin.mk_le_mk]; omega)

theorem trips5 : (k0_t5_loop v9 v11).trips = 0 := by
  rw [loop5_eq h9 h11 hab]
  exact (trips_eq ⟨(a + b + 63) / 64, by omega⟩ ⟨(a + b + 63) / 64, by omega⟩ (le_refl _)).trans (Nat.sub_self _)

/-- The row block of trip `k` is block `k` after the one the rows start in. -/
theorem row4_toNat (k : Fin (k0_t4_loop v9 v11).trips) : (Scalar.indexCast (row4 v9 v11 k)).toNat = 64 * (a / 64 + k.val) := by
  have hk : k.val < (a + b + 63) / 64 - a / 64 := lt_of_lt_of_eq k.isLt (trips4 h9 h11 hab)
  unfold row4
  rw [lb4_of h9 h11 hab]
  exact row_eq ⟨a / 64, by omega⟩ ⟨k.val, by omega⟩

theorem row4_rowOK (k : Fin (k0_t4_loop v9 v11).trips) : RowOK (row4 v9 v11 k) := by
  have hk : k.val < (a + b + 63) / 64 - a / 64 := lt_of_lt_of_eq k.isLt (trips4 h9 h11 hab)
  unfold RowOK
  rw [row4_toNat h9 h11 hab]
  exact ⟨by omega, Dvd.intro _ rfl⟩

theorem no5 (k : Fin (k0_t5_loop v9 v11).trips) : False := by
  exact absurd (lt_of_lt_of_eq k.isLt (trips5 h9 h11 hab)) (Nat.not_lt_zero _)

/-- What the body assumes of an expert's rows holds when they end inside the array. -/
theorem chk_of : k0_chk1 v9 v11 := by
  have O4 : (k0_t4_loop v9 v11).OK := by
    rw [loop4_eq h9 h11 hab]; exact ok_eq ⟨a / 64, by omega⟩ ⟨(a + b + 63) / 64, by omega⟩
  have O5 : (k0_t5_loop v9 v11).OK := by
    rw [loop5_eq h9 h11 hab]; exact ok_eq ⟨(a + b + 63) / 64, by omega⟩ ⟨(a + b + 63) / 64, by omega⟩
  have R := row4_rowOK h9 h11 hab
  have N := no5 h9 h11 hab
  exact ⟨⟨fun _ => O4, fun k _ => (R k).2, fun k _ => aoff_inb (R k), fun k _ => ooff_inb 0 (R k), fun k _ _ => ooff_packed 0 (R k),
      fun _ => O5, fun k _ => (N k).elim, fun k _ => (N k).elim, fun k _ => (N k).elim, fun k _ _ => (N k).elim,
      fun _ => O4, fun k _ => (R k).2, fun k _ => aoff_inb (R k), fun k _ => ooff_inb 1 (R k), fun k _ _ => ooff_packed 1 (R k),
      fun _ => O5, fun k _ => (N k).elim, fun k _ => (N k).elim, fun k _ => (N k).elim, fun k _ _ => (N k).elim,
      fun _ => O4, fun k _ => (R k).2, fun k _ => aoff_inb (R k), fun k _ => ooff_inb 2 (R k), fun k _ _ => ooff_packed 2 (R k),
      fun _ => O5, fun k _ => (N k).elim, fun k _ => (N k).elim, fun k _ => (N k).elim, fun k _ _ => (N k).elim,
      fun _ => O4, fun k _ => (R k).2⟩,
    fun k _ => aoff_inb (R k), fun k _ => ooff_inb 3 (R k), fun k _ _ => ooff_packed 3 (R k),
    fun _ => O5, fun k _ => (N k).elim, fun k _ => (N k).elim, fun k _ => (N k).elim, fun k _ _ => (N k).elim⟩

end

end Cert.Kernel.Hand
-- ==== Proof.Owns.lean ====
/-
  Rules for one memory operation at a time, over a memref owned whole: what a load of a rectangle
  reads and what a store of a rectangle leaves, said by the contents the memref reads rather than by
  its buffer. And the rule of a block run for every element of a list, by induction over the list.
-/
module

public import Idealize.ShloMosaic.Lib.Memref
public import Idealize.ShloMosaic.Lib.Scf
public import Idealize.ShloMosaic.Lib.Tactic
public import proofs.«01_k».proof.Proof.Seq

@[expose] public section

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Pieces

/-- The contents `X` agree with the payload `w i` on the rectangle `r i`, for every `i` that `P` names. -/
def Agree {ι : Type} {s : Shape} {α : Type} (r : ι → Rect s) (w : ∀ i, (r i).shape.Idx → α) (P : ι → Prop) (X : s.Idx → α) : Prop :=
  ∀ i, P i → ∀ x, X ((r i).emb x) = w i x

/-- Replacing one rectangle's contents by its payload: of pairwise disjoint rectangles, those that agreed still do, and this one does. -/
theorem Agree.step {ι : Type} {s : Shape} {α : Type} {r : ι → Rect s} {w : ∀ i, (r i).shape.Idx → α} {P P' : ι → Prop} {X : s.Idx → α}
    (hd : ∀ i j, i ≠ j → Disjoint (r i).set (r j).set) (h : Agree r w P X) (j : ι) (hP : ∀ i, P' i → P i ∨ i = j) :
    Agree r w P' ((r j).overlay X (w j)) := by
  classical
  intro i hi x
  by_cases hij : i = j
  · subst hij; exact Rect.overlay_emb _ _ _ _
  · rw [Rect.overlay_of_not_mem]
    · exact h i ((hP i hi).resolve_right hij) x
    · refine Finset.disjoint_left.mp (hd i j hij) ?_
      rw [← Rect.map_emb_univ]
      exact Finset.mem_map_of_mem _ (Finset.mem_univ x)

end Pieces

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load of a rectangle of an owned memref reads the contents at the rectangle's indices. -/
theorem wp_load_owns {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k (fun i => X (r.emb i))) Q)
        -∗ wp frame (wpE defs 𝒱 c bd) E (.op (.load m r hl) k) Q) := by
  unfold owns
  iintro ⟨%f, %hf, Hpt⟩ Hk
  iapply (wp_load_rect 𝒱 c bd E (View.set_slice_subset m.view r)) $$ Hpt
  iintro Hpt
  have hr : (m.access r).read Val f = fun i => X (r.emb i) := by
    subst hf; rfl
  rw [hr]
  iapply Hk
  iexists f
  isplitr
  · ipureintro; exact hf
  · iexact Hpt

/-- A store of a rectangle of an owned memref leaves the contents replaced on the rectangle. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, Hpt⟩ Hk
  iapply (wp_store 𝒱 c bd E (Q := Q) (w := w) (hx := hx) (hm := hm) (k := k) (f := f)
    (by rw [View.setOn_univ]; exact View.set_slice_subset m.view r)) $$ Hpt
  iintro Hpt
  iapply Hk
  iexists (m.access r).write Val f w Finset.univ
  isplitr
  · ipureintro
    funext j
    by_cases hj : j ∈ r.set
    · rw [← Rect.map_emb_univ, Finset.mem_map] at hj
      obtain ⟨i, -, rfl⟩ := hj
      rw [Rect.overlay_emb]
      exact View.read_slice_write_emb (v := m.view) r f w (Finset.mem_univ i)
    · rw [Rect.overlay_of_not_mem _ _ _ hj, ← hf]
      exact View.read_slice_write_of_not_mem (v := m.view) r f w _ (by rw [Rect.map_emb_univ]; exact hj)
  · iexact Hpt

/-- `wp_load_owns` for a load as a program writes it, going on with what it read. -/
theorem wp_load_lift {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k (fun i => X (r.emb i))) Q)
        -∗ wp frame (wpE defs 𝒱 c bd) E (Prog.lift (.load m r hl) >>= k) Q) :=
  wp_load_owns 𝒱 c bd E

/-- A load of one element of an owned memref of scalar memory, going on with what it read. -/
theorem wp_smem_lift {m : Memref sig c.2.kind .smem s e} {r : Rect s} {h1 : r.shape.numel = 1} {hp : e.packing = 1}
    {k : Val e → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k (X (r.emb (Shape.Idx.first (h1.symm ▸ Nat.one_pos))))) Q)
        -∗ wp frame (wpE defs 𝒱 c bd) E (smemLoad m r h1 hp >>= k) Q) :=
  wp_load_owns (r := r) (k := fun f => k (f (Shape.Idx.first (h1.symm ▸ Nat.one_pos)))) 𝒱 c bd E

/-- A store as a program's last step. -/
theorem wp_store_lift {cs : CoreSpace} {m : Memref sig c.2.kind cs s e} {r : Rect s} {w : r.shape.Idx → Val e}
    {hx : (m.access r).Stores Finset.univ} {hm : Finset.univ = Finset.univ ∨ ∀ a, r.stride a = 1}
    {Q : PUnit → sProp (MT nD τ sig Ix Val Name U Lvl)} {X : s.Idx → Val e} :
    (owns c m fullShare X : sProp (MT nD τ sig Ix Val Name U Lvl))
      ⊢ iprop((owns c m fullShare (r.overlay X w) -∗ Q ⟨⟩)
        -∗ wp frame (wpE defs 𝒱 c bd) E (Prog.lift (.store m r w Finset.univ hx hm)) Q) := by
  have hret : Q ⟨⟩ ⊢ wp frame (wpE defs 𝒱 c bd) E (Prog.ret ⟨⟩) Q := fupd_intro
  iintro Ho HQ
  iapply (wp_store_owns (k := .ret) 𝒱 c bd E) $$ Ho
  iintro Ho
  iapply hret
  iapply HQ
  iexact Ho

/-- Two steps in a row. -/
theorem wp_seq {p : Prog (TpuEff nD τ sig Val Λ c.2) PUnit} {k : PUnit → Prog (TpuEff nD τ sig Val Λ c.2) α}
    {P R : sProp (MT nD τ sig Ix Val Name U Lvl)} (h1 : P ⊢ wp frame (wpE defs 𝒱 c bd) E p (fun _ => R))
    (h2 : R ⊢ wp frame (wpE defs 𝒱 c bd) E (k ⟨⟩) Q) : P ⊢ wp frame (wpE defs 𝒱 c bd) E (p >>= k) Q := by
  rw [wp_bind]
  exact h1.trans (wp_mono _ _ _ fun _ => h2)

/-- What is not touched is kept. -/
theorem wp_keep {p : Prog (TpuEff nD τ sig Val Λ c.2) PUnit}
    {P R K : sProp (MT nD τ sig Ix Val Name U Lvl)} (h : P ⊢ wp frame (wpE defs 𝒱 c bd) E p (fun _ => R)) :
    iprop(P ∗ K) ⊢ wp frame (wpE defs 𝒱 c bd) E p (fun _ => iprop(R ∗ K)) :=
  (BI.sep_mono_l h).trans (wp_frame_r _ _ _)

/-- One block run for every element of a list: what `I` says before, block by block, it says after. -/
theorem wp_seqAll {ι : Type} (f : ι → Prog (TpuEff nD τ sig Val Λ c.2) PUnit)
    (I : List ι → sProp (MT nD τ sig Ix Val Name U Lvl)) (P : ι → Prop)
    (h : ∀ l x, P x → I l ⊢ wp frame (wpE defs 𝒱 c bd) E (f x) (fun _ => I (l ++ [x]))) :
    ∀ (l l₀ : List ι), (∀ x ∈ l, P x) → I l₀ ⊢ wp frame (wpE defs 𝒱 c bd) E (seqAll f l) (fun _ => I (l₀ ++ l))
  | [], l₀, _ => by
    rw [List.append_nil]
    exact fupd_intro
  | x :: l, l₀, hP => by
    rw [show seqAll f (x :: l) = f x >>= fun _ => seqAll f l from rfl, wp_bind]
    refine (h l₀ x (hP x (by simp))).trans (wp_mono _ _ _ fun _ => ?_)
    have := wp_seqAll f I P h l (l₀ ++ [x]) (fun y hy => hP y (by simp [hy]))
    rwa [List.append_assoc] at this

end Rules

end Cert.Hand
-- ==== Proof.KernelBody.lean ====
/-
  What the kernel's body does, block by block: the quantised activations and the scaled-back weights
  are what the block's payload says on every block, and the result's array changes only by the trips
  of the multiplying loops, whose effect is followed by a statement `J` of the reader's choice.
-/
module

public import proofs.«01_k».proof.Proof.KernelCheck
public import proofs.«01_k».proof.Proof.Owns
public import proofs.«01_k».proof.Proof.Gen.Kernel.Frame

@[expose] public section

noncomputable section

namespace Cert.Kernel.Hand

open Cert.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The quantised activations -/

/-- The rectangle of a quantising block. -/
abbrev qrect (p : Fin k0_t1_loop.trips × Fin 22) : Rect S768x2816 := Rect.unit (s := S768x2816) (qoff p.1 p.2) S64x128.size (qoff_inb p.1 p.2)

/-- What a quantising block stores, of the activations `D`. -/
def qpay (D : Vec F S768x2816 .bf16) (p : Fin k0_t1_loop.trips × Fin 22) : (qrect p).shape.Idx → Elt F .bf16 :=
  k0_pay2 (fun y => D ((qrect p).emb y))

/-- `A` holds the activations `D` quantised and scaled back. -/
def IsQuant (D A : Vec F S768x2816 .bf16) : Prop := Agree qrect (qpay D) (fun _ => True) A

theorem qoff_row : ∀ (k : Fin k0_t1_loop.trips) (j : Fin 22), qoff k j 0 = 64 * k.val := by decide +kernel

theorem qrect_disjoint (p p' : Fin k0_t1_loop.trips × Fin 22) (h : p ≠ p') : Disjoint (qrect p).set (qrect p').set := by
  rw [Finset.disjoint_left]
  intro y hy hy'
  rw [Rect.mem_set_unit] at hy hy'
  have r0 := hy 0; have r0' := hy' 0; have r1 := hy 1; have r1' := hy' 1
  rw [qoff_row] at r0 r0'
  have c (q : Fin k0_t1_loop.trips × Fin 22) : qoff q.1 q.2 1 = 128 * q.2.val := rfl
  rw [c] at r1 r1'
  have s0 : S64x128.size 0 = 64 := rfl
  have s1 : S64x128.size 1 = 128 := rfl
  rw [s0] at r0 r0'
  rw [s1] at r1 r1'
  exact h (Prod.ext (Fin.ext (by omega)) (Fin.ext (by omega)))

section

variable (𝒱 : Variants) (c : Dev nD) (bd : Option 𝒱.V) (E : Set ℕ)

/-- One quantising block. -/
theorem qblk_wp (arg3 : Memref sig .tc .vmem S768x2816 .bf16) (arg6 : Memref sig .tc .vmem S768x2816 .bf16) (harg6 : arg6.IsWhole)
    (D A : Vec F S768x2816 .bf16) (k : Fin k0_t1_loop.trips) (j : Fin 22) :
    (iprop(owns (c : Thread nD τ) arg3 fullShare D ∗ owns (c : Thread nD τ) arg6 fullShare A) : sProp 𝕄)
      ⊢ wp frame (wpE (defs₀ (F := F)) 𝒱 (c : Thread nD τ) bd) E (qblk arg3 arg6 harg6 k j)
        (fun _ => iprop(owns (c : Thread nD τ) arg3 fullShare D ∗ owns (c : Thread nD τ) arg6 fullShare ((qrect (k, j)).overlay A (qpay D (k, j))))) := by
  unfold qblk
  iintro ⟨H3, H6⟩
  iapply (wp_load_lift 𝒱 (c : Thread nD τ) bd E) $$ H3
  iintro H3
  iapply (wp_load_lift 𝒱 (c : Thread nD τ) bd E) $$ H6
  iintro H6
  iapply (wp_store_lift 𝒱 (c : Thread nD τ) bd E) $$ H6
  iintro H6
  isplitl [H3]
  · iexact H3
  · iexact H6

/-- One trip of the quantising loop: the trip's 22 blocks come to hold what they should. -/
theorem qtrip_wp (arg3 : Memref sig .tc .vmem S768x2816 .bf16) (arg6 : Memref sig .tc .vmem S768x2816 .bf16) (harg6 : arg6.IsWhole)
    (D : Vec F S768x2816 .bf16) (k : Fin k0_t1_loop.trips) :
    (iprop(owns (c : Thread nD τ) arg3 fullShare D ∗ ∃ A, ⌜Agree qrect (qpay D) (fun p => p.1.val < k.val) A⌝ ∗ owns (c : Thread nD τ) arg6 fullShare A) : sProp 𝕄)
      ⊢ wp frame (wpE (defs₀ (F := F)) 𝒱 (c : Thread nD τ) bd) E (seqAll (qblk arg3 arg6 harg6 k) qlist)
        (fun _ => iprop(owns (c : Thread nD τ) arg3 fullShare D ∗ ∃ A, ⌜Agree qrect (qpay D) (fun p => p.1.val < k.val + 1) A⌝ ∗ owns (c : Thread nD τ) arg6 fullShare A)) := by
  let I : List (Fin 22) → sProp 𝕄 := fun l =>
    iprop(owns (c : Thread nD τ) arg3 fullShare D ∗ ∃ A, ⌜Agree qrect (qpay D) (fun p => p.1.val < k.val ∨ (p.1 = k ∧ p.2 ∈ l)) A⌝ ∗ owns (c : Thread nD τ) arg6 fullShare A)
  have hstep : ∀ l x, True → I l ⊢ wp frame (wpE (defs₀ (F := F)) 𝒱 (c : Thread nD τ) bd) E (qblk arg3 arg6 harg6 k x) (fun _ => I (l ++ [x])) := by
    intro l x _
    dsimp only [I]
    iintro ⟨H3, %A, %hA, H6⟩
    have hpost : (iprop(owns (c : Thread nD τ) arg3 fullShare D ∗ owns (c : Thread nD τ) arg6 fullShare ((qrect (k, x)).overlay A (qpay D (k, x)))) : sProp 𝕄) ⊢ I (l ++ [x]) := by
      dsimp only [I]
      iintro ⟨H3, H6⟩
      isplitl [H3]
      · iexact H3
      iexists (qrect (k, x)).overlay A (qpay D (k, x))
      isplitr
      · ipureintro
        refine Agree.step qrect_disjoint hA (k, x) fun p hp => ?_
        rcases hp with hp | ⟨hp, hx⟩
        · exact Or.inl (Or.inl hp)
        · rcases List.mem_append.1 hx with hx | hx
          · exact Or.inl (Or.inr ⟨hp, hx⟩)
          · exact Or.inr (Prod.ext hp (List.mem_singleton.1 hx))
      · iexact H6
    iapply ((qblk_wp 𝒱 c bd E arg3 arg6 harg6 D A k x).trans (wp_mono _ _ _ fun _ => hpost))
    isplitl [H3] <;> iassumption
  have hall := wp_seqAll 𝒱 (c : Thread nD τ) bd E (qblk (F := F) arg3 arg6 harg6 k) I (fun _ => True) hstep qlist [] (fun _ _ => trivial)
  have hmem : ∀ j : Fin 22, j ∈ qlist := by decide
  have hpre : (iprop(owns (c : Thread nD τ) arg3 fullShare D ∗ ∃ A, ⌜Agree qrect (qpay D) (fun p => p.1.val < k.val) A⌝ ∗ owns (c : Thread nD τ) arg6 fullShare A) : sProp 𝕄) ⊢ I [] := by
    dsimp only [I]
    iintro ⟨H3, %A, %hA, H6⟩
    isplitl [H3]
    · iexact H3
    iexists A
    isplitr
    · ipureintro
      exact fun p hp => hA p (hp.resolve_right fun h => by simp at h)
    · iexact H6
  refine hpre.trans (hall.trans (wp_mono _ _ _ fun _ => ?_))
  · dsimp only [I]
    iintro ⟨H3, %A, %hA, H6⟩
    isplitl [H3]
    · iexact H3
    iexists A
    isplitr
    · ipureintro
      intro p hp
      refine hA p ?_
      rcases Nat.lt_or_ge p.1.val k.val with h | h
      · exact Or.inl h
      · exact Or.inr ⟨Fin.ext (by omega), hmem _⟩
    · iexact H6

/-- The quantising loop: whatever the scratch held, it comes to hold the activations quantised. -/
theorem qloop_wp (arg3 : Memref sig .tc .vmem S768x2816 .bf16) (arg6 : Memref sig .tc .vmem S768x2816 .bf16) (harg6 : arg6.IsWhole)
    (D A : Vec F S768x2816 .bf16) (hok : k0_t1_loop.OK) :
    (iprop(owns (c : Thread nD τ) arg3 fullShare D ∗ owns (c : Thread nD τ) arg6 fullShare A) : sProp 𝕄)
      ⊢ wp frame (wpE (defs₀ (F := F)) 𝒱 (c : Thread nD τ) bd) E
        (Scf.Loop.for k0_t1_loop hok ⟨⟩ (fun k _ => seqAll (qblk arg3 arg6 harg6 k) qlist))
        (fun _ => iprop(owns (c : Thread nD τ) arg3 fullShare D ∗ ∃ A, ⌜IsQuant D A⌝ ∗ owns (c : Thread nD τ) arg6 fullShare A)) := by
  iintro ⟨H3, H6⟩
  iapply (Scf.wp_for _ _ E k0_t1_loop.lb k0_t1_loop.ub k0_t1_loop.st hok ⟨⟩ (fun k _ => seqAll (qblk (F := F) arg3 arg6 harg6 k) qlist)
    (fun k _ => iprop(owns (c : Thread nD τ) arg3 fullShare D ∗ ∃ A, ⌜Agree qrect (qpay D) (fun p => p.1.val < k) A⌝ ∗ owns (c : Thread nD τ) arg6 fullShare A))
    (fun k _ => qtrip_wp 𝒱 c bd E arg3 arg6 harg6 D k))
  isplitl [H3 H6]
  · isplitl [H3]
    · iexact H3
    iexists A
    isplitr
    · ipureintro
      exact fun p hp => absurd hp (Nat.not_lt_zero _)
    · iexact H6
  · iintro %_ ⟨H3, %A', %hA, H6⟩
    isplitl [H3]
    · iexact H3
    iexists A'
    isplitr
    · ipureintro
      exact fun p _ => hA p p.1.isLt
    · iexact H6

/-! ## The weights scaled back -/

/-- The rectangle of a block of the quarter scaled back. -/
abbrev drect (j : Fin 44) : Rect S256x2816 := Rect.unit (s := S256x2816) (doff j) S128x128.size (doff_inb j)

/-- What a block stores, of the factors `S` and the weights `W`. -/
def dpay (i : grid0.Coords) (nt : Fin 4) (S : Vec F S9x176 .f32) (W : Vec F S1x1024x2816 .fp8e4m3) (j : Fin 44) : (drect j).shape.Idx → Elt F .bf16 :=
  k0_pay79 (S ((Rect.unit (s := S9x176) (soff i nt j) S1x1.size (soff_inb i nt j)).emb (Shape.Idx.first (numel1_S1x1.symm ▸ Nat.one_pos))))
    (fun y => W ((Rect.unit (s := S1x1024x2816) (woff nt j) S1x128x128.size (woff_inb nt j)).emb y))

/-- `Z` holds quarter `nt` of the weights scaled back. -/
def IsWd (i : grid0.Coords) (nt : Fin 4) (S : Vec F S9x176 .f32) (W : Vec F S1x1024x2816 .fp8e4m3) (Z : Vec F S256x2816 .bf16) : Prop :=
  Agree drect (dpay i nt S W) (fun _ => True) Z

theorem drect_disjoint (j j' : Fin 44) (h : j ≠ j') : Disjoint (drect j).set (drect j').set := by
  rw [Finset.disjoint_left]
  intro y hy hy'
  rw [Rect.mem_set_unit] at hy hy'
  have r0 := hy 0; have r0' := hy' 0; have r1 := hy 1; have r1' := hy' 1
  have c0 (q : Fin 44) : doff q 0 = 128 * (q.val / 22) := rfl
  have c1 (q : Fin 44) : doff q 1 = 128 * (q.val % 22) := rfl
  have s0 : S128x128.size 0 = 128 := rfl
  have s1 : S128x128.size 1 = 128 := rfl
  rw [c0, s0] at r0 r0'
  rw [c1, s1] at r1 r1'
  exact h (Fin.ext (by omega))

/-- One block of the weights. -/
theorem wblk_wp (i : grid0.Coords) (arg2 : Memref sig .tc .smem S9x176 .f32) (arg4 : Memref sig .tc .vmem S1x1024x2816 .fp8e4m3)
    (arg7 : Memref sig .tc .vmem S256x2816 .bf16) (harg7 : arg7.IsWhole) (nt : Fin 4) (j : Fin 44)
    (S : Vec F S9x176 .f32) (W : Vec F S1x1024x2816 .fp8e4m3) (Z : Vec F S256x2816 .bf16) :
    (iprop(owns (c : Thread nD τ) arg2 fullShare S ∗ owns (c : Thread nD τ) arg4 fullShare W ∗ owns (c : Thread nD τ) arg7 fullShare Z) : sProp 𝕄)
      ⊢ wp frame (wpE (defs₀ (F := F)) 𝒱 (c : Thread nD τ) bd) E (wblk i arg2 arg4 arg7 harg7 nt j)
        (fun _ => iprop(owns (c : Thread nD τ) arg2 fullShare S ∗ owns (c : Thread nD τ) arg4 fullShare W ∗
          owns (c : Thread nD τ) arg7 fullShare ((drect j).overlay Z (dpay i nt S W j)))) := by
  unfold wblk
  iintro ⟨H2, H4, H7⟩
  iapply (wp_smem_lift 𝒱 (c : Thread nD τ) bd E) $$ H2
  iintro H2
  iapply (wp_load_lift 𝒱 (c : Thread nD τ) bd E) $$ H4
  iintro H4
  iapply (wp_load_lift 𝒱 (c : Thread nD τ) bd E) $$ H7
  iintro H7
  iapply (wp_store_lift 𝒱 (c : Thread nD τ) bd E) $$ H7
  iintro H7
  isplitl [H2]
  · iexact H2
  isplitl [H4]
  · iexact H4
  · iexact H7

/-- The blocks of a quarter of the weights. -/
theorem wseg_wp (i : grid0.Coords) (arg2 : Memref sig .tc .smem S9x176 .f32) (arg4 : Memref sig .tc .vmem S1x1024x2816 .fp8e4m3)
    (arg7 : Memref sig .tc .vmem S256x2816 .bf16) (harg7 : arg7.IsWhole) (nt : Fin 4)
    (S : Vec F S9x176 .f32) (W : Vec F S1x1024x2816 .fp8e4m3) :
    (iprop(owns (c : Thread nD τ) arg2 fullShare S ∗ owns (c : Thread nD τ) arg4 fullShare W ∗ ∃ Z, owns (c : Thread nD τ) arg7 fullShare Z) : sProp 𝕄)
      ⊢ wp frame (wpE (defs₀ (F := F)) 𝒱 (c : Thread nD τ) bd) E (seqAll (wblk i arg2 arg4 arg7 harg7 nt) wlist)
        (fun _ => iprop(owns (c : Thread nD τ) arg2 fullShare S ∗ owns (c : Thread nD τ) arg4 fullShare W ∗
          ∃ Z, ⌜IsWd i nt S W Z⌝ ∗ owns (c : Thread nD τ) arg7 fullShare Z)) := by
  let I : List (Fin 44) → sProp 𝕄 := fun l =>
    iprop(owns (c : Thread nD τ) arg2 fullShare S ∗ owns (c : Thread nD τ) arg4 fullShare W ∗
      ∃ Z, ⌜Agree drect (dpay i nt S W) (fun j => j ∈ l) Z⌝ ∗ owns (c : Thread nD τ) arg7 fullShare Z)
  have hstep : ∀ l x, True → I l ⊢ wp frame (wpE (defs₀ (F := F)) 𝒱 (c : Thread nD τ) bd) E (wblk i arg2 arg4 arg7 harg7 nt x) (fun _ => I (l ++ [x])) := by
    intro l x _
    dsimp only [I]
    iintro ⟨H2, H4, %Z, %hZ, H7⟩
    have hpost : (iprop(owns (c : Thread nD τ) arg2 fullShare S ∗ owns (c : Thread nD τ) arg4 fullShare W ∗
      owns (c : Thread nD τ) arg7 fullShare ((drect x).overlay Z (dpay i nt S W x))) : sProp 𝕄) ⊢ I (l ++ [x]) := by
      dsimp only [I]
      iintro ⟨H2, H4, H7⟩
      isplitl [H2]
      · iexact H2
      isplitl [H4]
      · iexact H4
      iexists (drect x).overlay Z (dpay i nt S W x)
      isplitr
      · ipureintro
        refine Agree.step drect_disjoint hZ x fun p hp => ?_
        rcases List.mem_append.1 hp with hx | hx
        · exact Or.inl hx
        · exact Or.inr (List.mem_singleton.1 hx)
      · iexact H7
    iapply ((wblk_wp 𝒱 c bd E i arg2 arg4 arg7 harg7 nt x S W Z).trans (wp_mono _ _ _ fun _ => hpost))
    isplitl [H2]
    · iexact H2
    isplitl [H4] <;> iassumption
  have hall := wp_seqAll 𝒱 (c : Thread nD τ) bd E (wblk (F := F) i arg2 arg4 arg7 harg7 nt) I (fun _ => True) hstep wlist [] (fun _ _ => trivial)
  have hmem : ∀ j : Fin 44, j ∈ wlist := by decide
  have hpre : (iprop(owns (c : Thread nD τ) arg2 fullShare S ∗ owns (c : Thread nD τ) arg4 fullShare W ∗ ∃ Z, owns (c : Thread nD τ) arg7 fullShare Z) : sProp 𝕄) ⊢ I [] := by
    dsimp only [I]
    iintro ⟨H2, H4, %Z, H7⟩
    isplitl [H2]
    · iexact H2
    isplitl [H4]
    · iexact H4
    iexists Z
    isplitr
    · ipureintro
      exact fun p hp => absurd hp (List.not_mem_nil)
    · iexact H7
  refine hpre.trans (hall.trans (wp_mono _ _ _ fun _ => ?_))
  · dsimp only [I]
    iintro ⟨H2, H4, %Z, %hZ, H7⟩
    isplitl [H2]
    · iexact H2
    isplitl [H4]
    · iexact H4
    iexists Z
    isplitr
    · ipureintro
      exact fun p _ => hZ p (hmem p)
    · iexact H7

/-! ## The multiplying loops -/

/-- The result's array after a trip over the row block `row` of quarter `nt`. -/
def mstore (lo hi : BitVec 32) (nt : Fin 4) (row : BitVec 32) (h : RowOK row) (A : Vec F S768x2816 .bf16) (Z : Vec F S256x2816 .bf16)
    (O : Vec F S768x1024 .bf16) : Vec F S768x1024 .bf16 :=
  (Rect.unit (s := S768x1024) (ooff nt row) S64x256.size (ooff_inb nt h)).overlay O
    (mpay lo hi row (fun y => A ((Rect.unit (s := S768x2816) (aoff row) S64x2816.size (aoff_inb h)).emb y))
      (fun y => Z ((Rect.unit (s := S256x2816) ![0, 0] S256x2816.size inb_S256x2816_S256x2816_0_0).emb y))
      (fun y => O ((Rect.unit (s := S768x1024) (ooff nt row) S64x256.size (ooff_inb nt h)).emb y)))

/-- One trip. -/
theorem mtrip_wp (arg5 : Memref sig .tc .vmem S768x1024 .bf16) (harg5 : arg5.IsWhole) (arg6 : Memref sig .tc .vmem S768x2816 .bf16)
    (arg7 : Memref sig .tc .vmem S256x2816 .bf16) (lo hi : BitVec 32) (nt : Fin 4) (row : BitVec 32) (h : RowOK row)
    (O : Vec F S768x1024 .bf16) (A : Vec F S768x2816 .bf16) (Z : Vec F S256x2816 .bf16) :
    (iprop(owns (c : Thread nD τ) arg6 fullShare A ∗ owns (c : Thread nD τ) arg7 fullShare Z ∗ owns (c : Thread nD τ) arg5 fullShare O) : sProp 𝕄)
      ⊢ wp frame (wpE (defs₀ (F := F)) 𝒱 (c : Thread nD τ) bd) E (mtrip arg5 harg5 arg6 arg7 lo hi nt row h)
        (fun _ => iprop(owns (c : Thread nD τ) arg6 fullShare A ∗ owns (c : Thread nD τ) arg7 fullShare Z ∗
          owns (c : Thread nD τ) arg5 fullShare (mstore lo hi nt row h A Z O))) := by
  unfold mtrip
  iintro ⟨H6, H7, H5⟩
  iapply (wp_load_lift 𝒱 (c : Thread nD τ) bd E) $$ H6
  iintro H6
  iapply (wp_load_lift 𝒱 (c : Thread nD τ) bd E) $$ H7
  iintro H7
  iapply (wp_load_lift 𝒱 (c : Thread nD τ) bd E) $$ H5
  iintro H5
  iapply (wp_load_lift 𝒱 (c : Thread nD τ) bd E) $$ H5
  iintro H5
  iapply (wp_store_lift 𝒱 (c : Thread nD τ) bd E) $$ H5
  iintro H5
  isplitl [H6]
  · iexact H6
  isplitl [H7]
  · iexact H7
  · iexact H5

/-- The multiplying loops of quarter `nt`: a statement of the result's array that holds before trip 0, and that every trip carries
    to the next trip's, holds at the trip count. -/
theorem mloops_wp (arg5 : Memref sig .tc .vmem S768x1024 .bf16) (harg5 : arg5.IsWhole) (arg6 : Memref sig .tc .vmem S768x2816 .bf16)
    (arg7 : Memref sig .tc .vmem S256x2816 .bf16) (v9 v11 : BitVec 32) (hw : k0_chk1 v9 v11) (h2 : k0_cond2 v9 v11 = 1#1) (nt : Fin 4)
    (h5 : (k0_t5_loop v9 v11).trips = 0) (A : Vec F S768x2816 .bf16) (Z : Vec F S256x2816 .bf16)
    (J : ℕ → Vec F S768x1024 .bf16 → Prop)
    (hJ : ∀ (k : Fin (k0_t4_loop v9 v11).trips) O, J k.val O → J (k.val + 1) (mstore v9 (Scalar.addi v9 v11) nt (row4 v9 v11 k) (row4_ok hw h2 k) A Z O)) :
    (iprop(owns (c : Thread nD τ) arg6 fullShare A ∗ owns (c : Thread nD τ) arg7 fullShare Z ∗ ∃ O, ⌜J 0 O⌝ ∗ owns (c : Thread nD τ) arg5 fullShare O) : sProp 𝕄)
      ⊢ wp frame (wpE (defs₀ (F := F)) 𝒱 (c : Thread nD τ) bd) E (mloops arg5 harg5 arg6 arg7 v9 v11 hw h2 nt)
        (fun _ => iprop(owns (c : Thread nD τ) arg6 fullShare A ∗ owns (c : Thread nD τ) arg7 fullShare Z ∗
          ∃ O, ⌜J (k0_t4_loop v9 v11).trips O⌝ ∗ owns (c : Thread nD τ) arg5 fullShare O)) := by
  unfold mloops
  refine wp_seq 𝒱 (c : Thread nD τ) bd E (R := iprop(owns (c : Thread nD τ) arg6 fullShare A ∗ owns (c : Thread nD τ) arg7 fullShare Z ∗
          ∃ O, ⌜J (k0_t4_loop v9 v11).trips O⌝ ∗ owns (c : Thread nD τ) arg5 fullShare O)) ?_ ?_
  · iintro HH
    iapply (Scf.wp_for _ _ E (k0_t4_loop v9 v11).lb (k0_t4_loop v9 v11).ub (k0_t4_loop v9 v11).st (k0_t4_ok v9 v11 hw h2) ⟨⟩
      (fun k _ => mtrip (F := F) arg5 harg5 arg6 arg7 v9 (Scalar.addi v9 v11) nt (row4 v9 v11 k) (row4_ok hw h2 k))
      (fun k _ => iprop(owns (c : Thread nD τ) arg6 fullShare A ∗ owns (c : Thread nD τ) arg7 fullShare Z ∗ ∃ O, ⌜J k O⌝ ∗ owns (c : Thread nD τ) arg5 fullShare O))
      (fun k _ => ?_))
    · iintro ⟨H6, H7, %O, %hO, H5⟩
      have hpost : (iprop(owns (c : Thread nD τ) arg6 fullShare A ∗ owns (c : Thread nD τ) arg7 fullShare Z ∗
          owns (c : Thread nD τ) arg5 fullShare (mstore v9 (Scalar.addi v9 v11) nt (row4 v9 v11 k) (row4_ok hw h2 k) A Z O)) : sProp 𝕄)
          ⊢ iprop(owns (c : Thread nD τ) arg6 fullShare A ∗ owns (c : Thread nD τ) arg7 fullShare Z ∗ ∃ O, ⌜J (k.val + 1) O⌝ ∗ owns (c : Thread nD τ) arg5 fullShare O) := by
        iintro ⟨H6, H7, H5⟩
        isplitl [H6]
        · iexact H6
        isplitl [H7]
        · iexact H7
        iexists mstore v9 (Scalar.addi v9 v11) nt (row4 v9 v11 k) (row4_ok hw h2 k) A Z O
        isplitr
        · ipureintro
          exact hJ k O hO
        · iexact H5
      iapply ((mtrip_wp 𝒱 c bd E arg5 harg5 arg6 arg7 v9 (Scalar.addi v9 v11) nt (row4 v9 v11 k) (row4_ok hw h2 k) O A Z).trans (wp_mono _ _ _ fun _ => hpost))
      isplitl [H6]
      · iexact H6
      isplitl [H7] <;> iassumption
    · isplitl [HH]
      · iexact HH
      · iintro %_ HH
        iexact HH
  · iintro HH
    iapply (Scf.wp_for _ _ E (k0_t5_loop v9 v11).lb (k0_t5_loop v9 v11).ub (k0_t5_loop v9 v11).st (k0_t5_ok v9 v11 hw h2) ⟨⟩
      (fun k _ => mtrip (F := F) arg5 harg5 arg6 arg7 v9 (Scalar.addi v9 v11) nt (row5 v9 v11 k) (row5_ok hw h2 k))
      (fun k _ => iprop(owns (c : Thread nD τ) arg6 fullShare A ∗ owns (c : Thread nD τ) arg7 fullShare Z ∗ ∃ O, ⌜J (k0_t4_loop v9 v11).trips O⌝ ∗ owns (c : Thread nD τ) arg5 fullShare O))
      (fun k _ => (Nat.not_lt_zero _ (lt_of_lt_of_eq k.isLt h5)).elim))
    isplitl [HH]
    · iexact HH
    · iintro %_ HH
      iexact HH

/-- The program of an expert that has rows: quarter by quarter. `J nt k` is what is known of the result's array before trip `k` of
    quarter `nt`. -/
theorem heavy_wp (i : grid0.Coords) (arg2 : Memref sig .tc .smem S9x176 .f32) (arg4 : Memref sig .tc .vmem S1x1024x2816 .fp8e4m3)
    (arg5 : Memref sig .tc .vmem S768x1024 .bf16) (harg5 : arg5.IsWhole) (arg6 : Memref sig .tc .vmem S768x2816 .bf16)
    (arg7 : Memref sig .tc .vmem S256x2816 .bf16) (harg7 : arg7.IsWhole) (v9 v11 : BitVec 32) (hw : k0_chk1 v9 v11) (h2 : k0_cond2 v9 v11 = 1#1)
    (h5 : (k0_t5_loop v9 v11).trips = 0) (S : Vec F S9x176 .f32) (W : Vec F S1x1024x2816 .fp8e4m3) (A : Vec F S768x2816 .bf16)
    (J : ℕ → ℕ → Vec F S768x1024 .bf16 → Prop)
    (hJ : ∀ (nt : Fin 4) (k : Fin (k0_t4_loop v9 v11).trips) Z O, IsWd i nt S W Z → J nt.val k.val O →
      J nt.val (k.val + 1) (mstore v9 (Scalar.addi v9 v11) nt (row4 v9 v11 k) (row4_ok hw h2 k) A Z O))
    (hN : ∀ (nt : Fin 4) O, J nt.val (k0_t4_loop v9 v11).trips O → J (nt.val + 1) 0 O) :
    (iprop(owns (c : Thread nD τ) arg2 fullShare S ∗ owns (c : Thread nD τ) arg4 fullShare W ∗ owns (c : Thread nD τ) arg6 fullShare A ∗
        (∃ Z, owns (c : Thread nD τ) arg7 fullShare Z) ∗ ∃ O, ⌜J 0 0 O⌝ ∗ owns (c : Thread nD τ) arg5 fullShare O) : sProp 𝕄)
      ⊢ wp frame (wpE (defs₀ (F := F)) 𝒱 (c : Thread nD τ) bd) E (heavy i arg2 arg4 arg5 harg5 arg6 arg7 harg7 v9 v11 hw h2 [0, 1, 2, 3])
        (fun _ => iprop(owns (c : Thread nD τ) arg2 fullShare S ∗ owns (c : Thread nD τ) arg4 fullShare W ∗ owns (c : Thread nD τ) arg6 fullShare A ∗
          (∃ Z, owns (c : Thread nD τ) arg7 fullShare Z) ∗ ∃ O, ⌜J 4 0 O⌝ ∗ owns (c : Thread nD τ) arg5 fullShare O)) := by
  let I : ℕ → sProp 𝕄 := fun n =>
    iprop(owns (c : Thread nD τ) arg2 fullShare S ∗ owns (c : Thread nD τ) arg4 fullShare W ∗ owns (c : Thread nD τ) arg6 fullShare A ∗
        (∃ Z, owns (c : Thread nD τ) arg7 fullShare Z) ∗ ∃ O, ⌜J n 0 O⌝ ∗ owns (c : Thread nD τ) arg5 fullShare O)
  have hquarter : ∀ nt : Fin 4, I nt.val ⊢ wp frame (wpE (defs₀ (F := F)) 𝒱 (c : Thread nD τ) bd) E
      (seqAll (wblk i arg2 arg4 arg7 harg7 nt) wlist >>= fun _ => mloops arg5 harg5 arg6 arg7 v9 v11 hw h2 nt) (fun _ => I (nt.val + 1)) := by
    intro nt
    have hw1 := wp_keep 𝒱 (c : Thread nD τ) bd E (K := iprop(owns (c : Thread nD τ) arg6 fullShare A ∗ ∃ O, ⌜J nt.val 0 O⌝ ∗ owns (c : Thread nD τ) arg5 fullShare O))
      (wseg_wp 𝒱 c bd E i arg2 arg4 arg7 harg7 nt S W)
    have hpre : I nt.val ⊢ iprop((owns (c : Thread nD τ) arg2 fullShare S ∗ owns (c : Thread nD τ) arg4 fullShare W ∗ ∃ Z, owns (c : Thread nD τ) arg7 fullShare Z) ∗
        (owns (c : Thread nD τ) arg6 fullShare A ∗ ∃ O, ⌜J nt.val 0 O⌝ ∗ owns (c : Thread nD τ) arg5 fullShare O)) := by
      dsimp only [I]
      iintro ⟨H2, H4, H6, H7, H5⟩
      isplitl [H2 H4 H7]
      · isplitl [H2]
        · iexact H2
        isplitl [H4]
        · iexact H4
        · iexact H7
      isplitl [H6]
      · iexact H6
      · iexact H5
    refine wp_seq 𝒱 (c : Thread nD τ) bd E (hpre.trans hw1) ?_
    iintro ⟨⟨H2, H4, %Z, %hZ, H7⟩, H6, H5⟩
    have hm := wp_keep 𝒱 (c : Thread nD τ) bd E (K := iprop(owns (c : Thread nD τ) arg2 fullShare S ∗ owns (c : Thread nD τ) arg4 fullShare W))
      (mloops_wp 𝒱 c bd E arg5 harg5 arg6 arg7 v9 v11 hw h2 nt h5 A Z (J nt.val) (fun k O hO => hJ nt k Z O hZ hO))
    have hpost : (iprop((owns (c : Thread nD τ) arg6 fullShare A ∗ owns (c : Thread nD τ) arg7 fullShare Z ∗
          ∃ O, ⌜J nt.val (k0_t4_loop v9 v11).trips O⌝ ∗ owns (c : Thread nD τ) arg5 fullShare O) ∗ (owns (c : Thread nD τ) arg2 fullShare S ∗ owns (c : Thread nD τ) arg4 fullShare W)) : sProp 𝕄)
        ⊢ I (nt.val + 1) := by
      dsimp only [I]
      iintro ⟨⟨H6, H7, %O, %hO, H5⟩, H2, H4⟩
      isplitl [H2]
      · iexact H2
      isplitl [H4]
      · iexact H4
      isplitl [H6]
      · iexact H6
      isplitl [H7]
      · iexists Z
        iexact H7
      iexists O
      isplitr
      · ipureintro
        exact hN nt O hO
      · iexact H5
    iapply (hm.trans (wp_mono _ _ _ fun _ => hpost))
    isplitl [H6 H7 H5]
    · isplitl [H6]
      · iexact H6
      isplitl [H7]
      · iexact H7
      · iexact H5
    isplitl [H2]
    · iexact H2
    · iexact H4
  show I 0 ⊢ wp _ _ _ _ (fun _ => I 4)
  unfold heavy
  refine wp_seq 𝒱 (c : Thread nD τ) bd E (hquarter 0) ?_
  refine wp_seq 𝒱 (c : Thread nD τ) bd E (hquarter 1) ?_
  refine wp_seq 𝒱 (c : Thread nD τ) bd E (hquarter 2) ?_
  refine wp_seq 𝒱 (c : Thread nD τ) bd E (hquarter 3) ?_
  exact fupd_intro

end

end Cert.Kernel.Hand
-- ==== Proof.Sizes.lean ====
module

public import proofs.«01_k».proof.Proof.Gen.Pre_sizes_fit
public import proofs.«01_k».proof.Proof.Gen.Pre_contract
public import Idealize.ShloMosaic.Lib.ReduceAll
public import Idealize.ShloMosaic.Lib.WordCmp
public import Idealize.ShloMosaic.PureOps.Ideal.Laws
public import Mathlib.Tactic.Linarith
public import Mathlib.Tactic.NormNum

@[expose] public section

/-! The group sizes: their running sum, and what the preconditions say of it. -/

noncomputable section

namespace Cert.Hand

open Idealize.ShloMosaic

/-- The shape of the group sizes. -/
abbrev Sz : Shape := ⟨1, ![9]⟩

/-- The place of expert `n` in the group sizes. -/
def ix9 (n : ℕ) : Sz.Idx := fun a => ⟨n % 9, by fin_cases a; exact Nat.mod_lt n (by decide)⟩

/-- The sum of the first `n` group sizes. -/
def gsum (G : Sz.Idx → BitVec 32) : ℕ → BitVec 32
  | 0 => 0#32
  | n + 1 => Scalar.addi (gsum G n) (G (ix9 n))

theorem ix9_surj (i : Sz.Idx) : ix9 (i 0).val = i := by
  funext a
  fin_cases a
  exact Fin.ext (Nat.mod_eq_of_lt (i 0).isLt)

/-- The host's sum is the running sum's last. -/
theorem reduce_addi (G : Sz.Idx → BitVec 32) {u t : Shape} (init : u.Idx → BitVec 32) (hi : ∀ j, init j = 0#32) [Subsingleton t.Idx] {axes : List (Fin Sz.rank)}
    (h : Sz.ReducesTo axes t) (hu : 0 < u.numel) (j : t.Idx) : Host.reduce IntOp.addi G init h hu j = gsum G 9 := by
  rw [Host.reduce_eq_foldl, hi]
  have hl : (List.finRange Sz.numel).map Sz.rowMajor.symm = [ix9 0, ix9 1, ix9 2, ix9 3, ix9 4, ix9 5, ix9 6, ix9 7, ix9 8] := by decide +kernel
  rw [hl, List.filter_eq_self.2 (fun i _ => by simp [Subsingleton.elim (h.drop i) j])]
  rfl

/-- Sizes that are none negative and no greater than the number of rows: the running sum does not wrap. -/
theorem gsum_toNat (G : Sz.Idx → BitVec 32) (hG : ∀ i, (G i).toNat ≤ 768) (n : ℕ) (hn : n ≤ 9) :
    (gsum G n).toNat = ∑ e ∈ Finset.range n, (G (ix9 e)).toNat ∧ (gsum G n).toNat ≤ 768 * n := by
  induction n with
  | zero => exact ⟨rfl, le_rfl⟩
  | succ n ih =>
    obtain ⟨h1, h2⟩ := ih (by omega)
    have hg := hG (ix9 n)
    have ha : (gsum G (n + 1)).toNat = (gsum G n).toNat + (G (ix9 n)).toNat := by
      change (gsum G n + G (ix9 n)).toNat = _
      rw [BitVec.toNat_add, Nat.mod_eq_of_lt]
      omega
    rw [Finset.sum_range_succ, ← h1]
    exact ⟨ha, by omega⟩

/-- The running sum grows. -/
theorem gsum_mono (G : Sz.Idx → BitVec 32) (hG : ∀ i, (G i).toNat ≤ 768) (n : ℕ) (hn : n ≤ 9) : (gsum G n).toNat ≤ (gsum G 9).toNat := by
  rw [(gsum_toNat G hG n hn).1, (gsum_toNat G hG 9 le_rfl).1]
  exact Finset.sum_le_sum_of_subset (Finset.range_mono hn)

/-- Sizes none negative, whose sum is no greater than the number of rows. -/
structure Fits (G : Sz.Idx → BitVec 32) : Prop where
  each : ∀ i, (G i).toNat ≤ 768
  all : (gsum G 9).toNat ≤ 768

theorem Fits.rows {G : Sz.Idx → BitVec 32} (h : Fits G) (n : ℕ) (hn : n < 9) : (gsum G n).toNat + (G (ix9 n)).toNat ≤ 768 := by
  have h1 := gsum_mono G h.each (n + 1) hn
  have h2 := (gsum_toNat G h.each (n + 1) hn).1
  rw [Finset.sum_range_succ, ← (gsum_toNat G h.each n hn.le).1] at h2
  have := h.all
  omega

theorem le_of_words (x : BitVec 32) (h0 : IntOp.cmpi .sge x 0#32 = 1#1) (h1 : IntOp.cmpi .sle x 768#32 = 1#1) : x.toNat ≤ 768 := by
  have hb : ∀ b : Bool, BitVec.ofBool b = 1#1 → b = true := by decide
  change BitVec.ofBool (decide _) = _ at h0
  change BitVec.ofBool (decide _) = _ at h1
  have h0 := of_decide_eq_true (hb _ h0)
  have h1 := of_decide_eq_true (hb _ h1)
  have z : (0#32).toInt = 0 := rfl
  have t : (768#32).toInt = 768 := rfl
  have hx := BitVec.toInt_eq_toNat_cond x
  have := x.isLt
  split at hx <;> omega

theorem le_of_words' (x : BitVec 32) (hx : x.toNat ≤ 6912) (h1 : IntOp.cmpi .sle x 768#32 = 1#1) : x.toNat ≤ 768 := by
  have hb : ∀ b : Bool, BitVec.ofBool b = 1#1 → b = true := by decide
  change BitVec.ofBool (decide _) = _ at h1
  have h1 := of_decide_eq_true (hb _ h1)
  have t : (768#32).toInt = 768 := rfl
  have hx' := BitVec.toInt_eq_toNat_cond x
  split at hx' <;> omega

theorem of_andi : ∀ a b : BitVec 1, IntOp.andi a b = 1#1 → a = 1#1 ∧ b = 1#1 := by decide

theorem of_eq (a b : BitVec 32) (h : IntOp.cmpi .eq a b = 1#1) : a = b := by
  have hb : ∀ b : Bool, BitVec.ofBool b = 1#1 → b = true := by decide
  exact of_decide_eq_true (hb _ h)

/-- The greatest finite bf16 number. -/
def bf16Max : ℝ := 255 * 2 ^ 120

theorem bf16Max_eq : Ideal.ofBits .bf16 0x7F7F#16 = ((bf16Max : ℝ) : EReal) := by
  simp [Ideal.ofBits, Ideal.ieee, bf16Max]

/-- An ideal number whose absolute value is at most a real is real. -/
theorem real_of_abs_le (x : EReal) (B : ℝ) (h : max x (-x) ≤ (B : EReal)) : ∃ r : ℝ, x = (r : EReal) ∧ |r| ≤ B := by
  obtain ⟨h1, h2⟩ := max_le_iff.1 h
  induction x with
  | bot => exact absurd h2 (by simp)
  | top => exact absurd h1 (by simp)
  | coe r =>
    refine ⟨r, rfl, abs_le.2 ⟨?_, EReal.coe_le_coe_iff.1 h1⟩⟩
    have := EReal.coe_le_coe_iff.1 (show ((-r : ℝ) : EReal) ≤ (B : EReal) from h2)
    linarith

variable {F : FTy → Type} [FloatOps F]

theorem fits_of_sizes_fit (D : FVec F Pre_sizes_fit.S768x2816 .bf16) (G : IVec Pre_sizes_fit.S9 32) (W : FVec F Pre_sizes_fit.S9x1024x2816 .fp8e4m3) (S : FVec F Pre_sizes_fit.S9x8x22 .f32)
    (h : (Pre_sizes_fit.fn D G W S) = fun _ => 1#1) : Fits G := by
  have h' := congrFun h (fun a => a.elim0)
  obtain ⟨ha, hb⟩ := of_andi _ _ h'
  have hs : Subsingleton Pre_sizes_fit.S_.Idx := ⟨fun a b => funext fun i => i.elim0⟩
  have hG : ∀ i, (G i).toNat ≤ 768 := fun i => le_of_words _ (of_andi _ _ (Host.reduce_andi_all _ _ _ _ _ ha i)).1 (of_andi _ _ (Host.reduce_andi_all _ _ _ _ _ ha i)).2
  refine ⟨hG, le_of_words' _ ?_ ?_⟩
  · exact (gsum_toNat G hG 9 le_rfl).2
  · rw [← reduce_addi G (constantI Pre_sizes_fit.S_ 32 0#32) (fun _ => rfl) Pre_sizes_fit.Facts.reducesTo_S9_S_d0 Pre_sizes_fit.Facts.h_S_ (fun a => a.elim0)]
    exact hb

/-- The contract: every activation is real and within bf16's range, the sizes fit and their sum is the number of rows. -/
theorem of_contract (D : FVec Ideal Pre_contract.S768x2816 .bf16) (G : IVec Pre_contract.S9 32) (W : FVec Ideal Pre_contract.S9x1024x2816 .fp8e4m3) (S : FVec Ideal Pre_contract.S9x8x22 .f32)
    (h : (Pre_contract.fn D G W S) = fun _ => 1#1) : (∀ i, ∃ r : ℝ, D i = (r : EReal) ∧ |r| ≤ bf16Max) ∧ Fits G ∧ (gsum G 9).toNat = 768 := by
  have h' := congrFun h (fun a => a.elim0)
  obtain ⟨hab, hc⟩ := of_andi _ _ h'
  obtain ⟨ha, hb⟩ := of_andi _ _ hab
  have hs : Subsingleton Pre_contract.S_.Idx := ⟨fun a b => funext fun i => i.elim0⟩
  have hG : ∀ i, (G i).toNat ≤ 768 := fun i => le_of_words _ (of_andi _ _ (Host.reduce_andi_all _ _ _ _ _ hb i)).1 (of_andi _ _ (Host.reduce_andi_all _ _ _ _ _ hb i)).2
  have hsum : gsum G 9 = 768#32 := by
    rw [← reduce_addi G (constantI Pre_contract.S_ 32 0#32) (fun _ => rfl) Pre_contract.Facts.reducesTo_S9_S_d0 Pre_contract.Facts.h_S_ (fun a => a.elim0)]
    exact of_eq _ _ hc
  have hn : (gsum G 9).toNat = 768 := by rw [hsum]; rfl
  refine ⟨fun i => ?_, ⟨hG, hn.le⟩, hn⟩
  have hi := Host.reduce_andi_all _ _ _ _ _ ha i
  have hbo : ∀ b : Bool, BitVec.ofBool b = 1#1 → b = true := by decide
  have hle := of_decide_eq_true (hbo _ hi)
  refine real_of_abs_le _ _ ?_
  rw [← bf16Max_eq]
  exact hle

end Cert.Hand
-- ==== Proof.KernelRows.lean ====
module

public import proofs.«01_k».proof.Proof.KernelBody
public import proofs.«01_k».proof.Proof.Sizes

@[expose] public section

/-! The rows of an expert: where they start, which the kernel sums up, and how many there are. -/

noncomputable section

namespace Cert.Kernel.Hand

open Cert.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ)

/-- The place read through a one-element window at `n`. -/
theorem emb_ix9 {off : Fin 1 → ℕ} (h : ∀ a, off a + S1.size a ≤ S9.size a) (n : ℕ) (h0 : off 0 = n) (y : S1.Idx) :
    (Rect.unit (s := S9) off S1.size h).emb y = ix9 n := by
  funext a
  have hb := h a
  fin_cases a
  apply Fin.ext
  have hy : (y 0).val < 1 := (y 0).isLt
  have s1 : S1.size 0 = 1 := rfl
  have s9 : S9.size 0 = 9 := rfl
  change off 0 + S1.size 0 ≤ S9.size 0 at hb
  have he : ((Rect.unit (s := S9) off S1.size h).emb y 0).val = off 0 + (y 0).val := by
    rw [Rect.emb_apply]
    show off 0 + 1 * (y 0).val = _
    omega
  have hm : (ix9 n 0).val = n % 9 := rfl
  change ((Rect.unit (s := S9) off S1.size h).emb y 0).val = (ix9 n 0).val
  omega

theorem ofNat_self (v : BitVec 32) : v = BitVec.ofNat 32 v.toNat := by simp

theorem iv_nat : ∀ k : Fin 9, (Scalar.indexCast (Scf.iv 0#32 1#32 k)).toNat = k := by decide +kernel

theorem cast_nat : ∀ k : Fin 9, (Scalar.indexCast (BitVec.ofNat 32 k.val)).toNat = k := by decide +kernel

theorem trips2_dec : ∀ e : Fin 9, Scf.trips 0#32 (Scalar.addi 0#32 (Scalar.muli (Scalar.divsi (Scalar.subi (BitVec.ofNat 32 e.val) 0#32) 1#32) 1#32)) 1#32 = e := by
  decide +kernel

theorem trips3_dec : ∀ e : Fin 9, Scf.trips (Scalar.addi 0#32 (Scalar.muli (Scalar.divsi (Scalar.subi (BitVec.ofNat 32 e.val) 0#32) 1#32) 1#32))
    (Scalar.addi 0#32 (Scalar.subi (BitVec.ofNat 32 e.val) 0#32)) 1#32 = 0 := by
  decide +kernel

theorem trips2 (i : grid0.Coords) : (k0_t2_loop i).trips = (i 0).val := trips2_dec (i 0)

theorem trips3 (i : grid0.Coords) : (k0_t3_loop i).trips = 0 := trips3_dec (i 0)

theorem off23_eq (i : grid0.Coords) (k : Fin (k0_t2_loop i).trips) : k0_off23 i k 0 = k.val :=
  iv_nat ⟨k.val, lt_trans (lt_of_lt_of_eq k.isLt (trips2 i)) (i 0).isLt⟩

theorem off25_eq (i : grid0.Coords) : k0_off25 i 0 = (i 0).val := cast_nat (i 0)

variable (arg1 : Memref sig .tc .smem S9 .i32) (harg1 : arg1.IsWhole) (arg2 : Memref sig .tc .smem S9x176 .f32) (harg2 : arg2.IsWhole)
  (arg3 : Memref sig .tc .vmem S768x2816 .bf16) (harg3 : arg3.IsWhole) (arg4 : Memref sig .tc .vmem S1x1024x2816 .fp8e4m3) (harg4 : arg4.IsWhole)
  (arg5 : Memref sig .tc .vmem S768x1024 .bf16) (harg5 : arg5.IsWhole) (arg6 : Memref sig .tc .vmem S768x2816 .bf16) (harg6 : arg6.IsWhole)
  (arg7 : Memref sig .tc .vmem S256x2816 .bf16) (harg7 : arg7.IsWhole)

/-- A program and what follows it. -/
theorem wp_then {α β : Type} {p : Prog (TpuEff nD τ sig (Elt F) Λ₀ (c : Thread nD τ).2) α} {k : α → Prog (TpuEff nD τ sig (Elt F) Λ₀ (c : Thread nD τ).2) β}
    {P : sProp 𝕄} {R : α → sProp 𝕄} {Q : β → sProp 𝕄} (h1 : P ⊢ wp frame (wpE (defs₀ (F := F)) 𝒱 (c : Thread nD τ) bd) E p R)
    (h2 : ∀ a, R a ⊢ wp frame (wpE (defs₀ (F := F)) 𝒱 (c : Thread nD τ) bd) E (k a) Q) :
    P ⊢ wp frame (wpE (defs₀ (F := F)) 𝒱 (c : Thread nD τ) bd) E (p >>= k) Q := by
  rw [wp_bind]
  exact h1.trans (wp_mono _ _ _ h2)

/-- The summing loop finds the expert's first row. -/
theorem sum_wp (i : grid0.Coords) (G : Vec F S9 .i32) :
    (owns (c : Thread nD τ) arg1 fullShare G : sProp 𝕄)
      ⊢ wp frame (wpE (defs₀ (F := F)) 𝒱 (c : Thread nD τ) bd) E
        (Scf.Loop.for (k0_t2_loop i) (k0_t2_ok i) 0#32 (k0_t2_body (F := F) i arg1 harg1 arg2 harg2 arg3 harg3 arg4 harg4 arg5 harg5 arg6 harg6 arg7 harg7))
        (fun v => iprop(⌜v = gsum G (i 0).val⌝ ∗ owns (c : Thread nD τ) arg1 fullShare G)) := by
  iintro H1
  iapply (Scf.wp_for _ _ E (k0_t2_loop i).lb (k0_t2_loop i).ub (k0_t2_loop i).st (k0_t2_ok i) 0#32
    (k0_t2_body (F := F) i arg1 harg1 arg2 harg2 arg3 harg3 arg4 harg4 arg5 harg5 arg6 harg6 arg7 harg7)
    (fun k acc => iprop(⌜acc = gsum G k⌝ ∗ owns (c : Thread nD τ) arg1 fullShare G)) (fun k acc => ?_))
  · iintro ⟨%hacc, H1⟩
    unfold k0_t2_body
    iapply (wp_smem_lift 𝒱 (c : Thread nD τ) bd E) $$ H1
    iintro H1
    have hret : (iprop(⌜Scalar.addi acc (G ((Rect.unit (s := S9) (k0_off23 i k) S1.size (k0_off23_inb i k)).emb (Shape.Idx.first (numel1_S1.symm ▸ Nat.one_pos)))) = gsum G (k.val + 1)⌝ ∗ owns (c : Thread nD τ) arg1 fullShare G) : sProp 𝕄)
      ⊢ wp frame (wpE (defs₀ (F := F)) 𝒱 (c : Thread nD τ) bd) E (Prog.ret (Scalar.addi acc (G ((Rect.unit (s := S9) (k0_off23 i k) S1.size (k0_off23_inb i k)).emb (Shape.Idx.first (numel1_S1.symm ▸ Nat.one_pos)))))) (fun v => iprop(⌜v = gsum G (k.val + 1)⌝ ∗ owns (c : Thread nD τ) arg1 fullShare G)) :=
      fupd_intro
    iapply hret
    isplitr
    · ipureintro
      rw [emb_ix9 _ k.val (off23_eq i k), hacc]
      rfl
    · iexact H1
  · isplitl [H1]
    · isplitr
      · ipureintro
        rfl
      · iexact H1
    · iintro %acc ⟨%hacc, H1⟩
      isplitr
      · ipureintro
        rw [hacc, ← trips2 i]
      · iexact H1

/-- The loop after it makes no trip. -/
theorem sum3_wp (i : grid0.Coords) (v : BitVec 32) (P : sProp 𝕄) :
    P ⊢ wp frame (wpE (defs₀ (F := F)) 𝒱 (c : Thread nD τ) bd) E
        (Scf.Loop.for (k0_t3_loop i) (k0_t3_ok i) v (k0_t3_body (F := F) i arg1 harg1 arg2 harg2 arg3 harg3 arg4 harg4 arg5 harg5 arg6 harg6 arg7 harg7))
        (fun v' => iprop(⌜v' = v⌝ ∗ P)) := by
  iintro H1
  iapply (Scf.wp_for _ _ E (k0_t3_loop i).lb (k0_t3_loop i).ub (k0_t3_loop i).st (k0_t3_ok i) v
    (k0_t3_body (F := F) i arg1 harg1 arg2 harg2 arg3 harg3 arg4 harg4 arg5 harg5 arg6 harg6 arg7 harg7)
    (fun k acc => iprop(⌜acc = v⌝ ∗ P)) (fun k acc => (Nat.not_lt_zero _ (lt_of_lt_of_eq k.isLt (trips3 i))).elim))
  isplitl [H1]
  · isplitr
    · ipureintro
      rfl
    · iexact H1
  · iintro %acc HH
    iexact HH

/-- The rest of the body at an expert. `J nt k` is what is known of the result's array before trip `k` of quarter `nt`, `K` what is known at the end. -/
theorem rest_wp (i : grid0.Coords) (G : Vec F S9 .i32) (S : Vec F S9x176 .f32) (W : Vec F S1x1024x2816 .fp8e4m3) (A : Vec F S768x2816 .bf16)
    (hG : (gsum G (i 0).val).toNat + (G (ix9 (i 0).val)).toNat ≤ 768)
    (J : ℕ → ℕ → Vec F S768x1024 .bf16 → Prop) (K : Vec F S768x1024 .bf16 → Prop)
    (hJ : ∀ (hw : k0_chk1 (gsum G (i 0).val) (G (ix9 (i 0).val))) (h2 : k0_cond2 (gsum G (i 0).val) (G (ix9 (i 0).val)) = 1#1)
      (nt : Fin 4) (k : Fin (k0_t4_loop (gsum G (i 0).val) (G (ix9 (i 0).val))).trips) Z O, IsWd i nt S W Z → J nt.val k.val O →
      J nt.val (k.val + 1) (mstore (gsum G (i 0).val) (Scalar.addi (gsum G (i 0).val) (G (ix9 (i 0).val))) nt (row4 _ _ k) (row4_ok hw h2 k) A Z O))
    (hN : ∀ (nt : Fin 4) O, J nt.val (k0_t4_loop (gsum G (i 0).val) (G (ix9 (i 0).val))).trips O → J (nt.val + 1) 0 O)
    (hK : ∀ O, k0_cond2 (gsum G (i 0).val) (G (ix9 (i 0).val)) = 1#1 → J 4 0 O → K O)
    (hK0 : ∀ O, ¬ k0_cond2 (gsum G (i 0).val) (G (ix9 (i 0).val)) = 1#1 → J 0 0 O → K O) :
    (iprop(owns (c : Thread nD τ) arg1 fullShare G ∗ owns (c : Thread nD τ) arg2 fullShare S ∗ owns (c : Thread nD τ) arg4 fullShare W ∗ owns (c : Thread nD τ) arg6 fullShare A ∗
        (∃ Z, owns (c : Thread nD τ) arg7 fullShare Z) ∗ ∃ O, ⌜J 0 0 O⌝ ∗ owns (c : Thread nD τ) arg5 fullShare O) : sProp 𝕄)
      ⊢ wp frame (wpE (defs₀ (F := F)) 𝒱 (c : Thread nD τ) bd) E (rest arg1 harg1 arg2 harg2 arg3 harg3 arg4 harg4 arg5 harg5 arg6 harg6 arg7 harg7 i)
        (fun _ => iprop(owns (c : Thread nD τ) arg1 fullShare G ∗ owns (c : Thread nD τ) arg2 fullShare S ∗ owns (c : Thread nD τ) arg4 fullShare W ∗ owns (c : Thread nD τ) arg6 fullShare A ∗
          (∃ Z, owns (c : Thread nD τ) arg7 fullShare Z) ∗ ∃ O, ⌜K O⌝ ∗ owns (c : Thread nD τ) arg5 fullShare O)) := by
  unfold rest
  have hfirst := (BI.sep_mono_l (Q := iprop(owns (c : Thread nD τ) arg2 fullShare S ∗ owns (c : Thread nD τ) arg4 fullShare W ∗ owns (c : Thread nD τ) arg6 fullShare A ∗
        (∃ Z, owns (c : Thread nD τ) arg7 fullShare Z) ∗ ∃ O, ⌜J 0 0 O⌝ ∗ owns (c : Thread nD τ) arg5 fullShare O))
    (sum_wp 𝒱 c bd E arg1 harg1 arg2 harg2 arg3 harg3 arg4 harg4 arg5 harg5 arg6 harg6 arg7 harg7 i G)).trans (wp_frame_r _ _ _)
  refine wp_then 𝒱 c bd E hfirst fun v8 => ?_
  refine wp_then 𝒱 c bd E (sum3_wp 𝒱 c bd E arg1 harg1 arg2 harg2 arg3 harg3 arg4 harg4 arg5 harg5 arg6 harg6 arg7 harg7 i v8 _) fun v9 => ?_
  iintro ⟨%h9, ⟨%h8, H1⟩, H2, H4, H6, H7, H5⟩
  obtain rfl : v9 = gsum G (i 0).val := h9.trans h8
  iapply (wp_smem_lift 𝒱 (c : Thread nD τ) bd E) $$ H1
  rw [emb_ix9 _ (i 0).val (off25_eq i)]
  generalize hs : gsum G (i 0).val = v9 at *
  generalize hg : G (ix9 (i 0).val) = v11 at *
  iintro H1
  have hw : k0_chk1 v9 v11 := chk_of (ofNat_self _) (ofNat_self _) hG
  iapply (wp_assume (defs := defs₀ (F := F)) 𝒱 (c : Thread nD τ) bd E hw)
  have hb {α β : Type} (a : α) (f : α → Prog (TpuEff nD τ sig (Elt F) Λ₀ .tc) β) : (Prog.ret a).bind f = f a := rfl
  by_cases h2 : k0_cond2 v9 v11 = 1#1
  · have hh := wp_keep 𝒱 (c : Thread nD τ) bd E (K := owns (c : Thread nD τ) arg1 fullShare G)
      (heavy_wp 𝒱 c bd E i arg2 arg4 arg5 harg5 arg6 arg7 harg7 v9 v11 hw h2
        (trips5 (ofNat_self _) (ofNat_self _) hG) S W A J (hJ hw h2) hN)
    have hpost : (iprop((owns (c : Thread nD τ) arg2 fullShare S ∗ owns (c : Thread nD τ) arg4 fullShare W ∗ owns (c : Thread nD τ) arg6 fullShare A ∗
          (∃ Z, owns (c : Thread nD τ) arg7 fullShare Z) ∗ ∃ O, ⌜J 4 0 O⌝ ∗ owns (c : Thread nD τ) arg5 fullShare O) ∗ owns (c : Thread nD τ) arg1 fullShare G) : sProp 𝕄)
        ⊢ iprop(owns (c : Thread nD τ) arg1 fullShare G ∗ owns (c : Thread nD τ) arg2 fullShare S ∗ owns (c : Thread nD τ) arg4 fullShare W ∗ owns (c : Thread nD τ) arg6 fullShare A ∗
          (∃ Z, owns (c : Thread nD τ) arg7 fullShare Z) ∗ ∃ O, ⌜K O⌝ ∗ owns (c : Thread nD τ) arg5 fullShare O) := by
      iintro ⟨⟨H2, H4, H6, H7, %O, %hO, H5⟩, H1⟩
      isplitl [H1]
      · iexact H1
      isplitl [H2]
      · iexact H2
      isplitl [H4]
      · iexact H4
      isplitl [H6]
      · iexact H6
      isplitl [H7]
      · iexact H7
      iexists O
      isplitr
      · ipureintro
        exact hK O h2 hO
      · iexact H5
    have hall := hh.trans (wp_mono _ _ _ fun _ => hpost)
    rw [hb, dif_pos h2]
    iapply hall
    isplitr [H1]
    · isplitl [H2]
      · iexact H2
      isplitl [H4]
      · iexact H4
      isplitl [H6]
      · iexact H6
      isplitl [H7]
      · iexact H7
      · iexact H5
    · iexact H1
  · rw [hb, dif_neg h2]
    have hret : (iprop(owns (c : Thread nD τ) arg1 fullShare G ∗ owns (c : Thread nD τ) arg2 fullShare S ∗ owns (c : Thread nD τ) arg4 fullShare W ∗ owns (c : Thread nD τ) arg6 fullShare A ∗
          (∃ Z, owns (c : Thread nD τ) arg7 fullShare Z) ∗ ∃ O, ⌜K O⌝ ∗ owns (c : Thread nD τ) arg5 fullShare O) : sProp 𝕄)
        ⊢ wp frame (wpE (defs₀ (F := F)) 𝒱 (c : Thread nD τ) bd) E (Prog.ret PUnit.unit) (fun _ => iprop(owns (c : Thread nD τ) arg1 fullShare G ∗ owns (c : Thread nD τ) arg2 fullShare S ∗ owns (c : Thread nD τ) arg4 fullShare W ∗ owns (c : Thread nD τ) arg6 fullShare A ∗
          (∃ Z, owns (c : Thread nD τ) arg7 fullShare Z) ∗ ∃ O, ⌜K O⌝ ∗ owns (c : Thread nD τ) arg5 fullShare O)) := fupd_intro
    iapply hret
    icases H5 with ⟨%O, %hO, H5⟩
    isplitl [H1]
    · iexact H1
    isplitl [H2]
    · iexact H2
    isplitl [H4]
    · iexact H4
    isplitl [H6]
    · iexact H6
    isplitl [H7]
    · iexact H7
    iexists O
    isplitr
    · ipureintro
      exact hK0 O h2 hO
    · iexact H5

theorem cond1_dec : ∀ e : Fin 9, Scalar.cmpi .ne ((Scalar.extui (Scalar.cmpi .eq (BitVec.ofNat 32 e.val) 0#32) : BitVec 32)) 0#32 = 1#1 ↔ e.val = 0 := by
  decide +kernel

theorem cond1_iff (i : grid0.Coords) : k0_cond1 i = 1#1 ↔ (i 0).val = 0 := cond1_dec (i 0)

/-- The body at an expert. `PA` is what is known of the activations' scratch after the quantising step, `J nt k` what is known of the
    result's array before trip `k` of quarter `nt`, `K` what is known at the end. -/
theorem body_wp (i : grid0.Coords) (G : Vec F S9 .i32) (S : Vec F S9x176 .f32) (D : Vec F S768x2816 .bf16) (W : Vec F S1x1024x2816 .fp8e4m3)
    (O : Vec F S768x1024 .bf16) (A : Vec F S768x2816 .bf16)
    (hG : (gsum G (i 0).val).toNat + (G (ix9 (i 0).val)).toNat ≤ 768)
    (PA : Vec F S768x2816 .bf16 → Prop) (J : ℕ → ℕ → Vec F S768x1024 .bf16 → Prop) (K : Vec F S768x1024 .bf16 → Prop)
    (hq : (i 0).val = 0 → ∀ A', IsQuant D A' → PA A') (hs : (i 0).val ≠ 0 → PA A) (h0 : J 0 0 O)
    (hJ : ∀ (hw : k0_chk1 (gsum G (i 0).val) (G (ix9 (i 0).val))) (h2 : k0_cond2 (gsum G (i 0).val) (G (ix9 (i 0).val)) = 1#1)
      (nt : Fin 4) (k : Fin (k0_t4_loop (gsum G (i 0).val) (G (ix9 (i 0).val))).trips) A Z O, PA A → IsWd i nt S W Z → J nt.val k.val O →
      J nt.val (k.val + 1) (mstore (gsum G (i 0).val) (Scalar.addi (gsum G (i 0).val) (G (ix9 (i 0).val))) nt (row4 _ _ k) (row4_ok hw h2 k) A Z O))
    (hN : ∀ (nt : Fin 4) O, J nt.val (k0_t4_loop (gsum G (i 0).val) (G (ix9 (i 0).val))).trips O → J (nt.val + 1) 0 O)
    (hK : ∀ O, k0_cond2 (gsum G (i 0).val) (G (ix9 (i 0).val)) = 1#1 → J 4 0 O → K O)
    (hK0 : ∀ O, ¬ k0_cond2 (gsum G (i 0).val) (G (ix9 (i 0).val)) = 1#1 → J 0 0 O → K O) :
    (iprop(owns (c : Thread nD τ) arg1 fullShare G ∗ owns (c : Thread nD τ) arg2 fullShare S ∗ owns (c : Thread nD τ) arg3 fullShare D ∗
        owns (c : Thread nD τ) arg4 fullShare W ∗ owns (c : Thread nD τ) arg5 fullShare O ∗ owns (c : Thread nD τ) arg6 fullShare A ∗
        (∃ Z, owns (c : Thread nD τ) arg7 fullShare Z)) : sProp 𝕄)
      ⊢ wp frame (wpE (defs₀ (F := F)) 𝒱 (c : Thread nD τ) bd) E (cc0__body_skel (F := F) i arg1 harg1 arg2 harg2 arg3 harg3 arg4 harg4 arg5 harg5 arg6 harg6 arg7 harg7)
        (fun _ => iprop(owns (c : Thread nD τ) arg1 fullShare G ∗ owns (c : Thread nD τ) arg2 fullShare S ∗ owns (c : Thread nD τ) arg3 fullShare D ∗
          owns (c : Thread nD τ) arg4 fullShare W ∗ (∃ O', ⌜K O'⌝ ∗ owns (c : Thread nD τ) arg5 fullShare O') ∗
          (∃ A', ⌜PA A'⌝ ∗ owns (c : Thread nD τ) arg6 fullShare A') ∗ (∃ Z, owns (c : Thread nD τ) arg7 fullShare Z))) := by
  have hrest (A' : Vec F S768x2816 .bf16) (hA : PA A') :
      (iprop(owns (c : Thread nD τ) arg1 fullShare G ∗ owns (c : Thread nD τ) arg2 fullShare S ∗ owns (c : Thread nD τ) arg3 fullShare D ∗
        owns (c : Thread nD τ) arg4 fullShare W ∗ owns (c : Thread nD τ) arg5 fullShare O ∗ owns (c : Thread nD τ) arg6 fullShare A' ∗
        (∃ Z, owns (c : Thread nD τ) arg7 fullShare Z)) : sProp 𝕄)
      ⊢ wp frame (wpE (defs₀ (F := F)) 𝒱 (c : Thread nD τ) bd) E (rest (F := F) arg1 harg1 arg2 harg2 arg3 harg3 arg4 harg4 arg5 harg5 arg6 harg6 arg7 harg7 i)
        (fun _ => iprop(owns (c : Thread nD τ) arg1 fullShare G ∗ owns (c : Thread nD τ) arg2 fullShare S ∗ owns (c : Thread nD τ) arg3 fullShare D ∗
          owns (c : Thread nD τ) arg4 fullShare W ∗ (∃ O', ⌜K O'⌝ ∗ owns (c : Thread nD τ) arg5 fullShare O') ∗
          (∃ A', ⌜PA A'⌝ ∗ owns (c : Thread nD τ) arg6 fullShare A') ∗ (∃ Z, owns (c : Thread nD τ) arg7 fullShare Z))) := by
    have hr := wp_keep 𝒱 (c : Thread nD τ) bd E (K := owns (c : Thread nD τ) arg3 fullShare D)
      (rest_wp 𝒱 c bd E arg1 harg1 arg2 harg2 arg3 harg3 arg4 harg4 arg5 harg5 arg6 harg6 arg7 harg7 i G S W A' hG J K
        (fun hw h2 nt k Z O hZ hO => hJ hw h2 nt k A' Z O hA hZ hO) hN hK hK0)
    have hpost : (iprop((owns (c : Thread nD τ) arg1 fullShare G ∗ owns (c : Thread nD τ) arg2 fullShare S ∗ owns (c : Thread nD τ) arg4 fullShare W ∗ owns (c : Thread nD τ) arg6 fullShare A' ∗
          (∃ Z, owns (c : Thread nD τ) arg7 fullShare Z) ∗ ∃ O, ⌜K O⌝ ∗ owns (c : Thread nD τ) arg5 fullShare O) ∗ owns (c : Thread nD τ) arg3 fullShare D) : sProp 𝕄)
        ⊢ iprop(owns (c : Thread nD τ) arg1 fullShare G ∗ owns (c : Thread nD τ) arg2 fullShare S ∗ owns (c : Thread nD τ) arg3 fullShare D ∗
          owns (c : Thread nD τ) arg4 fullShare W ∗ (∃ O', ⌜K O'⌝ ∗ owns (c : Thread nD τ) arg5 fullShare O') ∗
          (∃ A', ⌜PA A'⌝ ∗ owns (c : Thread nD τ) arg6 fullShare A') ∗ (∃ Z, owns (c : Thread nD τ) arg7 fullShare Z)) := by
      iintro ⟨⟨H1, H2, H4, H6, H7, H5⟩, H3⟩
      isplitl [H1]
      · iexact H1
      isplitl [H2]
      · iexact H2
      isplitl [H3]
      · iexact H3
      isplitl [H4]
      · iexact H4
      isplitl [H5]
      · iexact H5
      isplitl [H6]
      · iexists A'
        isplitr
        · ipureintro
          exact hA
        · iexact H6
      · iexact H7
    have hall := hr.trans (wp_mono _ _ _ fun _ => hpost)
    iintro ⟨H1, H2, H3, H4, H5, H6, H7⟩
    iapply hall
    isplitr [H3]
    · isplitl [H1]
      · iexact H1
      isplitl [H2]
      · iexact H2
      isplitl [H4]
      · iexact H4
      isplitl [H6]
      · iexact H6
      isplitl [H7]
      · iexact H7
      iexists O
      isplitr
      · ipureintro
        exact h0
      · iexact H5
    · iexact H3
  rw [body_eq]
  unfold body
  by_cases h1 : k0_cond1 i = 1#1
  · rw [dif_pos h1]
    have hqk := wp_keep 𝒱 (c : Thread nD τ) bd E (K := iprop(owns (c : Thread nD τ) arg1 fullShare G ∗ owns (c : Thread nD τ) arg2 fullShare S ∗
        owns (c : Thread nD τ) arg4 fullShare W ∗ owns (c : Thread nD τ) arg5 fullShare O ∗ (∃ Z, owns (c : Thread nD τ) arg7 fullShare Z)))
      (qloop_wp 𝒱 c bd E arg3 arg6 harg6 D A (k0_t1_ok i h1))
    have hpre : (iprop(owns (c : Thread nD τ) arg1 fullShare G ∗ owns (c : Thread nD τ) arg2 fullShare S ∗ owns (c : Thread nD τ) arg3 fullShare D ∗
        owns (c : Thread nD τ) arg4 fullShare W ∗ owns (c : Thread nD τ) arg5 fullShare O ∗ owns (c : Thread nD τ) arg6 fullShare A ∗
        (∃ Z, owns (c : Thread nD τ) arg7 fullShare Z)) : sProp 𝕄)
        ⊢ iprop((owns (c : Thread nD τ) arg3 fullShare D ∗ owns (c : Thread nD τ) arg6 fullShare A) ∗ (owns (c : Thread nD τ) arg1 fullShare G ∗ owns (c : Thread nD τ) arg2 fullShare S ∗
        owns (c : Thread nD τ) arg4 fullShare W ∗ owns (c : Thread nD τ) arg5 fullShare O ∗ (∃ Z, owns (c : Thread nD τ) arg7 fullShare Z))) := by
      iintro ⟨H1, H2, H3, H4, H5, H6, H7⟩
      isplitl [H3 H6]
      · isplitl [H3]
        · iexact H3
        · iexact H6
      isplitl [H1]
      · iexact H1
      isplitl [H2]
      · iexact H2
      isplitl [H4]
      · iexact H4
      isplitl [H5]
      · iexact H5
      · iexact H7
    refine wp_then 𝒱 c bd E (hpre.trans hqk) fun _ => ?_
    iintro ⟨⟨H3, %A', %hA, H6⟩, H1, H2, H4, H5, H7⟩
    iapply (hrest A' (hq ((cond1_iff i).1 h1) A' hA))
    isplitl [H1]
    · iexact H1
    isplitl [H2]
    · iexact H2
    isplitl [H3]
    · iexact H3
    isplitl [H4]
    · iexact H4
    isplitl [H5]
    · iexact H5
    isplitl [H6]
    · iexact H6
    · iexact H7
  · rw [dif_neg h1]
    exact hrest A (hs fun h => h1 ((cond1_iff i).2 h))

end Cert.Kernel.Hand
-- ==== Proof.KernelRun.lean ====
module

public import proofs.«01_k».proof.Proof.KernelRows

@[expose] public section

/-! The run: the body's triple put into the pipeline, with what is known of the result's array between the experts as a parameter. -/

noncomputable section

namespace Cert.Kernel.Hand

open Cert.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Idealize.ShloMosaic.Pipeline (RDat Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The group sizes, the factors, the activations and the expert's weights, as the body finds them at a point. -/
abbrev inG (c : Dev nD) (t : Fin cfg0.N) : Vec F S9 .i32 := iblk m c 0 t
abbrev inS (c : Dev nD) (t : Fin cfg0.N) : Vec F S9x176 .f32 := iblk m c 1 t
abbrev inD (c : Dev nD) (t : Fin cfg0.N) : Vec F S768x2816 .bf16 := iblk m c 2 t
abbrev inW (c : Dev nD) (t : Fin cfg0.N) : Vec F S1x1024x2816 .fp8e4m3 := iblk m c 3 t

/-- The expert of a point. -/
abbrev ex (t : Fin cfg0.N) : ℕ := (grid0.coords t 0).val

/-- The first row of the expert of a point, and how many rows it has. -/
abbrev lo (c : Dev nD) (t : Fin cfg0.N) : BitVec 32 := gsum (inG m c t) (ex t)
abbrev cnt (c : Dev nD) (t : Fin cfg0.N) : BitVec 32 := inG m c t (ix9 (ex t))

/-- What the run asks of its parameters: `PA` is known of the activations' scratch after the first point, `R` relates the result's array
    before and after a point. -/
structure Steps (PA : Dev nD → Vec F S768x2816 .bf16 → Prop) (R : Dev nD → Fin cfg0.N → Vec F S768x1024 .bf16 → Vec F S768x1024 .bf16 → Prop) : Prop where
  rows : ∀ c t, (lo m c t).toNat + (cnt m c t).toNat ≤ 768
  quant : ∀ c t, ex t = 0 → ∀ A, IsQuant (inD m c t) A → PA c A
  step : ∀ c t O, ∃ J : ℕ → ℕ → Vec F S768x1024 .bf16 → Prop, J 0 0 O
    ∧ (∀ (hw : k0_chk1 (lo m c t) (cnt m c t)) (h2 : k0_cond2 (lo m c t) (cnt m c t) = 1#1)
        (nt : Fin 4) (k : Fin (k0_t4_loop (lo m c t) (cnt m c t)).trips) A Z O, PA c A → IsWd (grid0.coords t) nt (inS m c t) (inW m c t) Z → J nt.val k.val O →
        J nt.val (k.val + 1) (mstore (lo m c t) (Scalar.addi (lo m c t) (cnt m c t)) nt (row4 _ _ k) (row4_ok hw h2 k) A Z O))
    ∧ (∀ (nt : Fin 4) O, J nt.val (k0_t4_loop (lo m c t) (cnt m c t)).trips O → J (nt.val + 1) 0 O)
    ∧ (∀ O', k0_cond2 (lo m c t) (cnt m c t) = 1#1 → J 4 0 O' → R c t O O')
    ∧ (∀ O', ¬ k0_cond2 (lo m c t) (cnt m c t) = 1#1 → J 0 0 O' → R c t O O')

variable (PA : Dev nD → Vec F S768x2816 .bf16 → Prop) (R : Dev nD → Fin cfg0.N → Vec F S768x1024 .bf16 → Vec F S768x1024 .bf16 → Prop)

/-- Before a point: the activations' scratch at anything or, past the first point, as `PA` says; the weights' scratch at anything. -/
def inv (c : Dev nD) (t : Fin (cfg0.N + 1)) : sProp 𝕄 :=
  iprop((∃ A, ⌜t.val ≠ 0 → PA c A⌝ ∗ owns (c : Thread nD τ) (Memref.whole cc0_scratch0) fullShare A)
    ∗ (∃ Z, owns (c : Thread nD τ) (Memref.whole cc0_scratch1) fullShare Z) ∗ ∃ r, prngReg c r)

/-- The data of the run: the inputs stay, the result goes by `R`. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => R c t Y X
  Φ t := inv PA c t
  q _ := fullShare
  owed _ := 0

theorem finds0 (c : Dev nD) (t : Fin cfg0.N) (Y) (h : (rdat m PA R c).Finds 0 t Y) : Y = inG m c t := by
  obtain ⟨d, hd⟩ := (rdat m PA R c).finds_in_eq_fetched 0 rfl (fun _ _ _ => rfl) (fun _ _ _ h => h) t Y h
  exact hd

theorem finds1 (c : Dev nD) (t : Fin cfg0.N) (Y) (h : (rdat m PA R c).Finds 1 t Y) : Y = inS m c t := by
  obtain ⟨d, hd⟩ := (rdat m PA R c).finds_in_eq_fetched 1 rfl (fun _ _ _ => rfl) (fun _ _ _ h => h) t Y h
  exact hd

theorem finds2 (c : Dev nD) (t : Fin cfg0.N) (Y) (h : (rdat m PA R c).Finds 2 t Y) : Y = inD m c t := by
  obtain ⟨d, hd⟩ := (rdat m PA R c).finds_in_eq_fetched 2 rfl (fun _ _ _ => rfl) (fun _ _ _ h => h) t Y h
  exact hd

theorem finds3 (c : Dev nD) (t : Fin cfg0.N) (Y) (h : (rdat m PA R c).Finds 3 t Y) : Y = inW m c t := by
  obtain ⟨d, hd⟩ := (rdat m PA R c).finds_in_eq_fetched 3 rfl (fun _ _ _ => rfl) (fun _ _ _ h => h) t Y h
  exact hd

theorem defs₀_row (t : Fin cfg0.N) :
    defs₀ (F := F) .tc cfg0.body (cfg0.bodyArgs t (cfg0.slots t)) = bodyAt0 t := by
  unfold defs₀; rw [Defs.onTc_tc]

theorem ex_eq (t : Fin cfg0.N) : ex t = t.val := by
  rcases fin_N0 t with h | h | h | h | h | h | h | h | h <;> subst h <;> rfl

variable {m PA R}

/-- The body at a point, from what it finds to what it leaves. -/
theorem body_at (hs : Steps m PA R) (c : Dev nD) (t : Fin cfg0.N) (O : Vec F S768x1024 .bf16) (P : sProp 𝕄) :
    (iprop(inv PA c t.castSucc ∗ P ∗ owns (c : Thread nD τ) (st0_0 t) fullShare (inG m c t) ∗ owns (c : Thread nD τ) (st0_1 t) fullShare (inS m c t)
        ∗ owns (c : Thread nD τ) (st0_2 t) fullShare (inD m c t) ∗ owns (c : Thread nD τ) (st0_3 t) fullShare (inW m c t)
        ∗ owns (c : Thread nD τ) (st0_4 t) fullShare O) : sProp 𝕄)
      ⊢ wp frame (wpE (defs₀ (F := F)) Variants.none (c : Thread nD τ) none) Set.univ (bodyAt0 t)
        (fun _ => iprop(inv PA c t.succ ∗ P ∗ (∃ X, ⌜X = inG m c t⌝ ∗ owns (c : Thread nD τ) (st0_0 t) fullShare X) ∗ (∃ X, ⌜X = inS m c t⌝ ∗ owns (c : Thread nD τ) (st0_1 t) fullShare X)
        ∗ (∃ X, ⌜X = inD m c t⌝ ∗ owns (c : Thread nD τ) (st0_2 t) fullShare X) ∗ (∃ X, ⌜X = inW m c t⌝ ∗ owns (c : Thread nD τ) (st0_3 t) fullShare X)
        ∗ (∃ X, ⌜R c t O X⌝ ∗ owns (c : Thread nD τ) (st0_4 t) fullShare X))) := by
  unfold inv
  iintro ⟨⟨⟨%A, %hA, H6⟩, H7, Hg⟩, HP, H1, H2, H3, H4, H5⟩
  obtain ⟨J, h0, hJ, hN, hK, hK0⟩ := hs.step c t O
  have hb := body_wp (F := F) Variants.none c none Set.univ (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (Memref.whole cc0_scratch0) (Memref.isWhole_whole _) (Memref.whole cc0_scratch1) (Memref.isWhole_whole _)
    (grid0.coords t) (inG m c t) (inS m c t) (inD m c t) (inW m c t) O A (hs.rows c t) (PA c) J (R c t O)
    (hs.quant c t) (fun h => hA fun h' => h ((ex_eq t).trans h')) h0 hJ hN hK hK0
  have hpost : (iprop((owns (c : Thread nD τ) (st0_0 t) fullShare (inG m c t) ∗ owns (c : Thread nD τ) (st0_1 t) fullShare (inS m c t)
        ∗ owns (c : Thread nD τ) (st0_2 t) fullShare (inD m c t) ∗ owns (c : Thread nD τ) (st0_3 t) fullShare (inW m c t)
        ∗ (∃ O', ⌜R c t O O'⌝ ∗ owns (c : Thread nD τ) (st0_4 t) fullShare O') ∗ (∃ A', ⌜PA c A'⌝ ∗ owns (c : Thread nD τ) (Memref.whole cc0_scratch0) fullShare A')
        ∗ (∃ Z, owns (c : Thread nD τ) (Memref.whole cc0_scratch1) fullShare Z)) ∗ (P ∗ ∃ r, prngReg c r)) : sProp 𝕄)
      ⊢ iprop(((∃ A, ⌜t.succ.val ≠ 0 → PA c A⌝ ∗ owns (c : Thread nD τ) (Memref.whole cc0_scratch0) fullShare A)
    ∗ (∃ Z, owns (c : Thread nD τ) (Memref.whole cc0_scratch1) fullShare Z) ∗ ∃ r, prngReg c r) ∗ P ∗ (∃ X, ⌜X = inG m c t⌝ ∗ owns (c : Thread nD τ) (st0_0 t) fullShare X) ∗ (∃ X, ⌜X = inS m c t⌝ ∗ owns (c : Thread nD τ) (st0_1 t) fullShare X)
        ∗ (∃ X, ⌜X = inD m c t⌝ ∗ owns (c : Thread nD τ) (st0_2 t) fullShare X) ∗ (∃ X, ⌜X = inW m c t⌝ ∗ owns (c : Thread nD τ) (st0_3 t) fullShare X)
        ∗ (∃ X, ⌜R c t O X⌝ ∗ owns (c : Thread nD τ) (st0_4 t) fullShare X)) := by
    iintro ⟨⟨H1, H2, H3, H4, H5, ⟨%A', %hA', H6⟩, H7⟩, HP, Hg⟩
    isplitl [H6 H7 Hg]
    · isplitl [H6]
      · iexists A'
        isplitr
        · ipureintro
          exact fun _ => hA'
        · iexact H6
      isplitl [H7]
      · iexact H7
      · iexact Hg
    isplitl [HP]
    · iexact HP
    isplitl [H1]
    · iexists inG m c t
      isplitr
      · ipureintro
        rfl
      · iexact H1
    isplitl [H2]
    · iexists inS m c t
      isplitr
      · ipureintro
        rfl
      · iexact H2
    isplitl [H3]
    · iexists inD m c t
      isplitr
      · ipureintro
        rfl
      · iexact H3
    isplitl [H4]
    · iexists inW m c t
      isplitr
      · ipureintro
        rfl
      · iexact H4
    · iexact H5
  have hall := (wp_keep Variants.none (c : Thread nD τ) none Set.univ (K := iprop(P ∗ ∃ r, prngReg c r)) hb).trans (wp_mono _ _ _ fun _ => hpost)
  unfold bodyAt0
  rw [cc0__body_eq_skeleton]
  iapply hall
  isplitr [HP Hg]
  · isplitl [H1]
    · iexact H1
    isplitl [H2]
    · iexact H2
    isplitl [H3]
    · iexact H3
    isplitl [H4]
    · iexact H4
    isplitl [H5]
    · iexact H5
    isplitl [H6]
    · iexact H6
    · iexact H7
  isplitl [HP]
  · iexact HP
  · iexact Hg

theorem body_obligation (hs : Steps m PA R) (c : Dev nD) : (rdat m PA R c).BodyObligation (defs₀ (F := F)) Variants.none () Set.univ := by
  intro t Y hY
  rw [bigSep_W0, bigSep_W0, defs₀_row]
  have h0 := finds0 m PA R c t (Y 0) (hY 0)
  have h1 := finds1 m PA R c t (Y 1) (hY 1)
  have h2 := finds2 m PA R c t (Y 2) (hY 2)
  have h3 := finds3 m PA R c t (Y 3) (hY 3)
  have hb := body_at hs c t (Y 4) ((rdat m PA R c).owesAt () t.castSucc)
  rw [h0, h1, h2, h3]
  exact hb

theorem inv_in (c : Dev nD) : (Pipeline.ΦA (U := UR sig nD τ) (Val := Elt F) (τ := τ) spec0 c : sProp 𝕄) ⊢ inv PA c 0 := by
  unfold Pipeline.ΦA inv
  rw [scopedRest0_eq]
  simp only [owns_whole]
  iintro ⟨⟨⟨%f, H6⟩, H7⟩, Hg⟩
  isplitl [H6]
  · iexists f
    isplitr
    · ipureintro
      exact fun h => absurd rfl h
    · iexact H6
  isplitl [H7]
  · iexact H7
  · iexact Hg

theorem inv_out (c : Dev nD) : inv PA c (Fin.last cfg0.N) ⊢ (Pipeline.ΦA (U := UR sig nD τ) (Val := Elt F) (τ := τ) spec0 c : sProp 𝕄) := by
  unfold Pipeline.ΦA inv
  rw [scopedRest0_eq]
  simp only [owns_whole]
  iintro ⟨⟨%f, %hf, H6⟩, H7, Hg⟩
  isplitr [Hg]
  · isplitl [H6]
    · iexists f
      iexact H6
    · iexact H7
  · iexact Hg

set_option backward.isDefEq.respectTransparency.types false in
/-- The run, with what it leaves in the arrays. -/
theorem run_main (hs : Steps m PA R) : θ_run defs (onTc (τ := τ) (main (F := F))) (s₀ m ρ)
    (fun r => RDat.FramePost cfg0 (rdat m PA R) (V m) r ∧ r.2.sem = fun _ => 0) :=
  Pipeline.RDat.θ_run_frame_track (Q' := _) cfgs (0 : Fin 1) launch0 defs₀ Variants.none (rdat m PA R) m ρ main
    (hbody := body_obligation hs) (hshare := fun c w => by unfold RDat.share; split <;> rfl)
    (howed := fun _ _ => rfl) (V := V m) (hmain := hmain m Variants.none) (hA := fun _ _ => rfl)
    (hin := fun c => inv_in c) (hout := fun c => inv_out c)

/-- The arguments end as they were, and every counter at zero. -/
theorem frame_run (hs : Steps m PA R) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.arr_in c 2 rfl).trans (V_main_arg0 m c),
      (h.1.arr_in c 0 rfl).trans (V_main_arg1 m c), (h.1.arr_in c 3 rfl).trans (V_main_arg2 m c),
      ((h.1 c).2 main_arg3 (Pipeline.mem_restRefs_of main_arg3 (by decide) (by decide))).trans (V_main_arg3 m c)⟩, h.2⟩) (run_main ρ hs)

end Cert.Kernel.Hand
-- ==== Proof.KernelFrame.lean ====
module

public import proofs.«01_k».proof.Proof.KernelRun
public import Idealize.ShloMosaic.Lib.Pipeline.Value

@[expose] public section

/-! The frame: when the sizes fit, the kernel runs and its arguments end as they were. -/

noncomputable section

namespace Cert.Kernel.Hand

open Cert.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The group sizes the body finds are the argument's. -/
theorem inG_eq (c : Dev nD) (t : Fin cfg0.N) : inG m c t = m ((c : Thread nD τ).loc main_arg1) := by
  rw [← V_main_arg1 m c]
  funext y
  change V m c main_arg1 ((win0_0.rect t).emb y) = V m c main_arg1 y
  congr 1
  funext a
  exact Fin.ext (Pipeline.Window.rect_emb_val_of_index_zero win0_0 t a (by fin_cases a; rfl) y)

theorem rows_of_fits (hG : ∀ c : Dev nD, Fits (m ((c : Thread nD τ).loc main_arg1))) (c : Dev nD) (t : Fin cfg0.N) :
    (lo m c t).toNat + (cnt m c t).toNat ≤ 768 := by
  unfold lo cnt
  rw [inG_eq]
  exact (hG c).rows (ex t) (grid0.coords t 0).isLt

/-- Nothing asked of the values. -/
theorem steps_frame (hG : ∀ c : Dev nD, Fits (m ((c : Thread nD τ).loc main_arg1))) : Steps m (fun _ _ => True) (fun _ _ _ _ => True) where
  rows := rows_of_fits m hG
  quant _ _ _ _ _ := trivial
  step _ _ _ := ⟨fun _ _ _ => True, trivial, fun _ _ _ _ _ _ _ _ _ _ => trivial, fun _ _ _ => trivial, fun _ _ _ => trivial, fun _ _ _ => trivial⟩

/-- The frame. -/
theorem frame_fits (hG : ∀ c : Dev nD, Fits (m ((c : Thread nD τ).loc main_arg1))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  frame_run ρ (steps_frame m hG)

end Cert.Kernel.Hand
-- ==== Proof.KernelIdealBlocks.lean ====
/-
  The kernel's body as blocks. The printed body is unrolled: 22 quantising blocks a trip, and four
  times 44 blocks that scale the weights back followed by two multiplying loops. Here each kind of
  block is one program of its position, the body is written with them (`body`), and the printed body
  is shown to be it (`body_eq`), by unfolding.
-/
module

public import proofs.«01_k».proof.Proof.Gen.KernelIdeal.Skeleton
public import proofs.«01_k».proof.Proof.Seq

@[expose] public section

noncomputable section

namespace Cert.KernelIdeal.Hand

open Cert.Hand
open Cert.KernelIdeal Cert.KernelIdeal.Gen
open Idealize.ShloMosaic Idealize.SL.Sem

variable {F : FTy → Type} [FloatOps F]

/-! ## The quantising block -/

/-- Where the quantiser's block `j` of its trip `k` lies: 64 rows, 128 columns. -/
def qoff (k : Fin k0_t1_loop.trips) (j : Fin 22) : Fin 2 → ℕ :=
  ![(Scalar.indexCast (Scalar.muli (Scf.iv 0#32 1#32 k) 64#32)).toNat, 128 * j.val]

theorem qoff_inb : ∀ (k : Fin k0_t1_loop.trips) (j : Fin 22), ∀ a, qoff k j a + S64x128.size a ≤ S768x2816.size a := by
  decide +kernel

theorem qoff_packed : ∀ (k : Fin k0_t1_loop.trips) (j : Fin 22),
    (Rect.unit (s := S768x2816) (qoff k j) S64x128.size (qoff_inb k j)).PackedRows (EltTy.packing .bf16) := by
  decide +kernel

/-- Block `j` of trip `k` of the quantising loop: the block of the activations is read, and its quantised and
    scaled-back values are stored. -/
def qblk (arg3 : Memref sig .tc .vmem S768x2816 .bf16) (arg6 : Memref sig .tc .vmem S768x2816 .bf16) (harg6 : arg6.IsWhole)
    (k : Fin k0_t1_loop.trips) (j : Fin 22) : Prog (TpuEff nD τ sig (Elt F) Λ₀ .tc) PUnit := do
  let v : Vec F S64x128 .bf16 ← Prog.lift (.load arg3 (Rect.unit (s := S768x2816) (qoff k j) S64x128.size (qoff_inb k j)).toLoadRect (View.loadsAt_vmem h_S64x128))
  let _u : Vec F S64x128 .bf16 ← Prog.lift (.load arg6 (Rect.unit (s := S768x2816) (qoff k j) S64x128.size (qoff_inb k j)).toLoadRect (View.loadsAt_vmem h_S64x128))
  Prog.lift (.store arg6 (Rect.unit (s := S768x2816) (qoff k j) S64x128.size (qoff_inb k j)) (k0_pay2 v) Finset.univ (View.stores_vmem h_S64x128 (harg6.storeExact_slice rfl _ (qoff_packed k j)) (fun _ => rfl)) (.inl rfl))

variable (arg1 : Memref sig .tc .smem S9 .i32) (harg1 : arg1.IsWhole) (arg2 : Memref sig .tc .smem S9x176 .f32) (harg2 : arg2.IsWhole) (arg3 : Memref sig .tc .vmem S768x2816 .bf16) (harg3 : arg3.IsWhole) (arg4 : Memref sig .tc .vmem S1x1024x2816 .fp8e4m3) (harg4 : arg4.IsWhole) (arg5 : Memref sig .tc .vmem S768x1024 .bf16) (harg5 : arg5.IsWhole) (arg6 : Memref sig .tc .vmem S768x2816 .bf16) (harg6 : arg6.IsWhole) (arg7 : Memref sig .tc .vmem S256x2816 .bf16) (harg7 : arg7.IsWhole)

/-- The blocks of one trip of the quantising loop. -/
def qlist : List (Fin 22) := [0, 1, 2, 3, 4, 5, 6, 7, 8, 9, 10, 11, 12, 13, 14, 15, 16, 17, 18, 19, 20, 21]

set_option maxRecDepth 65536 in
set_option maxHeartbeats 4000000 in
/-- One trip of the quantising loop is its 22 blocks in order. -/
theorem k0_t1_body_eq (i : grid0.Coords) (k0_h1 : k0_cond1 i = 1#1) (k : Fin k0_t1_loop.trips) (u : Unit) :
    k0_t1_body (F := F) i arg1 harg1 arg2 harg2 arg3 harg3 arg4 harg4 arg5 harg5 arg6 harg6 arg7 harg7 k0_h1 k u = seqAll (qblk (F := F) arg3 arg6 harg6 k) qlist := rfl

/-! ## The block scaling the weights back -/

/-- Where the factor of block `j` of quarter `nt` of the weights lies. -/
def soff (i : grid0.Coords) (nt : Fin 4) (j : Fin 44) : Fin 2 → ℕ :=
  ![(Scalar.indexCast (BitVec.ofNat 32 (i 0).val)).toNat, 44 * nt.val + j.val]

theorem soff_inb : ∀ (i : grid0.Coords) (nt : Fin 4) (j : Fin 44), ∀ a, soff i nt j a + S1x1.size a ≤ S9x176.size a := by
  decide +kernel

/-- Where block `j` of quarter `nt` lies in the weights. -/
def woff (nt : Fin 4) (j : Fin 44) : Fin 3 → ℕ := ![0, 256 * nt.val + 128 * (j.val / 22), 128 * (j.val % 22)]

theorem woff_inb : ∀ (nt : Fin 4) (j : Fin 44), ∀ a, woff nt j a + S1x128x128.size a ≤ S1x1024x2816.size a := by
  decide +kernel

/-- Where block `j` lies in the quarter scaled back. -/
def doff (j : Fin 44) : Fin 2 → ℕ := ![128 * (j.val / 22), 128 * (j.val % 22)]

theorem doff_inb : ∀ (j : Fin 44), ∀ a, doff j a + S128x128.size a ≤ S256x2816.size a := by
  decide +kernel

theorem doff_packed : ∀ (j : Fin 44),
    (Rect.unit (s := S256x2816) (doff j) S128x128.size (doff_inb j)).PackedRows (EltTy.packing .bf16) := by
  decide +kernel

/-- Block `j` of quarter `nt` of the weights: its factor and its values are read, and their product is stored. -/
def wblk (i : grid0.Coords) (arg2 : Memref sig .tc .smem S9x176 .f32) (arg4 : Memref sig .tc .vmem S1x1024x2816 .fp8e4m3)
    (arg7 : Memref sig .tc .vmem S256x2816 .bf16) (harg7 : arg7.IsWhole) (nt : Fin 4) (j : Fin 44) :
    Prog (TpuEff nD τ sig (Elt F) Λ₀ .tc) PUnit := do
  let v : Elt F .f32 ← smemLoad arg2 (Rect.unit (s := S9x176) (soff i nt j) S1x1.size (soff_inb i nt j)) numel1_S1x1 rfl
  let w : Vec F S1x128x128 .fp8e4m3 ← Prog.lift (.load arg4 (Rect.unit (s := S1x1024x2816) (woff nt j) S1x128x128.size (woff_inb nt j)).toLoadRect (View.loadsAt_vmem h_S1x128x128))
  let _u : Vec F S128x128 .bf16 ← Prog.lift (.load arg7 (Rect.unit (s := S256x2816) (doff j) S128x128.size (doff_inb j)).toLoadRect (View.loadsAt_vmem h_S128x128))
  Prog.lift (.store arg7 (Rect.unit (s := S256x2816) (doff j) S128x128.size (doff_inb j)) (k0_pay79 v w) Finset.univ (View.stores_vmem h_S128x128 (harg7.storeExact_slice rfl _ (doff_packed j)) (fun _ => rfl)) (.inl rfl))

/-- The blocks of a quarter of the weights. -/
def wlist : List (Fin 44) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43]

/-! ## The trip of the multiplying loops -/

/-- A row block the multiplying loops may address: inside the array, at a multiple of 64. -/
def RowOK (row : BitVec 32) : Prop := (Scalar.indexCast row).toNat + 64 ≤ 768 ∧ 64 ∣ (Scalar.indexCast row).toNat

/-- Where the row block lies in the quantised activations. -/
def aoff (row : BitVec 32) : Fin 2 → ℕ := ![(Scalar.indexCast row).toNat, 0]

/-- Where the row block of quarter `nt` lies in the result. -/
def ooff (nt : Fin 4) (row : BitVec 32) : Fin 2 → ℕ := ![(Scalar.indexCast row).toNat, 256 * nt.val]

theorem aoff_inb {row : BitVec 32} (h : RowOK row) : ∀ a, aoff row a + S64x2816.size a ≤ S768x2816.size a := by
  intro a; fin_cases a
  · exact h.1
  · exact le_refl _

theorem ooff_inb (nt : Fin 4) {row : BitVec 32} (h : RowOK row) : ∀ a, ooff nt row a + S64x256.size a ≤ S768x1024.size a := by
  intro a; fin_cases a
  · exact h.1
  · show 256 * nt.val + 256 ≤ 1024; omega

theorem ooff_packed (nt : Fin 4) {row : BitVec 32} (h : RowOK row) :
    (Rect.unit (s := S768x1024) (ooff nt row) S64x256.size (ooff_inb nt h)).PackedRows (EltTy.packing .bf16) := by
  refine Or.inr ⟨by decide, rfl, Or.inl ⟨?_, ?_⟩⟩
  on_goal 2 => exact (show 2 ∣ 64 by decide)
  exact Dvd.dvd.trans (show 2 ∣ 64 by decide) h.2

/-- What a trip stores: at the rows from `lo` up to `hi` the product, at the others the old result. -/
def mpay (lo hi row : BitVec 32) (a : Vec F S64x2816 .bf16) (w : Vec F S256x2816 .bf16) (o : Vec F S64x256 .bf16) : FVec F S64x256 .bf16 :=
  truncf .bf16 (select (andi (cmpi .sge (addi (iota .tc S64x256 32 [0] iota_S64x256_d0_w32) (broadcast S64x256 row)) (broadcast S64x256 lo))
      (cmpi .slt (addi (iota .tc S64x256 32 [0] iota_S64x256_d0_w32) (broadcast S64x256 row)) (broadcast S64x256 hi)))
    (matmul dot_S64x2816_S256x2816_S64x256_1_1_0_0_n_n none a w (constant S64x256 .f32 0x00000000#32))
    (extf .f32 (shapeCast S64x256 o shapeCasts_S64x256_S64x256) bitsLt_bf16_f32)) bitsLt_bf16_f32

/-- One trip over a row block, of quarter `nt`. -/
def mtrip (arg5 : Memref sig .tc .vmem S768x1024 .bf16) (harg5 : arg5.IsWhole) (arg6 : Memref sig .tc .vmem S768x2816 .bf16)
    (arg7 : Memref sig .tc .vmem S256x2816 .bf16) (lo hi : BitVec 32) (nt : Fin 4) (row : BitVec 32) (h : RowOK row) :
    Prog (TpuEff nD τ sig (Elt F) Λ₀ .tc) PUnit := do
  let a : Vec F S64x2816 .bf16 ← Prog.lift (.load arg6 (Rect.unit (s := S768x2816) (aoff row) S64x2816.size (aoff_inb h)).toLoadRect (View.loadsAt_vmem h_S64x2816))
  let w : Vec F S256x2816 .bf16 ← Prog.lift (.load arg7 (Rect.unit (s := S256x2816) ![0, 0] S256x2816.size inb_S256x2816_S256x2816_0_0).toLoadRect (View.loadsAt_vmem h_S256x2816))
  let o : Vec F S64x256 .bf16 ← Prog.lift (.load arg5 (Rect.unit (s := S768x1024) (ooff nt row) S64x256.size (ooff_inb nt h)).toLoadRect (View.loadsAt_vmem h_S64x256))
  let _u : Vec F S64x256 .bf16 ← Prog.lift (.load arg5 (Rect.unit (s := S768x1024) (ooff nt row) S64x256.size (ooff_inb nt h)).toLoadRect (View.loadsAt_vmem h_S64x256))
  Prog.lift (.store arg5 (Rect.unit (s := S768x1024) (ooff nt row) S64x256.size (ooff_inb nt h)) (mpay lo hi row a w o) Finset.univ (View.stores_vmem h_S64x256 (harg5.storeExact_slice rfl _ (ooff_packed nt h)) (fun _ => rfl)) (.inl rfl))

/-- The row block of trip `k` of the loop over whole steps, -/
def row4 (v9 v11 : BitVec 32) (k : Fin (k0_t4_loop v9 v11).trips) : BitVec 32 := Scalar.muli (Scf.iv (k0_t4_loop v9 v11).lb 1#32 k) 64#32

/-- and of trip `k` of the loop over the remainder (there is none). -/
def row5 (v9 v11 : BitVec 32) (k : Fin (k0_t5_loop v9 v11).trips) : BitVec 32 := Scalar.muli (Scf.iv (k0_t5_loop v9 v11).lb 1#32 k) 64#32

theorem row4_ok {v9 v11 : BitVec 32} (hw : k0_chk1 v9 v11) (h2 : k0_cond2 v9 v11 = 1#1) (k : Fin (k0_t4_loop v9 v11).trips) : RowOK (row4 v9 v11 k) :=
  ⟨k0_off70_inb v9 v11 hw k h2 0, hw.1.2.1 k h2⟩

theorem row5_ok {v9 v11 : BitVec 32} (hw : k0_chk1 v9 v11) (h2 : k0_cond2 v9 v11 = 1#1) (k : Fin (k0_t5_loop v9 v11).trips) : RowOK (row5 v9 v11 k) :=
  ⟨k0_off72_inb v9 v11 hw k h2 0, hw.1.2.2.2.2.2.2.1 k h2⟩

/-- The two multiplying loops of quarter `nt`. -/
def mloops (arg5 : Memref sig .tc .vmem S768x1024 .bf16) (harg5 : arg5.IsWhole) (arg6 : Memref sig .tc .vmem S768x2816 .bf16)
    (arg7 : Memref sig .tc .vmem S256x2816 .bf16) (v9 v11 : BitVec 32) (hw : k0_chk1 v9 v11) (h2 : k0_cond2 v9 v11 = 1#1) (nt : Fin 4) :
    Prog (TpuEff nD τ sig (Elt F) Λ₀ .tc) PUnit :=
  Scf.Loop.for (k0_t4_loop v9 v11) (k0_t4_ok v9 v11 hw h2) ⟨⟩ (fun k _ => mtrip arg5 harg5 arg6 arg7 v9 (Scalar.addi v9 v11) nt (row4 v9 v11 k) (row4_ok hw h2 k)) >>= fun _ =>
  Scf.Loop.for (k0_t5_loop v9 v11) (k0_t5_ok v9 v11 hw h2) ⟨⟩ (fun k _ => mtrip arg5 harg5 arg6 arg7 v9 (Scalar.addi v9 v11) nt (row5 v9 v11 k) (row5_ok hw h2 k))

/-! ## The whole body -/

/-- What the body does for an expert that has rows: quarter by quarter, the weights scaled back and multiplied. -/
def heavy (i : grid0.Coords) (arg2 : Memref sig .tc .smem S9x176 .f32) (arg4 : Memref sig .tc .vmem S1x1024x2816 .fp8e4m3)
    (arg5 : Memref sig .tc .vmem S768x1024 .bf16) (harg5 : arg5.IsWhole) (arg6 : Memref sig .tc .vmem S768x2816 .bf16)
    (arg7 : Memref sig .tc .vmem S256x2816 .bf16) (harg7 : arg7.IsWhole) (v9 v11 : BitVec 32) (hw : k0_chk1 v9 v11) (h2 : k0_cond2 v9 v11 = 1#1) :
    List (Fin 4) → Prog (TpuEff nD τ sig (Elt F) Λ₀ .tc) PUnit :=
  seqAll fun nt => seqAll (wblk i arg2 arg4 arg7 harg7 nt) wlist >>= fun _ => mloops arg5 harg5 arg6 arg7 v9 v11 hw h2 nt

/-- A program that runs a list of blocks, two loops, and goes on: its blocks and its loops may be grouped. -/
theorem quarter {Ef : Type → Type} {α β ι : Type} {f : ι → Prog Ef PUnit} {l : List ι} {p R Y : Prog Ef β} {A B A' B' : Prog Ef PUnit}
    {X : Prog Ef α} {g : α → Prog Ef β} (h : p = seqAll f l >>= fun _ => R) (hR : R = (A >>= fun _ => B >>= fun _ => X) >>= g)
    (hA : A = A') (hB : B = B') (hY : X >>= g = Y) :
    p = (seqAll f l >>= fun _ => A' >>= fun _ => B') >>= fun _ => Y := by
  subst h hR hA hB hY
  simp only [Prog.bind_assoc]

theorem bind_congr₁ {Ef : Type → Type} {α β : Type} {A A' : Prog Ef α} {B B' : α → Prog Ef β} (hA : A = A') (hB : ∀ x, B x = B' x) :
    A >>= B = A' >>= B' := by rw [hA, funext hB]

theorem dite_congr₁ {c : Prop} [Decidable c] {α : Type 1} {A A' : c → α} {B B' : ¬ c → α} (hA : ∀ h, A h = A' h) (hB : ∀ h, B h = B' h) :
    dite c A B = dite c A' B' := by rw [funext hA, funext hB]

/-- What the body does after the quantising: the rows of the expert are found, and if there are any they are multiplied. -/
def rest (i : grid0.Coords) : Prog (TpuEff nD τ sig (Elt F) Λ₀ .tc) PUnit :=
  Scf.Loop.for (k0_t2_loop i) (k0_t2_ok i) 0#32 (k0_t2_body i arg1 harg1 arg2 harg2 arg3 harg3 arg4 harg4 arg5 harg5 arg6 harg6 arg7 harg7) >>= fun v8 =>
  Scf.Loop.for (k0_t3_loop i) (k0_t3_ok i) v8 (k0_t3_body i arg1 harg1 arg2 harg2 arg3 harg3 arg4 harg4 arg5 harg5 arg6 harg6 arg7 harg7) >>= fun v9 =>
  smemLoad arg1 (Rect.unit (s := S9) (k0_off25 i) S1.size (k0_off25_inb i)) numel1_S1 rfl >>= fun v11 =>
  Prog.lift (TpuEff.assume (k0_chk1 v9 v11) (k0_chk1.dec v9 v11)) >>= fun hw =>
  if h2 : k0_cond2 v9 v11 = 1#1 then heavy i arg2 arg4 arg5 harg5 arg6 arg7 harg7 v9 v11 hw.down h2 [0, 1, 2, 3] else pure ⟨⟩

/-- The body, as blocks: at the first expert the activations are quantised, then comes the rest. -/
def body (i : grid0.Coords) : Prog (TpuEff nD τ sig (Elt F) Λ₀ .tc) PUnit :=
  if h1 : k0_cond1 i = 1#1 then
    Scf.Loop.for k0_t1_loop (k0_t1_ok i h1) ⟨⟩ (fun k _ => seqAll (qblk arg3 arg6 harg6 k) qlist) >>= fun _ => rest arg1 harg1 arg2 harg2 arg3 harg3 arg4 harg4 arg5 harg5 arg6 harg6 arg7 harg7 i
  else rest arg1 harg1 arg2 harg2 arg3 harg3 arg4 harg4 arg5 harg5 arg6 harg6 arg7 harg7 i

set_option maxRecDepth 65536 in
set_option maxHeartbeats 40000000 in
theorem body_eq (i : grid0.Coords) :
    cc0__body_skel (F := F) i arg1 harg1 arg2 harg2 arg3 harg3 arg4 harg4 arg5 harg5 arg6 harg6 arg7 harg7 = body (F := F) arg1 harg1 arg2 harg2 arg3 harg3 arg4 harg4 arg5 harg5 arg6 harg6 arg7 harg7 i := by
  unfold cc0__body_skel body
  refine dite_congr₁ (fun h1 => bind_congr₁ rfl fun _ => ?_) (fun h1 => ?_)
  all_goals
    unfold rest
    refine bind_congr₁ rfl fun v8 => bind_congr₁ rfl fun v9 => bind_congr₁ rfl fun v11 => bind_congr₁ rfl fun hw => ?_
    refine dite_congr₁ (fun h2 => ?_) (fun h2 => rfl)
    refine quarter (f := wblk i arg2 arg4 arg7 harg7 0) (l := wlist) rfl rfl rfl rfl ?_
    refine quarter (f := wblk i arg2 arg4 arg7 harg7 1) (l := wlist) rfl rfl rfl rfl ?_
    refine quarter (f := wblk i arg2 arg4 arg7 harg7 2) (l := wlist) rfl rfl rfl rfl ?_
    refine quarter (f := wblk i arg2 arg4 arg7 harg7 3) (l := wlist) rfl rfl rfl rfl ?_
    rfl

end Cert.KernelIdeal.Hand
-- ==== Proof.KernelIdealCheck.lean ====
/-
  What the body assumes of the rows of an expert (`k0_chk1`), from where they start and how many
  they are: that the expert's rows end inside the array. And what the multiplying loops then run
  over: the row blocks of 64 from the one the rows start in up to the one they end in.
-/
module

public import proofs.«01_k».proof.Proof.KernelIdealBlocks

@[expose] public section

noncomputable section

namespace Cert.KernelIdeal.Hand

open Cert.Hand
open Cert.KernelIdeal Cert.KernelIdeal.Gen
open Idealize.ShloMosaic Idealize.SL.Sem

/-- The row block the multiplying loops start at, for rows that start at `a`. -/
theorem lb4 : ∀ a : Fin 769, (k0_t4_loop (BitVec.ofNat 32 a) 0#32).lb = BitVec.ofNat 32 (a / 64) := by decide +kernel

/-- The loops' end of the row blocks, as computed from the rows' end `e`. -/
def hi (e : BitVec 32) : BitVec 32 :=
  let v518 : BitVec 32 := Scalar.subi (Scalar.addi e 64#32) 1#32
  Scalar.select
    (Scalar.andi
      (Scalar.cmpi .ne
        (Scalar.subi (Scalar.extui (Scalar.cmpi .sgt v518 0#32) : BitVec 32) (Scalar.extui (Scalar.cmpi .slt v518 0#32) : BitVec 32))
        (Scalar.subi (Scalar.extui (Scalar.cmpi .sgt 64#32 0#32) : BitVec 32) (Scalar.extui (Scalar.cmpi .slt 64#32 0#32) : BitVec 32)))
      (Scalar.cmpi .ne (Scalar.remsi v518 64#32) 0#32))
    (Scalar.subi (Scalar.divsi v518 64#32) 1#32) (Scalar.divsi v518 64#32)

theorem hi_eq : ∀ e : Fin 769, hi (BitVec.ofNat 32 e) = BitVec.ofNat 32 ((e + 63) / 64) := by decide +kernel

/-- The end of the loop over whole steps, from its start and the row blocks' end. -/
def ub (l h : BitVec 32) : BitVec 32 := Scalar.addi l (Scalar.muli (Scalar.divsi (Scalar.subi h l) 1#32) 1#32)

theorem ub_eq : ∀ p q : Fin 13, p ≤ q → ub (BitVec.ofNat 32 p) (BitVec.ofNat 32 q) = BitVec.ofNat 32 q := by decide +kernel

theorem loop_ext {l : Scf.Loop 32} {a b c : BitVec 32} (h1 : l.lb = a) (h2 : l.ub = b) (h3 : l.st = c) : l = ⟨a, b, c⟩ := by
  cases l; subst h1 h2 h3; rfl

theorem lb4_any (v9 v11 : BitVec 32) : (k0_t4_loop v9 v11).lb = (k0_t4_loop v9 0#32).lb := rfl
theorem ub4_eq (v9 v11 : BitVec 32) : (k0_t4_loop v9 v11).ub = ub (k0_t4_loop v9 v11).lb (hi (Scalar.addi v9 v11)) := rfl
theorem lb5_eq (v9 v11 : BitVec 32) : (k0_t5_loop v9 v11).lb = (k0_t4_loop v9 v11).ub := rfl
theorem ub5_eq (v9 v11 : BitVec 32) : (k0_t5_loop v9 v11).ub =
    Scalar.addi (k0_t4_loop v9 v11).lb (Scalar.subi (hi (Scalar.addi v9 v11)) (k0_t4_loop v9 v11).lb) := rfl

theorem back_eq : ∀ p q : Fin 13, Scalar.addi (BitVec.ofNat 32 p) (Scalar.subi (BitVec.ofNat 32 q) (BitVec.ofNat 32 p)) = BitVec.ofNat 32 q := by
  decide +kernel

theorem trips_eq : ∀ p q : Fin 13, p ≤ q → Scf.trips (BitVec.ofNat 32 p) (BitVec.ofNat 32 q) 1#32 = q - p := by decide +kernel

theorem ok_eq : ∀ p q : Fin 13, Scf.OK (BitVec.ofNat 32 p) (BitVec.ofNat 32 q) 1#32 := by decide +kernel

theorem row_eq : ∀ p k : Fin 13, (Scalar.indexCast (Scalar.muli (Scf.iv (BitVec.ofNat 32 p) 1#32 k) 64#32)).toNat = 64 * (p + k) := by decide +kernel

section

variable {v9 v11 : BitVec 32} {a b : ℕ} (h9 : v9 = BitVec.ofNat 32 a) (h11 : v11 = BitVec.ofNat 32 b) (hab : a + b ≤ 768)

include h9 h11 hab

theorem hi_of : hi (Scalar.addi v9 v11) = BitVec.ofNat 32 ((a + b + 63) / 64) := by
  rw [show Scalar.addi v9 v11 = BitVec.ofNat 32 (a + b) by rw [h9, h11, BitVec.ofNat_add]; rfl]
  exact hi_eq ⟨a + b, by omega⟩

theorem lb4_of : (k0_t4_loop v9 v11).lb = BitVec.ofNat 32 (a / 64) := by
  rw [lb4_any, h9]
  exact lb4 ⟨a, by omega⟩

theorem ub4_of : (k0_t4_loop v9 v11).ub = BitVec.ofNat 32 ((a + b + 63) / 64) := by
  rw [ub4_eq, lb4_of h9 h11 hab, hi_of h9 h11 hab]
  exact ub_eq ⟨a / 64, by omega⟩ ⟨(a + b + 63) / 64, by omega⟩ (by simp only [Fin.mk_le_mk]; omega)

/-- The loop over whole steps goes from the first row block to the last. -/
theorem loop4_eq : k0_t4_loop v9 v11 = ⟨BitVec.ofNat 32 (a / 64), BitVec.ofNat 32 ((a + b + 63) / 64), 1#32⟩ :=
  loop_ext (lb4_of h9 h11 hab) (ub4_of h9 h11 hab) rfl

/-- The loop over the remainder makes no trip. -/
theorem loop5_eq : k0_t5_loop v9 v11 = ⟨BitVec.ofNat 32 ((a + b + 63) / 64), BitVec.ofNat 32 ((a + b + 63) / 64), 1#32⟩ := by
  refine loop_ext ((lb5_eq _ _).trans (ub4_of h9 h11 hab)) ?_ rfl
  rw [ub5_eq, lb4_of h9 h11 hab, hi_of h9 h11 hab]
  exact back_eq ⟨a / 64, by omega⟩ ⟨(a + b + 63) / 64, by omega⟩

theorem trips4 : (k0_t4_loop v9 v11).trips = (a + b + 63) / 64 - a / 64 := by
  rw [loop4_eq h9 h11 hab]
  exact trips_eq ⟨a / 64, by omega⟩ ⟨(a + b + 63) / 64, by omega⟩ (by simp only [Fin.mk_le_mk]; omega)

theorem trips5 : (k0_t5_loop v9 v11).trips = 0 := by
  rw [loop5_eq h9 h11 hab]
  exact (trips_eq ⟨(a + b + 63) / 64, by omega⟩ ⟨(a + b + 63) / 64, by omega⟩ (le_refl _)).trans (Nat.sub_self _)

/-- The row block of trip `k` is block `k` after the one the rows start in. -/
theorem row4_toNat (k : Fin (k0_t4_loop v9 v11).trips) : (Scalar.indexCast (row4 v9 v11 k)).toNat = 64 * (a / 64 + k.val) := by
  have hk : k.val < (a + b + 63) / 64 - a / 64 := lt_of_lt_of_eq k.isLt (trips4 h9 h11 hab)
  unfold row4
  rw [lb4_of h9 h11 hab]
  exact row_eq ⟨a / 64, by omega⟩ ⟨k.val, by omega⟩

theorem row4_rowOK (k : Fin (k0_t4_loop v9 v11).trips) : RowOK (row4 v9 v11 k) := by
  have hk : k.val < (a + b + 63) / 64 - a / 64 := lt_of_lt_of_eq k.isLt (trips4 h9 h11 hab)
  unfold RowOK
  rw [row4_toNat h9 h11 hab]
  exact ⟨by omega, Dvd.intro _ rfl⟩

theorem no5 (k : Fin (k0_t5_loop v9 v11).trips) : False := by
  exact absurd (lt_of_lt_of_eq k.isLt (trips5 h9 h11 hab)) (Nat.not_lt_zero _)

/-- What the body assumes of an expert's rows holds when they end inside the array. -/
theorem chk_of : k0_chk1 v9 v11 := by
  have O4 : (k0_t4_loop v9 v11).OK := by
    rw [loop4_eq h9 h11 hab]; exact ok_eq ⟨a / 64, by omega⟩ ⟨(a + b + 63) / 64, by omega⟩
  have O5 : (k0_t5_loop v9 v11).OK := by
    rw [loop5_eq h9 h11 hab]; exact ok_eq ⟨(a + b + 63) / 64, by omega⟩ ⟨(a + b + 63) / 64, by omega⟩
  have R := row4_rowOK h9 h11 hab
  have N := no5 h9 h11 hab
  exact ⟨⟨fun _ => O4, fun k _ => (R k).2, fun k _ => aoff_inb (R k), fun k _ => ooff_inb 0 (R k), fun k _ _ => ooff_packed 0 (R k),
      fun _ => O5, fun k _ => (N k).elim, fun k _ => (N k).elim, fun k _ => (N k).elim, fun k _ _ => (N k).elim,
      fun _ => O4, fun k _ => (R k).2, fun k _ => aoff_inb (R k), fun k _ => ooff_inb 1 (R k), fun k _ _ => ooff_packed 1 (R k),
      fun _ => O5, fun k _ => (N k).elim, fun k _ => (N k).elim, fun k _ => (N k).elim, fun k _ _ => (N k).elim,
      fun _ => O4, fun k _ => (R k).2, fun k _ => aoff_inb (R k), fun k _ => ooff_inb 2 (R k), fun k _ _ => ooff_packed 2 (R k),
      fun _ => O5, fun k _ => (N k).elim, fun k _ => (N k).elim, fun k _ => (N k).elim, fun k _ _ => (N k).elim,
      fun _ => O4, fun k _ => (R k).2⟩,
    fun k _ => aoff_inb (R k), fun k _ => ooff_inb 3 (R k), fun k _ _ => ooff_packed 3 (R k),
    fun _ => O5, fun k _ => (N k).elim, fun k _ => (N k).elim, fun k _ => (N k).elim, fun k _ _ => (N k).elim⟩

end

end Cert.KernelIdeal.Hand
-- ==== Proof.KernelIdealBody.lean ====
/-
  What the kernel's body does, block by block: the quantised activations and the scaled-back weights
  are what the block's payload says on every block, and the result's array changes only by the trips
  of the multiplying loops, whose effect is followed by a statement `J` of the reader's choice.
-/
module

public import proofs.«01_k».proof.Proof.KernelIdealCheck
public import proofs.«01_k».proof.Proof.Owns
public import proofs.«01_k».proof.Proof.Gen.KernelIdeal.Frame

@[expose] public section

noncomputable section

namespace Cert.KernelIdeal.Hand

open Cert.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The quantised activations -/

/-- The rectangle of a quantising block. -/
abbrev qrect (p : Fin k0_t1_loop.trips × Fin 22) : Rect S768x2816 := Rect.unit (s := S768x2816) (qoff p.1 p.2) S64x128.size (qoff_inb p.1 p.2)

/-- What a quantising block stores, of the activations `D`. -/
def qpay (D : Vec F S768x2816 .bf16) (p : Fin k0_t1_loop.trips × Fin 22) : (qrect p).shape.Idx → Elt F .bf16 :=
  k0_pay2 (fun y => D ((qrect p).emb y))

/-- `A` holds the activations `D` quantised and scaled back. -/
def IsQuant (D A : Vec F S768x2816 .bf16) : Prop := Agree qrect (qpay D) (fun _ => True) A

theorem qoff_row : ∀ (k : Fin k0_t1_loop.trips) (j : Fin 22), qoff k j 0 = 64 * k.val := by decide +kernel

theorem qrect_disjoint (p p' : Fin k0_t1_loop.trips × Fin 22) (h : p ≠ p') : Disjoint (qrect p).set (qrect p').set := by
  rw [Finset.disjoint_left]
  intro y hy hy'
  rw [Rect.mem_set_unit] at hy hy'
  have r0 := hy 0; have r0' := hy' 0; have r1 := hy 1; have r1' := hy' 1
  rw [qoff_row] at r0 r0'
  have c (q : Fin k0_t1_loop.trips × Fin 22) : qoff q.1 q.2 1 = 128 * q.2.val := rfl
  rw [c] at r1 r1'
  have s0 : S64x128.size 0 = 64 := rfl
  have s1 : S64x128.size 1 = 128 := rfl
  rw [s0] at r0 r0'
  rw [s1] at r1 r1'
  exact h (Prod.ext (Fin.ext (by omega)) (Fin.ext (by omega)))

section

variable (𝒱 : Variants) (c : Dev nD) (bd : Option 𝒱.V) (E : Set ℕ)

/-- One quantising block. -/
theorem qblk_wp (arg3 : Memref sig .tc .vmem S768x2816 .bf16) (arg6 : Memref sig .tc .vmem S768x2816 .bf16) (harg6 : arg6.IsWhole)
    (D A : Vec F S768x2816 .bf16) (k : Fin k0_t1_loop.trips) (j : Fin 22) :
    (iprop(owns (c : Thread nD τ) arg3 fullShare D ∗ owns (c : Thread nD τ) arg6 fullShare A) : sProp 𝕄)
      ⊢ wp frame (wpE (defs₀ (F := F)) 𝒱 (c : Thread nD τ) bd) E (qblk arg3 arg6 harg6 k j)
        (fun _ => iprop(owns (c : Thread nD τ) arg3 fullShare D ∗ owns (c : Thread nD τ) arg6 fullShare ((qrect (k, j)).overlay A (qpay D (k, j))))) := by
  unfold qblk
  iintro ⟨H3, H6⟩
  iapply (wp_load_lift 𝒱 (c : Thread nD τ) bd E) $$ H3
  iintro H3
  iapply (wp_load_lift 𝒱 (c : Thread nD τ) bd E) $$ H6
  iintro H6
  iapply (wp_store_lift 𝒱 (c : Thread nD τ) bd E) $$ H6
  iintro H6
  isplitl [H3]
  · iexact H3
  · iexact H6

/-- One trip of the quantising loop: the trip's 22 blocks come to hold what they should. -/
theorem qtrip_wp (arg3 : Memref sig .tc .vmem S768x2816 .bf16) (arg6 : Memref sig .tc .vmem S768x2816 .bf16) (harg6 : arg6.IsWhole)
    (D : Vec F S768x2816 .bf16) (k : Fin k0_t1_loop.trips) :
    (iprop(owns (c : Thread nD τ) arg3 fullShare D ∗ ∃ A, ⌜Agree qrect (qpay D) (fun p => p.1.val < k.val) A⌝ ∗ owns (c : Thread nD τ) arg6 fullShare A) : sProp 𝕄)
      ⊢ wp frame (wpE (defs₀ (F := F)) 𝒱 (c : Thread nD τ) bd) E (seqAll (qblk arg3 arg6 harg6 k) qlist)
        (fun _ => iprop(owns (c : Thread nD τ) arg3 fullShare D ∗ ∃ A, ⌜Agree qrect (qpay D) (fun p => p.1.val < k.val + 1) A⌝ ∗ owns (c : Thread nD τ) arg6 fullShare A)) := by
  let I : List (Fin 22) → sProp 𝕄 := fun l =>
    iprop(owns (c : Thread nD τ) arg3 fullShare D ∗ ∃ A, ⌜Agree qrect (qpay D) (fun p => p.1.val < k.val ∨ (p.1 = k ∧ p.2 ∈ l)) A⌝ ∗ owns (c : Thread nD τ) arg6 fullShare A)
  have hstep : ∀ l x, True → I l ⊢ wp frame (wpE (defs₀ (F := F)) 𝒱 (c : Thread nD τ) bd) E (qblk arg3 arg6 harg6 k x) (fun _ => I (l ++ [x])) := by
    intro l x _
    dsimp only [I]
    iintro ⟨H3, %A, %hA, H6⟩
    have hpost : (iprop(owns (c : Thread nD τ) arg3 fullShare D ∗ owns (c : Thread nD τ) arg6 fullShare ((qrect (k, x)).overlay A (qpay D (k, x)))) : sProp 𝕄) ⊢ I (l ++ [x]) := by
      dsimp only [I]
      iintro ⟨H3, H6⟩
      isplitl [H3]
      · iexact H3
      iexists (qrect (k, x)).overlay A (qpay D (k, x))
      isplitr
      · ipureintro
        refine Agree.step qrect_disjoint hA (k, x) fun p hp => ?_
        rcases hp with hp | ⟨hp, hx⟩
        · exact Or.inl (Or.inl hp)
        · rcases List.mem_append.1 hx with hx | hx
          · exact Or.inl (Or.inr ⟨hp, hx⟩)
          · exact Or.inr (Prod.ext hp (List.mem_singleton.1 hx))
      · iexact H6
    iapply ((qblk_wp 𝒱 c bd E arg3 arg6 harg6 D A k x).trans (wp_mono _ _ _ fun _ => hpost))
    isplitl [H3] <;> iassumption
  have hall := wp_seqAll 𝒱 (c : Thread nD τ) bd E (qblk (F := F) arg3 arg6 harg6 k) I (fun _ => True) hstep qlist [] (fun _ _ => trivial)
  have hmem : ∀ j : Fin 22, j ∈ qlist := by decide
  have hpre : (iprop(owns (c : Thread nD τ) arg3 fullShare D ∗ ∃ A, ⌜Agree qrect (qpay D) (fun p => p.1.val < k.val) A⌝ ∗ owns (c : Thread nD τ) arg6 fullShare A) : sProp 𝕄) ⊢ I [] := by
    dsimp only [I]
    iintro ⟨H3, %A, %hA, H6⟩
    isplitl [H3]
    · iexact H3
    iexists A
    isplitr
    · ipureintro
      exact fun p hp => hA p (hp.resolve_right fun h => by simp at h)
    · iexact H6
  refine hpre.trans (hall.trans (wp_mono _ _ _ fun _ => ?_))
  · dsimp only [I]
    iintro ⟨H3, %A, %hA, H6⟩
    isplitl [H3]
    · iexact H3
    iexists A
    isplitr
    · ipureintro
      intro p hp
      refine hA p ?_
      rcases Nat.lt_or_ge p.1.val k.val with h | h
      · exact Or.inl h
      · exact Or.inr ⟨Fin.ext (by omega), hmem _⟩
    · iexact H6

/-- The quantising loop: whatever the scratch held, it comes to hold the activations quantised. -/
theorem qloop_wp (arg3 : Memref sig .tc .vmem S768x2816 .bf16) (arg6 : Memref sig .tc .vmem S768x2816 .bf16) (harg6 : arg6.IsWhole)
    (D A : Vec F S768x2816 .bf16) (hok : k0_t1_loop.OK) :
    (iprop(owns (c : Thread nD τ) arg3 fullShare D ∗ owns (c : Thread nD τ) arg6 fullShare A) : sProp 𝕄)
      ⊢ wp frame (wpE (defs₀ (F := F)) 𝒱 (c : Thread nD τ) bd) E
        (Scf.Loop.for k0_t1_loop hok ⟨⟩ (fun k _ => seqAll (qblk arg3 arg6 harg6 k) qlist))
        (fun _ => iprop(owns (c : Thread nD τ) arg3 fullShare D ∗ ∃ A, ⌜IsQuant D A⌝ ∗ owns (c : Thread nD τ) arg6 fullShare A)) := by
  iintro ⟨H3, H6⟩
  iapply (Scf.wp_for _ _ E k0_t1_loop.lb k0_t1_loop.ub k0_t1_loop.st hok ⟨⟩ (fun k _ => seqAll (qblk (F := F) arg3 arg6 harg6 k) qlist)
    (fun k _ => iprop(owns (c : Thread nD τ) arg3 fullShare D ∗ ∃ A, ⌜Agree qrect (qpay D) (fun p => p.1.val < k) A⌝ ∗ owns (c : Thread nD τ) arg6 fullShare A))
    (fun k _ => qtrip_wp 𝒱 c bd E arg3 arg6 harg6 D k))
  isplitl [H3 H6]
  · isplitl [H3]
    · iexact H3
    iexists A
    isplitr
    · ipureintro
      exact fun p hp => absurd hp (Nat.not_lt_zero _)
    · iexact H6
  · iintro %_ ⟨H3, %A', %hA, H6⟩
    isplitl [H3]
    · iexact H3
    iexists A'
    isplitr
    · ipureintro
      exact fun p _ => hA p p.1.isLt
    · iexact H6

/-! ## The weights scaled back -/

/-- The rectangle of a block of the quarter scaled back. -/
abbrev drect (j : Fin 44) : Rect S256x2816 := Rect.unit (s := S256x2816) (doff j) S128x128.size (doff_inb j)

/-- What a block stores, of the factors `S` and the weights `W`. -/
def dpay (i : grid0.Coords) (nt : Fin 4) (S : Vec F S9x176 .f32) (W : Vec F S1x1024x2816 .fp8e4m3) (j : Fin 44) : (drect j).shape.Idx → Elt F .bf16 :=
  k0_pay79 (S ((Rect.unit (s := S9x176) (soff i nt j) S1x1.size (soff_inb i nt j)).emb (Shape.Idx.first (numel1_S1x1.symm ▸ Nat.one_pos))))
    (fun y => W ((Rect.unit (s := S1x1024x2816) (woff nt j) S1x128x128.size (woff_inb nt j)).emb y))

/-- `Z` holds quarter `nt` of the weights scaled back. -/
def IsWd (i : grid0.Coords) (nt : Fin 4) (S : Vec F S9x176 .f32) (W : Vec F S1x1024x2816 .fp8e4m3) (Z : Vec F S256x2816 .bf16) : Prop :=
  Agree drect (dpay i nt S W) (fun _ => True) Z

theorem drect_disjoint (j j' : Fin 44) (h : j ≠ j') : Disjoint (drect j).set (drect j').set := by
  rw [Finset.disjoint_left]
  intro y hy hy'
  rw [Rect.mem_set_unit] at hy hy'
  have r0 := hy 0; have r0' := hy' 0; have r1 := hy 1; have r1' := hy' 1
  have c0 (q : Fin 44) : doff q 0 = 128 * (q.val / 22) := rfl
  have c1 (q : Fin 44) : doff q 1 = 128 * (q.val % 22) := rfl
  have s0 : S128x128.size 0 = 128 := rfl
  have s1 : S128x128.size 1 = 128 := rfl
  rw [c0, s0] at r0 r0'
  rw [c1, s1] at r1 r1'
  exact h (Fin.ext (by omega))

/-- One block of the weights. -/
theorem wblk_wp (i : grid0.Coords) (arg2 : Memref sig .tc .smem S9x176 .f32) (arg4 : Memref sig .tc .vmem S1x1024x2816 .fp8e4m3)
    (arg7 : Memref sig .tc .vmem S256x2816 .bf16) (harg7 : arg7.IsWhole) (nt : Fin 4) (j : Fin 44)
    (S : Vec F S9x176 .f32) (W : Vec F S1x1024x2816 .fp8e4m3) (Z : Vec F S256x2816 .bf16) :
    (iprop(owns (c : Thread nD τ) arg2 fullShare S ∗ owns (c : Thread nD τ) arg4 fullShare W ∗ owns (c : Thread nD τ) arg7 fullShare Z) : sProp 𝕄)
      ⊢ wp frame (wpE (defs₀ (F := F)) 𝒱 (c : Thread nD τ) bd) E (wblk i arg2 arg4 arg7 harg7 nt j)
        (fun _ => iprop(owns (c : Thread nD τ) arg2 fullShare S ∗ owns (c : Thread nD τ) arg4 fullShare W ∗
          owns (c : Thread nD τ) arg7 fullShare ((drect j).overlay Z (dpay i nt S W j)))) := by
  unfold wblk
  iintro ⟨H2, H4, H7⟩
  iapply (wp_smem_lift 𝒱 (c : Thread nD τ) bd E) $$ H2
  iintro H2
  iapply (wp_load_lift 𝒱 (c : Thread nD τ) bd E) $$ H4
  iintro H4
  iapply (wp_load_lift 𝒱 (c : Thread nD τ) bd E) $$ H7
  iintro H7
  iapply (wp_store_lift 𝒱 (c : Thread nD τ) bd E) $$ H7
  iintro H7
  isplitl [H2]
  · iexact H2
  isplitl [H4]
  · iexact H4
  · iexact H7

/-- The blocks of a quarter of the weights. -/
theorem wseg_wp (i : grid0.Coords) (arg2 : Memref sig .tc .smem S9x176 .f32) (arg4 : Memref sig .tc .vmem S1x1024x2816 .fp8e4m3)
    (arg7 : Memref sig .tc .vmem S256x2816 .bf16) (harg7 : arg7.IsWhole) (nt : Fin 4)
    (S : Vec F S9x176 .f32) (W : Vec F S1x1024x2816 .fp8e4m3) :
    (iprop(owns (c : Thread nD τ) arg2 fullShare S ∗ owns (c : Thread nD τ) arg4 fullShare W ∗ ∃ Z, owns (c : Thread nD τ) arg7 fullShare Z) : sProp 𝕄)
      ⊢ wp frame (wpE (defs₀ (F := F)) 𝒱 (c : Thread nD τ) bd) E (seqAll (wblk i arg2 arg4 arg7 harg7 nt) wlist)
        (fun _ => iprop(owns (c : Thread nD τ) arg2 fullShare S ∗ owns (c : Thread nD τ) arg4 fullShare W ∗
          ∃ Z, ⌜IsWd i nt S W Z⌝ ∗ owns (c : Thread nD τ) arg7 fullShare Z)) := by
  let I : List (Fin 44) → sProp 𝕄 := fun l =>
    iprop(owns (c : Thread nD τ) arg2 fullShare S ∗ owns (c : Thread nD τ) arg4 fullShare W ∗
      ∃ Z, ⌜Agree drect (dpay i nt S W) (fun j => j ∈ l) Z⌝ ∗ owns (c : Thread nD τ) arg7 fullShare Z)
  have hstep : ∀ l x, True → I l ⊢ wp frame (wpE (defs₀ (F := F)) 𝒱 (c : Thread nD τ) bd) E (wblk i arg2 arg4 arg7 harg7 nt x) (fun _ => I (l ++ [x])) := by
    intro l x _
    dsimp only [I]
    iintro ⟨H2, H4, %Z, %hZ, H7⟩
    have hpost : (iprop(owns (c : Thread nD τ) arg2 fullShare S ∗ owns (c : Thread nD τ) arg4 fullShare W ∗
      owns (c : Thread nD τ) arg7 fullShare ((drect x).overlay Z (dpay i nt S W x))) : sProp 𝕄) ⊢ I (l ++ [x]) := by
      dsimp only [I]
      iintro ⟨H2, H4, H7⟩
      isplitl [H2]
      · iexact H2
      isplitl [H4]
      · iexact H4
      iexists (drect x).overlay Z (dpay i nt S W x)
      isplitr
      · ipureintro
        refine Agree.step drect_disjoint hZ x fun p hp => ?_
        rcases List.mem_append.1 hp with hx | hx
        · exact Or.inl hx
        · exact Or.inr (List.mem_singleton.1 hx)
      · iexact H7
    iapply ((wblk_wp 𝒱 c bd E i arg2 arg4 arg7 harg7 nt x S W Z).trans (wp_mono _ _ _ fun _ => hpost))
    isplitl [H2]
    · iexact H2
    isplitl [H4] <;> iassumption
  have hall := wp_seqAll 𝒱 (c : Thread nD τ) bd E (wblk (F := F) i arg2 arg4 arg7 harg7 nt) I (fun _ => True) hstep wlist [] (fun _ _ => trivial)
  have hmem : ∀ j : Fin 44, j ∈ wlist := by decide
  have hpre : (iprop(owns (c : Thread nD τ) arg2 fullShare S ∗ owns (c : Thread nD τ) arg4 fullShare W ∗ ∃ Z, owns (c : Thread nD τ) arg7 fullShare Z) : sProp 𝕄) ⊢ I [] := by
    dsimp only [I]
    iintro ⟨H2, H4, %Z, H7⟩
    isplitl [H2]
    · iexact H2
    isplitl [H4]
    · iexact H4
    iexists Z
    isplitr
    · ipureintro
      exact fun p hp => absurd hp (List.not_mem_nil)
    · iexact H7
  refine hpre.trans (hall.trans (wp_mono _ _ _ fun _ => ?_))
  · dsimp only [I]
    iintro ⟨H2, H4, %Z, %hZ, H7⟩
    isplitl [H2]
    · iexact H2
    isplitl [H4]
    · iexact H4
    iexists Z
    isplitr
    · ipureintro
      exact fun p _ => hZ p (hmem p)
    · iexact H7

/-! ## The multiplying loops -/

/-- The result's array after a trip over the row block `row` of quarter `nt`. -/
def mstore (lo hi : BitVec 32) (nt : Fin 4) (row : BitVec 32) (h : RowOK row) (A : Vec F S768x2816 .bf16) (Z : Vec F S256x2816 .bf16)
    (O : Vec F S768x1024 .bf16) : Vec F S768x1024 .bf16 :=
  (Rect.unit (s := S768x1024) (ooff nt row) S64x256.size (ooff_inb nt h)).overlay O
    (mpay lo hi row (fun y => A ((Rect.unit (s := S768x2816) (aoff row) S64x2816.size (aoff_inb h)).emb y))
      (fun y => Z ((Rect.unit (s := S256x2816) ![0, 0] S256x2816.size inb_S256x2816_S256x2816_0_0).emb y))
      (fun y => O ((Rect.unit (s := S768x1024) (ooff nt row) S64x256.size (ooff_inb nt h)).emb y)))

/-- One trip. -/
theorem mtrip_wp (arg5 : Memref sig .tc .vmem S768x1024 .bf16) (harg5 : arg5.IsWhole) (arg6 : Memref sig .tc .vmem S768x2816 .bf16)
    (arg7 : Memref sig .tc .vmem S256x2816 .bf16) (lo hi : BitVec 32) (nt : Fin 4) (row : BitVec 32) (h : RowOK row)
    (O : Vec F S768x1024 .bf16) (A : Vec F S768x2816 .bf16) (Z : Vec F S256x2816 .bf16) :
    (iprop(owns (c : Thread nD τ) arg6 fullShare A ∗ owns (c : Thread nD τ) arg7 fullShare Z ∗ owns (c : Thread nD τ) arg5 fullShare O) : sProp 𝕄)
      ⊢ wp frame (wpE (defs₀ (F := F)) 𝒱 (c : Thread nD τ) bd) E (mtrip arg5 harg5 arg6 arg7 lo hi nt row h)
        (fun _ => iprop(owns (c : Thread nD τ) arg6 fullShare A ∗ owns (c : Thread nD τ) arg7 fullShare Z ∗
          owns (c : Thread nD τ) arg5 fullShare (mstore lo hi nt row h A Z O))) := by
  unfold mtrip
  iintro ⟨H6, H7, H5⟩
  iapply (wp_load_lift 𝒱 (c : Thread nD τ) bd E) $$ H6
  iintro H6
  iapply (wp_load_lift 𝒱 (c : Thread nD τ) bd E) $$ H7
  iintro H7
  iapply (wp_load_lift 𝒱 (c : Thread nD τ) bd E) $$ H5
  iintro H5
  iapply (wp_load_lift 𝒱 (c : Thread nD τ) bd E) $$ H5
  iintro H5
  iapply (wp_store_lift 𝒱 (c : Thread nD τ) bd E) $$ H5
  iintro H5
  isplitl [H6]
  · iexact H6
  isplitl [H7]
  · iexact H7
  · iexact H5

/-- The multiplying loops of quarter `nt`: a statement of the result's array that holds before trip 0, and that every trip carries
    to the next trip's, holds at the trip count. -/
theorem mloops_wp (arg5 : Memref sig .tc .vmem S768x1024 .bf16) (harg5 : arg5.IsWhole) (arg6 : Memref sig .tc .vmem S768x2816 .bf16)
    (arg7 : Memref sig .tc .vmem S256x2816 .bf16) (v9 v11 : BitVec 32) (hw : k0_chk1 v9 v11) (h2 : k0_cond2 v9 v11 = 1#1) (nt : Fin 4)
    (h5 : (k0_t5_loop v9 v11).trips = 0) (A : Vec F S768x2816 .bf16) (Z : Vec F S256x2816 .bf16)
    (J : ℕ → Vec F S768x1024 .bf16 → Prop)
    (hJ : ∀ (k : Fin (k0_t4_loop v9 v11).trips) O, J k.val O → J (k.val + 1) (mstore v9 (Scalar.addi v9 v11) nt (row4 v9 v11 k) (row4_ok hw h2 k) A Z O)) :
    (iprop(owns (c : Thread nD τ) arg6 fullShare A ∗ owns (c : Thread nD τ) arg7 fullShare Z ∗ ∃ O, ⌜J 0 O⌝ ∗ owns (c : Thread nD τ) arg5 fullShare O) : sProp 𝕄)
      ⊢ wp frame (wpE (defs₀ (F := F)) 𝒱 (c : Thread nD τ) bd) E (mloops arg5 harg5 arg6 arg7 v9 v11 hw h2 nt)
        (fun _ => iprop(owns (c : Thread nD τ) arg6 fullShare A ∗ owns (c : Thread nD τ) arg7 fullShare Z ∗
          ∃ O, ⌜J (k0_t4_loop v9 v11).trips O⌝ ∗ owns (c : Thread nD τ) arg5 fullShare O)) := by
  unfold mloops
  refine wp_seq 𝒱 (c : Thread nD τ) bd E (R := iprop(owns (c : Thread nD τ) arg6 fullShare A ∗ owns (c : Thread nD τ) arg7 fullShare Z ∗
          ∃ O, ⌜J (k0_t4_loop v9 v11).trips O⌝ ∗ owns (c : Thread nD τ) arg5 fullShare O)) ?_ ?_
  · iintro HH
    iapply (Scf.wp_for _ _ E (k0_t4_loop v9 v11).lb (k0_t4_loop v9 v11).ub (k0_t4_loop v9 v11).st (k0_t4_ok v9 v11 hw h2) ⟨⟩
      (fun k _ => mtrip (F := F) arg5 harg5 arg6 arg7 v9 (Scalar.addi v9 v11) nt (row4 v9 v11 k) (row4_ok hw h2 k))
      (fun k _ => iprop(owns (c : Thread nD τ) arg6 fullShare A ∗ owns (c : Thread nD τ) arg7 fullShare Z ∗ ∃ O, ⌜J k O⌝ ∗ owns (c : Thread nD τ) arg5 fullShare O))
      (fun k _ => ?_))
    · iintro ⟨H6, H7, %O, %hO, H5⟩
      have hpost : (iprop(owns (c : Thread nD τ) arg6 fullShare A ∗ owns (c : Thread nD τ) arg7 fullShare Z ∗
          owns (c : Thread nD τ) arg5 fullShare (mstore v9 (Scalar.addi v9 v11) nt (row4 v9 v11 k) (row4_ok hw h2 k) A Z O)) : sProp 𝕄)
          ⊢ iprop(owns (c : Thread nD τ) arg6 fullShare A ∗ owns (c : Thread nD τ) arg7 fullShare Z ∗ ∃ O, ⌜J (k.val + 1) O⌝ ∗ owns (c : Thread nD τ) arg5 fullShare O) := by
        iintro ⟨H6, H7, H5⟩
        isplitl [H6]
        · iexact H6
        isplitl [H7]
        · iexact H7
        iexists mstore v9 (Scalar.addi v9 v11) nt (row4 v9 v11 k) (row4_ok hw h2 k) A Z O
        isplitr
        · ipureintro
          exact hJ k O hO
        · iexact H5
      iapply ((mtrip_wp 𝒱 c bd E arg5 harg5 arg6 arg7 v9 (Scalar.addi v9 v11) nt (row4 v9 v11 k) (row4_ok hw h2 k) O A Z).trans (wp_mono _ _ _ fun _ => hpost))
      isplitl [H6]
      · iexact H6
      isplitl [H7] <;> iassumption
    · isplitl [HH]
      · iexact HH
      · iintro %_ HH
        iexact HH
  · iintro HH
    iapply (Scf.wp_for _ _ E (k0_t5_loop v9 v11).lb (k0_t5_loop v9 v11).ub (k0_t5_loop v9 v11).st (k0_t5_ok v9 v11 hw h2) ⟨⟩
      (fun k _ => mtrip (F := F) arg5 harg5 arg6 arg7 v9 (Scalar.addi v9 v11) nt (row5 v9 v11 k) (row5_ok hw h2 k))
      (fun k _ => iprop(owns (c : Thread nD τ) arg6 fullShare A ∗ owns (c : Thread nD τ) arg7 fullShare Z ∗ ∃ O, ⌜J (k0_t4_loop v9 v11).trips O⌝ ∗ owns (c : Thread nD τ) arg5 fullShare O))
      (fun k _ => (Nat.not_lt_zero _ (lt_of_lt_of_eq k.isLt h5)).elim))
    isplitl [HH]
    · iexact HH
    · iintro %_ HH
      iexact HH

/-- The program of an expert that has rows: quarter by quarter. `J nt k` is what is known of the result's array before trip `k` of
    quarter `nt`. -/
theorem heavy_wp (i : grid0.Coords) (arg2 : Memref sig .tc .smem S9x176 .f32) (arg4 : Memref sig .tc .vmem S1x1024x2816 .fp8e4m3)
    (arg5 : Memref sig .tc .vmem S768x1024 .bf16) (harg5 : arg5.IsWhole) (arg6 : Memref sig .tc .vmem S768x2816 .bf16)
    (arg7 : Memref sig .tc .vmem S256x2816 .bf16) (harg7 : arg7.IsWhole) (v9 v11 : BitVec 32) (hw : k0_chk1 v9 v11) (h2 : k0_cond2 v9 v11 = 1#1)
    (h5 : (k0_t5_loop v9 v11).trips = 0) (S : Vec F S9x176 .f32) (W : Vec F S1x1024x2816 .fp8e4m3) (A : Vec F S768x2816 .bf16)
    (J : ℕ → ℕ → Vec F S768x1024 .bf16 → Prop)
    (hJ : ∀ (nt : Fin 4) (k : Fin (k0_t4_loop v9 v11).trips) Z O, IsWd i nt S W Z → J nt.val k.val O →
      J nt.val (k.val + 1) (mstore v9 (Scalar.addi v9 v11) nt (row4 v9 v11 k) (row4_ok hw h2 k) A Z O))
    (hN : ∀ (nt : Fin 4) O, J nt.val (k0_t4_loop v9 v11).trips O → J (nt.val + 1) 0 O) :
    (iprop(owns (c : Thread nD τ) arg2 fullShare S ∗ owns (c : Thread nD τ) arg4 fullShare W ∗ owns (c : Thread nD τ) arg6 fullShare A ∗
        (∃ Z, owns (c : Thread nD τ) arg7 fullShare Z) ∗ ∃ O, ⌜J 0 0 O⌝ ∗ owns (c : Thread nD τ) arg5 fullShare O) : sProp 𝕄)
      ⊢ wp frame (wpE (defs₀ (F := F)) 𝒱 (c : Thread nD τ) bd) E (heavy i arg2 arg4 arg5 harg5 arg6 arg7 harg7 v9 v11 hw h2 [0, 1, 2, 3])
        (fun _ => iprop(owns (c : Thread nD τ) arg2 fullShare S ∗ owns (c : Thread nD τ) arg4 fullShare W ∗ owns (c : Thread nD τ) arg6 fullShare A ∗
          (∃ Z, owns (c : Thread nD τ) arg7 fullShare Z) ∗ ∃ O, ⌜J 4 0 O⌝ ∗ owns (c : Thread nD τ) arg5 fullShare O)) := by
  let I : ℕ → sProp 𝕄 := fun n =>
    iprop(owns (c : Thread nD τ) arg2 fullShare S ∗ owns (c : Thread nD τ) arg4 fullShare W ∗ owns (c : Thread nD τ) arg6 fullShare A ∗
        (∃ Z, owns (c : Thread nD τ) arg7 fullShare Z) ∗ ∃ O, ⌜J n 0 O⌝ ∗ owns (c : Thread nD τ) arg5 fullShare O)
  have hquarter : ∀ nt : Fin 4, I nt.val ⊢ wp frame (wpE (defs₀ (F := F)) 𝒱 (c : Thread nD τ) bd) E
      (seqAll (wblk i arg2 arg4 arg7 harg7 nt) wlist >>= fun _ => mloops arg5 harg5 arg6 arg7 v9 v11 hw h2 nt) (fun _ => I (nt.val + 1)) := by
    intro nt
    have hw1 := wp_keep 𝒱 (c : Thread nD τ) bd E (K := iprop(owns (c : Thread nD τ) arg6 fullShare A ∗ ∃ O, ⌜J nt.val 0 O⌝ ∗ owns (c : Thread nD τ) arg5 fullShare O))
      (wseg_wp 𝒱 c bd E i arg2 arg4 arg7 harg7 nt S W)
    have hpre : I nt.val ⊢ iprop((owns (c : Thread nD τ) arg2 fullShare S ∗ owns (c : Thread nD τ) arg4 fullShare W ∗ ∃ Z, owns (c : Thread nD τ) arg7 fullShare Z) ∗
        (owns (c : Thread nD τ) arg6 fullShare A ∗ ∃ O, ⌜J nt.val 0 O⌝ ∗ owns (c : Thread nD τ) arg5 fullShare O)) := by
      dsimp only [I]
      iintro ⟨H2, H4, H6, H7, H5⟩
      isplitl [H2 H4 H7]
      · isplitl [H2]
        · iexact H2
        isplitl [H4]
        · iexact H4
        · iexact H7
      isplitl [H6]
      · iexact H6
      · iexact H5
    refine wp_seq 𝒱 (c : Thread nD τ) bd E (hpre.trans hw1) ?_
    iintro ⟨⟨H2, H4, %Z, %hZ, H7⟩, H6, H5⟩
    have hm := wp_keep 𝒱 (c : Thread nD τ) bd E (K := iprop(owns (c : Thread nD τ) arg2 fullShare S ∗ owns (c : Thread nD τ) arg4 fullShare W))
      (mloops_wp 𝒱 c bd E arg5 harg5 arg6 arg7 v9 v11 hw h2 nt h5 A Z (J nt.val) (fun k O hO => hJ nt k Z O hZ hO))
    have hpost : (iprop((owns (c : Thread nD τ) arg6 fullShare A ∗ owns (c : Thread nD τ) arg7 fullShare Z ∗
          ∃ O, ⌜J nt.val (k0_t4_loop v9 v11).trips O⌝ ∗ owns (c : Thread nD τ) arg5 fullShare O) ∗ (owns (c : Thread nD τ) arg2 fullShare S ∗ owns (c : Thread nD τ) arg4 fullShare W)) : sProp 𝕄)
        ⊢ I (nt.val + 1) := by
      dsimp only [I]
      iintro ⟨⟨H6, H7, %O, %hO, H5⟩, H2, H4⟩
      isplitl [H2]
      · iexact H2
      isplitl [H4]
      · iexact H4
      isplitl [H6]
      · iexact H6
      isplitl [H7]
      · iexists Z
        iexact H7
      iexists O
      isplitr
      · ipureintro
        exact hN nt O hO
      · iexact H5
    iapply (hm.trans (wp_mono _ _ _ fun _ => hpost))
    isplitl [H6 H7 H5]
    · isplitl [H6]
      · iexact H6
      isplitl [H7]
      · iexact H7
      · iexact H5
    isplitl [H2]
    · iexact H2
    · iexact H4
  show I 0 ⊢ wp _ _ _ _ (fun _ => I 4)
  unfold heavy
  refine wp_seq 𝒱 (c : Thread nD τ) bd E (hquarter 0) ?_
  refine wp_seq 𝒱 (c : Thread nD τ) bd E (hquarter 1) ?_
  refine wp_seq 𝒱 (c : Thread nD τ) bd E (hquarter 2) ?_
  refine wp_seq 𝒱 (c : Thread nD τ) bd E (hquarter 3) ?_
  exact fupd_intro

end

end Cert.KernelIdeal.Hand
-- ==== Proof.KernelIdealRows.lean ====
module

public import proofs.«01_k».proof.Proof.KernelIdealBody
public import proofs.«01_k».proof.Proof.Sizes

@[expose] public section

/-! The rows of an expert: where they start, which the kernel sums up, and how many there are. -/

noncomputable section

namespace Cert.KernelIdeal.Hand

open Cert.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ)

/-- The place read through a one-element window at `n`. -/
theorem emb_ix9 {off : Fin 1 → ℕ} (h : ∀ a, off a + S1.size a ≤ S9.size a) (n : ℕ) (h0 : off 0 = n) (y : S1.Idx) :
    (Rect.unit (s := S9) off S1.size h).emb y = ix9 n := by
  funext a
  have hb := h a
  fin_cases a
  apply Fin.ext
  have hy : (y 0).val < 1 := (y 0).isLt
  have s1 : S1.size 0 = 1 := rfl
  have s9 : S9.size 0 = 9 := rfl
  change off 0 + S1.size 0 ≤ S9.size 0 at hb
  have he : ((Rect.unit (s := S9) off S1.size h).emb y 0).val = off 0 + (y 0).val := by
    rw [Rect.emb_apply]
    show off 0 + 1 * (y 0).val = _
    omega
  have hm : (ix9 n 0).val = n % 9 := rfl
  change ((Rect.unit (s := S9) off S1.size h).emb y 0).val = (ix9 n 0).val
  omega

theorem ofNat_self (v : BitVec 32) : v = BitVec.ofNat 32 v.toNat := by simp

theorem iv_nat : ∀ k : Fin 9, (Scalar.indexCast (Scf.iv 0#32 1#32 k)).toNat = k := by decide +kernel

theorem cast_nat : ∀ k : Fin 9, (Scalar.indexCast (BitVec.ofNat 32 k.val)).toNat = k := by decide +kernel

theorem trips2_dec : ∀ e : Fin 9, Scf.trips 0#32 (Scalar.addi 0#32 (Scalar.muli (Scalar.divsi (Scalar.subi (BitVec.ofNat 32 e.val) 0#32) 1#32) 1#32)) 1#32 = e := by
  decide +kernel

theorem trips3_dec : ∀ e : Fin 9, Scf.trips (Scalar.addi 0#32 (Scalar.muli (Scalar.divsi (Scalar.subi (BitVec.ofNat 32 e.val) 0#32) 1#32) 1#32))
    (Scalar.addi 0#32 (Scalar.subi (BitVec.ofNat 32 e.val) 0#32)) 1#32 = 0 := by
  decide +kernel

theorem trips2 (i : grid0.Coords) : (k0_t2_loop i).trips = (i 0).val := trips2_dec (i 0)

theorem trips3 (i : grid0.Coords) : (k0_t3_loop i).trips = 0 := trips3_dec (i 0)

theorem off23_eq (i : grid0.Coords) (k : Fin (k0_t2_loop i).trips) : k0_off23 i k 0 = k.val :=
  iv_nat ⟨k.val, lt_trans (lt_of_lt_of_eq k.isLt (trips2 i)) (i 0).isLt⟩

theorem off25_eq (i : grid0.Coords) : k0_off25 i 0 = (i 0).val := cast_nat (i 0)

variable (arg1 : Memref sig .tc .smem S9 .i32) (harg1 : arg1.IsWhole) (arg2 : Memref sig .tc .smem S9x176 .f32) (harg2 : arg2.IsWhole)
  (arg3 : Memref sig .tc .vmem S768x2816 .bf16) (harg3 : arg3.IsWhole) (arg4 : Memref sig .tc .vmem S1x1024x2816 .fp8e4m3) (harg4 : arg4.IsWhole)
  (arg5 : Memref sig .tc .vmem S768x1024 .bf16) (harg5 : arg5.IsWhole) (arg6 : Memref sig .tc .vmem S768x2816 .bf16) (harg6 : arg6.IsWhole)
  (arg7 : Memref sig .tc .vmem S256x2816 .bf16) (harg7 : arg7.IsWhole)

/-- A program and what follows it. -/
theorem wp_then {α β : Type} {p : Prog (TpuEff nD τ sig (Elt F) Λ₀ (c : Thread nD τ).2) α} {k : α → Prog (TpuEff nD τ sig (Elt F) Λ₀ (c : Thread nD τ).2) β}
    {P : sProp 𝕄} {R : α → sProp 𝕄} {Q : β → sProp 𝕄} (h1 : P ⊢ wp frame (wpE (defs₀ (F := F)) 𝒱 (c : Thread nD τ) bd) E p R)
    (h2 : ∀ a, R a ⊢ wp frame (wpE (defs₀ (F := F)) 𝒱 (c : Thread nD τ) bd) E (k a) Q) :
    P ⊢ wp frame (wpE (defs₀ (F := F)) 𝒱 (c : Thread nD τ) bd) E (p >>= k) Q := by
  rw [wp_bind]
  exact h1.trans (wp_mono _ _ _ h2)

/-- The summing loop finds the expert's first row. -/
theorem sum_wp (i : grid0.Coords) (G : Vec F S9 .i32) :
    (owns (c : Thread nD τ) arg1 fullShare G : sProp 𝕄)
      ⊢ wp frame (wpE (defs₀ (F := F)) 𝒱 (c : Thread nD τ) bd) E
        (Scf.Loop.for (k0_t2_loop i) (k0_t2_ok i) 0#32 (k0_t2_body (F := F) i arg1 harg1 arg2 harg2 arg3 harg3 arg4 harg4 arg5 harg5 arg6 harg6 arg7 harg7))
        (fun v => iprop(⌜v = gsum G (i 0).val⌝ ∗ owns (c : Thread nD τ) arg1 fullShare G)) := by
  iintro H1
  iapply (Scf.wp_for _ _ E (k0_t2_loop i).lb (k0_t2_loop i).ub (k0_t2_loop i).st (k0_t2_ok i) 0#32
    (k0_t2_body (F := F) i arg1 harg1 arg2 harg2 arg3 harg3 arg4 harg4 arg5 harg5 arg6 harg6 arg7 harg7)
    (fun k acc => iprop(⌜acc = gsum G k⌝ ∗ owns (c : Thread nD τ) arg1 fullShare G)) (fun k acc => ?_))
  · iintro ⟨%hacc, H1⟩
    unfold k0_t2_body
    iapply (wp_smem_lift 𝒱 (c : Thread nD τ) bd E) $$ H1
    iintro H1
    have hret : (iprop(⌜Scalar.addi acc (G ((Rect.unit (s := S9) (k0_off23 i k) S1.size (k0_off23_inb i k)).emb (Shape.Idx.first (numel1_S1.symm ▸ Nat.one_pos)))) = gsum G (k.val + 1)⌝ ∗ owns (c : Thread nD τ) arg1 fullShare G) : sProp 𝕄)
      ⊢ wp frame (wpE (defs₀ (F := F)) 𝒱 (c : Thread nD τ) bd) E (Prog.ret (Scalar.addi acc (G ((Rect.unit (s := S9) (k0_off23 i k) S1.size (k0_off23_inb i k)).emb (Shape.Idx.first (numel1_S1.symm ▸ Nat.one_pos)))))) (fun v => iprop(⌜v = gsum G (k.val + 1)⌝ ∗ owns (c : Thread nD τ) arg1 fullShare G)) :=
      fupd_intro
    iapply hret
    isplitr
    · ipureintro
      rw [emb_ix9 _ k.val (off23_eq i k), hacc]
      rfl
    · iexact H1
  · isplitl [H1]
    · isplitr
      · ipureintro
        rfl
      · iexact H1
    · iintro %acc ⟨%hacc, H1⟩
      isplitr
      · ipureintro
        rw [hacc, ← trips2 i]
      · iexact H1

/-- The loop after it makes no trip. -/
theorem sum3_wp (i : grid0.Coords) (v : BitVec 32) (P : sProp 𝕄) :
    P ⊢ wp frame (wpE (defs₀ (F := F)) 𝒱 (c : Thread nD τ) bd) E
        (Scf.Loop.for (k0_t3_loop i) (k0_t3_ok i) v (k0_t3_body (F := F) i arg1 harg1 arg2 harg2 arg3 harg3 arg4 harg4 arg5 harg5 arg6 harg6 arg7 harg7))
        (fun v' => iprop(⌜v' = v⌝ ∗ P)) := by
  iintro H1
  iapply (Scf.wp_for _ _ E (k0_t3_loop i).lb (k0_t3_loop i).ub (k0_t3_loop i).st (k0_t3_ok i) v
    (k0_t3_body (F := F) i arg1 harg1 arg2 harg2 arg3 harg3 arg4 harg4 arg5 harg5 arg6 harg6 arg7 harg7)
    (fun k acc => iprop(⌜acc = v⌝ ∗ P)) (fun k acc => (Nat.not_lt_zero _ (lt_of_lt_of_eq k.isLt (trips3 i))).elim))
  isplitl [H1]
  · isplitr
    · ipureintro
      rfl
    · iexact H1
  · iintro %acc HH
    iexact HH

/-- The rest of the body at an expert. `J nt k` is what is known of the result's array before trip `k` of quarter `nt`, `K` what is known at the end. -/
theorem rest_wp (i : grid0.Coords) (G : Vec F S9 .i32) (S : Vec F S9x176 .f32) (W : Vec F S1x1024x2816 .fp8e4m3) (A : Vec F S768x2816 .bf16)
    (hG : (gsum G (i 0).val).toNat + (G (ix9 (i 0).val)).toNat ≤ 768)
    (J : ℕ → ℕ → Vec F S768x1024 .bf16 → Prop) (K : Vec F S768x1024 .bf16 → Prop)
    (hJ : ∀ (hw : k0_chk1 (gsum G (i 0).val) (G (ix9 (i 0).val))) (h2 : k0_cond2 (gsum G (i 0).val) (G (ix9 (i 0).val)) = 1#1)
      (nt : Fin 4) (k : Fin (k0_t4_loop (gsum G (i 0).val) (G (ix9 (i 0).val))).trips) Z O, IsWd i nt S W Z → J nt.val k.val O →
      J nt.val (k.val + 1) (mstore (gsum G (i 0).val) (Scalar.addi (gsum G (i 0).val) (G (ix9 (i 0).val))) nt (row4 _ _ k) (row4_ok hw h2 k) A Z O))
    (hN : ∀ (nt : Fin 4) O, J nt.val (k0_t4_loop (gsum G (i 0).val) (G (ix9 (i 0).val))).trips O → J (nt.val + 1) 0 O)
    (hK : ∀ O, k0_cond2 (gsum G (i 0).val) (G (ix9 (i 0).val)) = 1#1 → J 4 0 O → K O)
    (hK0 : ∀ O, ¬ k0_cond2 (gsum G (i 0).val) (G (ix9 (i 0).val)) = 1#1 → J 0 0 O → K O) :
    (iprop(owns (c : Thread nD τ) arg1 fullShare G ∗ owns (c : Thread nD τ) arg2 fullShare S ∗ owns (c : Thread nD τ) arg4 fullShare W ∗ owns (c : Thread nD τ) arg6 fullShare A ∗
        (∃ Z, owns (c : Thread nD τ) arg7 fullShare Z) ∗ ∃ O, ⌜J 0 0 O⌝ ∗ owns (c : Thread nD τ) arg5 fullShare O) : sProp 𝕄)
      ⊢ wp frame (wpE (defs₀ (F := F)) 𝒱 (c : Thread nD τ) bd) E (rest arg1 harg1 arg2 harg2 arg3 harg3 arg4 harg4 arg5 harg5 arg6 harg6 arg7 harg7 i)
        (fun _ => iprop(owns (c : Thread nD τ) arg1 fullShare G ∗ owns (c : Thread nD τ) arg2 fullShare S ∗ owns (c : Thread nD τ) arg4 fullShare W ∗ owns (c : Thread nD τ) arg6 fullShare A ∗
          (∃ Z, owns (c : Thread nD τ) arg7 fullShare Z) ∗ ∃ O, ⌜K O⌝ ∗ owns (c : Thread nD τ) arg5 fullShare O)) := by
  unfold rest
  have hfirst := (BI.sep_mono_l (Q := iprop(owns (c : Thread nD τ) arg2 fullShare S ∗ owns (c : Thread nD τ) arg4 fullShare W ∗ owns (c : Thread nD τ) arg6 fullShare A ∗
        (∃ Z, owns (c : Thread nD τ) arg7 fullShare Z) ∗ ∃ O, ⌜J 0 0 O⌝ ∗ owns (c : Thread nD τ) arg5 fullShare O))
    (sum_wp 𝒱 c bd E arg1 harg1 arg2 harg2 arg3 harg3 arg4 harg4 arg5 harg5 arg6 harg6 arg7 harg7 i G)).trans (wp_frame_r _ _ _)
  refine wp_then 𝒱 c bd E hfirst fun v8 => ?_
  refine wp_then 𝒱 c bd E (sum3_wp 𝒱 c bd E arg1 harg1 arg2 harg2 arg3 harg3 arg4 harg4 arg5 harg5 arg6 harg6 arg7 harg7 i v8 _) fun v9 => ?_
  iintro ⟨%h9, ⟨%h8, H1⟩, H2, H4, H6, H7, H5⟩
  obtain rfl : v9 = gsum G (i 0).val := h9.trans h8
  iapply (wp_smem_lift 𝒱 (c : Thread nD τ) bd E) $$ H1
  rw [emb_ix9 _ (i 0).val (off25_eq i)]
  generalize hs : gsum G (i 0).val = v9 at *
  generalize hg : G (ix9 (i 0).val) = v11 at *
  iintro H1
  have hw : k0_chk1 v9 v11 := chk_of (ofNat_self _) (ofNat_self _) hG
  iapply (wp_assume (defs := defs₀ (F := F)) 𝒱 (c : Thread nD τ) bd E hw)
  have hb {α β : Type} (a : α) (f : α → Prog (TpuEff nD τ sig (Elt F) Λ₀ .tc) β) : (Prog.ret a).bind f = f a := rfl
  by_cases h2 : k0_cond2 v9 v11 = 1#1
  · have hh := wp_keep 𝒱 (c : Thread nD τ) bd E (K := owns (c : Thread nD τ) arg1 fullShare G)
      (heavy_wp 𝒱 c bd E i arg2 arg4 arg5 harg5 arg6 arg7 harg7 v9 v11 hw h2
        (trips5 (ofNat_self _) (ofNat_self _) hG) S W A J (hJ hw h2) hN)
    have hpost : (iprop((owns (c : Thread nD τ) arg2 fullShare S ∗ owns (c : Thread nD τ) arg4 fullShare W ∗ owns (c : Thread nD τ) arg6 fullShare A ∗
          (∃ Z, owns (c : Thread nD τ) arg7 fullShare Z) ∗ ∃ O, ⌜J 4 0 O⌝ ∗ owns (c : Thread nD τ) arg5 fullShare O) ∗ owns (c : Thread nD τ) arg1 fullShare G) : sProp 𝕄)
        ⊢ iprop(owns (c : Thread nD τ) arg1 fullShare G ∗ owns (c : Thread nD τ) arg2 fullShare S ∗ owns (c : Thread nD τ) arg4 fullShare W ∗ owns (c : Thread nD τ) arg6 fullShare A ∗
          (∃ Z, owns (c : Thread nD τ) arg7 fullShare Z) ∗ ∃ O, ⌜K O⌝ ∗ owns (c : Thread nD τ) arg5 fullShare O) := by
      iintro ⟨⟨H2, H4, H6, H7, %O, %hO, H5⟩, H1⟩
      isplitl [H1]
      · iexact H1
      isplitl [H2]
      · iexact H2
      isplitl [H4]
      · iexact H4
      isplitl [H6]
      · iexact H6
      isplitl [H7]
      · iexact H7
      iexists O
      isplitr
      · ipureintro
        exact hK O h2 hO
      · iexact H5
    have hall := hh.trans (wp_mono _ _ _ fun _ => hpost)
    rw [hb, dif_pos h2]
    iapply hall
    isplitr [H1]
    · isplitl [H2]
      · iexact H2
      isplitl [H4]
      · iexact H4
      isplitl [H6]
      · iexact H6
      isplitl [H7]
      · iexact H7
      · iexact H5
    · iexact H1
  · rw [hb, dif_neg h2]
    have hret : (iprop(owns (c : Thread nD τ) arg1 fullShare G ∗ owns (c : Thread nD τ) arg2 fullShare S ∗ owns (c : Thread nD τ) arg4 fullShare W ∗ owns (c : Thread nD τ) arg6 fullShare A ∗
          (∃ Z, owns (c : Thread nD τ) arg7 fullShare Z) ∗ ∃ O, ⌜K O⌝ ∗ owns (c : Thread nD τ) arg5 fullShare O) : sProp 𝕄)
        ⊢ wp frame (wpE (defs₀ (F := F)) 𝒱 (c : Thread nD τ) bd) E (Prog.ret PUnit.unit) (fun _ => iprop(owns (c : Thread nD τ) arg1 fullShare G ∗ owns (c : Thread nD τ) arg2 fullShare S ∗ owns (c : Thread nD τ) arg4 fullShare W ∗ owns (c : Thread nD τ) arg6 fullShare A ∗
          (∃ Z, owns (c : Thread nD τ) arg7 fullShare Z) ∗ ∃ O, ⌜K O⌝ ∗ owns (c : Thread nD τ) arg5 fullShare O)) := fupd_intro
    iapply hret
    icases H5 with ⟨%O, %hO, H5⟩
    isplitl [H1]
    · iexact H1
    isplitl [H2]
    · iexact H2
    isplitl [H4]
    · iexact H4
    isplitl [H6]
    · iexact H6
    isplitl [H7]
    · iexact H7
    iexists O
    isplitr
    · ipureintro
      exact hK0 O h2 hO
    · iexact H5

theorem cond1_dec : ∀ e : Fin 9, Scalar.cmpi .ne ((Scalar.extui (Scalar.cmpi .eq (BitVec.ofNat 32 e.val) 0#32) : BitVec 32)) 0#32 = 1#1 ↔ e.val = 0 := by
  decide +kernel

theorem cond1_iff (i : grid0.Coords) : k0_cond1 i = 1#1 ↔ (i 0).val = 0 := cond1_dec (i 0)

/-- The body at an expert. `PA` is what is known of the activations' scratch after the quantising step, `J nt k` what is known of the
    result's array before trip `k` of quarter `nt`, `K` what is known at the end. -/
theorem body_wp (i : grid0.Coords) (G : Vec F S9 .i32) (S : Vec F S9x176 .f32) (D : Vec F S768x2816 .bf16) (W : Vec F S1x1024x2816 .fp8e4m3)
    (O : Vec F S768x1024 .bf16) (A : Vec F S768x2816 .bf16)
    (hG : (gsum G (i 0).val).toNat + (G (ix9 (i 0).val)).toNat ≤ 768)
    (PA : Vec F S768x2816 .bf16 → Prop) (J : ℕ → ℕ → Vec F S768x1024 .bf16 → Prop) (K : Vec F S768x1024 .bf16 → Prop)
    (hq : (i 0).val = 0 → ∀ A', IsQuant D A' → PA A') (hs : (i 0).val ≠ 0 → PA A) (h0 : J 0 0 O)
    (hJ : ∀ (hw : k0_chk1 (gsum G (i 0).val) (G (ix9 (i 0).val))) (h2 : k0_cond2 (gsum G (i 0).val) (G (ix9 (i 0).val)) = 1#1)
      (nt : Fin 4) (k : Fin (k0_t4_loop (gsum G (i 0).val) (G (ix9 (i 0).val))).trips) A Z O, PA A → IsWd i nt S W Z → J nt.val k.val O →
      J nt.val (k.val + 1) (mstore (gsum G (i 0).val) (Scalar.addi (gsum G (i 0).val) (G (ix9 (i 0).val))) nt (row4 _ _ k) (row4_ok hw h2 k) A Z O))
    (hN : ∀ (nt : Fin 4) O, J nt.val (k0_t4_loop (gsum G (i 0).val) (G (ix9 (i 0).val))).trips O → J (nt.val + 1) 0 O)
    (hK : ∀ O, k0_cond2 (gsum G (i 0).val) (G (ix9 (i 0).val)) = 1#1 → J 4 0 O → K O)
    (hK0 : ∀ O, ¬ k0_cond2 (gsum G (i 0).val) (G (ix9 (i 0).val)) = 1#1 → J 0 0 O → K O) :
    (iprop(owns (c : Thread nD τ) arg1 fullShare G ∗ owns (c : Thread nD τ) arg2 fullShare S ∗ owns (c : Thread nD τ) arg3 fullShare D ∗
        owns (c : Thread nD τ) arg4 fullShare W ∗ owns (c : Thread nD τ) arg5 fullShare O ∗ owns (c : Thread nD τ) arg6 fullShare A ∗
        (∃ Z, owns (c : Thread nD τ) arg7 fullShare Z)) : sProp 𝕄)
      ⊢ wp frame (wpE (defs₀ (F := F)) 𝒱 (c : Thread nD τ) bd) E (cc0__body_skel (F := F) i arg1 harg1 arg2 harg2 arg3 harg3 arg4 harg4 arg5 harg5 arg6 harg6 arg7 harg7)
        (fun _ => iprop(owns (c : Thread nD τ) arg1 fullShare G ∗ owns (c : Thread nD τ) arg2 fullShare S ∗ owns (c : Thread nD τ) arg3 fullShare D ∗
          owns (c : Thread nD τ) arg4 fullShare W ∗ (∃ O', ⌜K O'⌝ ∗ owns (c : Thread nD τ) arg5 fullShare O') ∗
          (∃ A', ⌜PA A'⌝ ∗ owns (c : Thread nD τ) arg6 fullShare A') ∗ (∃ Z, owns (c : Thread nD τ) arg7 fullShare Z))) := by
  have hrest (A' : Vec F S768x2816 .bf16) (hA : PA A') :
      (iprop(owns (c : Thread nD τ) arg1 fullShare G ∗ owns (c : Thread nD τ) arg2 fullShare S ∗ owns (c : Thread nD τ) arg3 fullShare D ∗
        owns (c : Thread nD τ) arg4 fullShare W ∗ owns (c : Thread nD τ) arg5 fullShare O ∗ owns (c : Thread nD τ) arg6 fullShare A' ∗
        (∃ Z, owns (c : Thread nD τ) arg7 fullShare Z)) : sProp 𝕄)
      ⊢ wp frame (wpE (defs₀ (F := F)) 𝒱 (c : Thread nD τ) bd) E (rest (F := F) arg1 harg1 arg2 harg2 arg3 harg3 arg4 harg4 arg5 harg5 arg6 harg6 arg7 harg7 i)
        (fun _ => iprop(owns (c : Thread nD τ) arg1 fullShare G ∗ owns (c : Thread nD τ) arg2 fullShare S ∗ owns (c : Thread nD τ) arg3 fullShare D ∗
          owns (c : Thread nD τ) arg4 fullShare W ∗ (∃ O', ⌜K O'⌝ ∗ owns (c : Thread nD τ) arg5 fullShare O') ∗
          (∃ A', ⌜PA A'⌝ ∗ owns (c : Thread nD τ) arg6 fullShare A') ∗ (∃ Z, owns (c : Thread nD τ) arg7 fullShare Z))) := by
    have hr := wp_keep 𝒱 (c : Thread nD τ) bd E (K := owns (c : Thread nD τ) arg3 fullShare D)
      (rest_wp 𝒱 c bd E arg1 harg1 arg2 harg2 arg3 harg3 arg4 harg4 arg5 harg5 arg6 harg6 arg7 harg7 i G S W A' hG J K
        (fun hw h2 nt k Z O hZ hO => hJ hw h2 nt k A' Z O hA hZ hO) hN hK hK0)
    have hpost : (iprop((owns (c : Thread nD τ) arg1 fullShare G ∗ owns (c : Thread nD τ) arg2 fullShare S ∗ owns (c : Thread nD τ) arg4 fullShare W ∗ owns (c : Thread nD τ) arg6 fullShare A' ∗
          (∃ Z, owns (c : Thread nD τ) arg7 fullShare Z) ∗ ∃ O, ⌜K O⌝ ∗ owns (c : Thread nD τ) arg5 fullShare O) ∗ owns (c : Thread nD τ) arg3 fullShare D) : sProp 𝕄)
        ⊢ iprop(owns (c : Thread nD τ) arg1 fullShare G ∗ owns (c : Thread nD τ) arg2 fullShare S ∗ owns (c : Thread nD τ) arg3 fullShare D ∗
          owns (c : Thread nD τ) arg4 fullShare W ∗ (∃ O', ⌜K O'⌝ ∗ owns (c : Thread nD τ) arg5 fullShare O') ∗
          (∃ A', ⌜PA A'⌝ ∗ owns (c : Thread nD τ) arg6 fullShare A') ∗ (∃ Z, owns (c : Thread nD τ) arg7 fullShare Z)) := by
      iintro ⟨⟨H1, H2, H4, H6, H7, H5⟩, H3⟩
      isplitl [H1]
      · iexact H1
      isplitl [H2]
      · iexact H2
      isplitl [H3]
      · iexact H3
      isplitl [H4]
      · iexact H4
      isplitl [H5]
      · iexact H5
      isplitl [H6]
      · iexists A'
        isplitr
        · ipureintro
          exact hA
        · iexact H6
      · iexact H7
    have hall := hr.trans (wp_mono _ _ _ fun _ => hpost)
    iintro ⟨H1, H2, H3, H4, H5, H6, H7⟩
    iapply hall
    isplitr [H3]
    · isplitl [H1]
      · iexact H1
      isplitl [H2]
      · iexact H2
      isplitl [H4]
      · iexact H4
      isplitl [H6]
      · iexact H6
      isplitl [H7]
      · iexact H7
      iexists O
      isplitr
      · ipureintro
        exact h0
      · iexact H5
    · iexact H3
  rw [body_eq]
  unfold body
  by_cases h1 : k0_cond1 i = 1#1
  · rw [dif_pos h1]
    have hqk := wp_keep 𝒱 (c : Thread nD τ) bd E (K := iprop(owns (c : Thread nD τ) arg1 fullShare G ∗ owns (c : Thread nD τ) arg2 fullShare S ∗
        owns (c : Thread nD τ) arg4 fullShare W ∗ owns (c : Thread nD τ) arg5 fullShare O ∗ (∃ Z, owns (c : Thread nD τ) arg7 fullShare Z)))
      (qloop_wp 𝒱 c bd E arg3 arg6 harg6 D A (k0_t1_ok i h1))
    have hpre : (iprop(owns (c : Thread nD τ) arg1 fullShare G ∗ owns (c : Thread nD τ) arg2 fullShare S ∗ owns (c : Thread nD τ) arg3 fullShare D ∗
        owns (c : Thread nD τ) arg4 fullShare W ∗ owns (c : Thread nD τ) arg5 fullShare O ∗ owns (c : Thread nD τ) arg6 fullShare A ∗
        (∃ Z, owns (c : Thread nD τ) arg7 fullShare Z)) : sProp 𝕄)
        ⊢ iprop((owns (c : Thread nD τ) arg3 fullShare D ∗ owns (c : Thread nD τ) arg6 fullShare A) ∗ (owns (c : Thread nD τ) arg1 fullShare G ∗ owns (c : Thread nD τ) arg2 fullShare S ∗
        owns (c : Thread nD τ) arg4 fullShare W ∗ owns (c : Thread nD τ) arg5 fullShare O ∗ (∃ Z, owns (c : Thread nD τ) arg7 fullShare Z))) := by
      iintro ⟨H1, H2, H3, H4, H5, H6, H7⟩
      isplitl [H3 H6]
      · isplitl [H3]
        · iexact H3
        · iexact H6
      isplitl [H1]
      · iexact H1
      isplitl [H2]
      · iexact H2
      isplitl [H4]
      · iexact H4
      isplitl [H5]
      · iexact H5
      · iexact H7
    refine wp_then 𝒱 c bd E (hpre.trans hqk) fun _ => ?_
    iintro ⟨⟨H3, %A', %hA, H6⟩, H1, H2, H4, H5, H7⟩
    iapply (hrest A' (hq ((cond1_iff i).1 h1) A' hA))
    isplitl [H1]
    · iexact H1
    isplitl [H2]
    · iexact H2
    isplitl [H3]
    · iexact H3
    isplitl [H4]
    · iexact H4
    isplitl [H5]
    · iexact H5
    isplitl [H6]
    · iexact H6
    · iexact H7
  · rw [dif_neg h1]
    exact hrest A (hs fun h => h1 ((cond1_iff i).2 h))

end Cert.KernelIdeal.Hand
-- ==== Proof.KernelIdealRun.lean ====
module

public import proofs.«01_k».proof.Proof.KernelIdealRows

@[expose] public section

/-! The run: the body's triple put into the pipeline, with what is known of the result's array between the experts as a parameter. -/

noncomputable section

namespace Cert.KernelIdeal.Hand

open Cert.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Idealize.ShloMosaic.Pipeline (RDat Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The group sizes, the factors, the activations and the expert's weights, as the body finds them at a point. -/
abbrev inG (c : Dev nD) (t : Fin cfg0.N) : Vec F S9 .i32 := iblk m c 0 t
abbrev inS (c : Dev nD) (t : Fin cfg0.N) : Vec F S9x176 .f32 := iblk m c 1 t
abbrev inD (c : Dev nD) (t : Fin cfg0.N) : Vec F S768x2816 .bf16 := iblk m c 2 t
abbrev inW (c : Dev nD) (t : Fin cfg0.N) : Vec F S1x1024x2816 .fp8e4m3 := iblk m c 3 t

/-- The expert of a point. -/
abbrev ex (t : Fin cfg0.N) : ℕ := (grid0.coords t 0).val

/-- The first row of the expert of a point, and how many rows it has. -/
abbrev lo (c : Dev nD) (t : Fin cfg0.N) : BitVec 32 := gsum (inG m c t) (ex t)
abbrev cnt (c : Dev nD) (t : Fin cfg0.N) : BitVec 32 := inG m c t (ix9 (ex t))

/-- What the run asks of its parameters: `PA` is known of the activations' scratch after the first point, `R` relates the result's array
    before and after a point. -/
structure Steps (PA : Dev nD → Vec F S768x2816 .bf16 → Prop) (R : Dev nD → Fin cfg0.N → Vec F S768x1024 .bf16 → Vec F S768x1024 .bf16 → Prop) : Prop where
  rows : ∀ c t, (lo m c t).toNat + (cnt m c t).toNat ≤ 768
  quant : ∀ c t, ex t = 0 → ∀ A, IsQuant (inD m c t) A → PA c A
  step : ∀ c t O, ∃ J : ℕ → ℕ → Vec F S768x1024 .bf16 → Prop, J 0 0 O
    ∧ (∀ (hw : k0_chk1 (lo m c t) (cnt m c t)) (h2 : k0_cond2 (lo m c t) (cnt m c t) = 1#1)
        (nt : Fin 4) (k : Fin (k0_t4_loop (lo m c t) (cnt m c t)).trips) A Z O, PA c A → IsWd (grid0.coords t) nt (inS m c t) (inW m c t) Z → J nt.val k.val O →
        J nt.val (k.val + 1) (mstore (lo m c t) (Scalar.addi (lo m c t) (cnt m c t)) nt (row4 _ _ k) (row4_ok hw h2 k) A Z O))
    ∧ (∀ (nt : Fin 4) O, J nt.val (k0_t4_loop (lo m c t) (cnt m c t)).trips O → J (nt.val + 1) 0 O)
    ∧ (∀ O', k0_cond2 (lo m c t) (cnt m c t) = 1#1 → J 4 0 O' → R c t O O')
    ∧ (∀ O', ¬ k0_cond2 (lo m c t) (cnt m c t) = 1#1 → J 0 0 O' → R c t O O')

variable (PA : Dev nD → Vec F S768x2816 .bf16 → Prop) (R : Dev nD → Fin cfg0.N → Vec F S768x1024 .bf16 → Vec F S768x1024 .bf16 → Prop)

/-- Before a point: the activations' scratch at anything or, past the first point, as `PA` says; the weights' scratch at anything. -/
def inv (c : Dev nD) (t : Fin (cfg0.N + 1)) : sProp 𝕄 :=
  iprop((∃ A, ⌜t.val ≠ 0 → PA c A⌝ ∗ owns (c : Thread nD τ) (Memref.whole cc0_scratch0) fullShare A)
    ∗ (∃ Z, owns (c : Thread nD τ) (Memref.whole cc0_scratch1) fullShare Z) ∗ ∃ r, prngReg c r)

/-- The data of the run: the inputs stay, the result goes by `R`. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => R c t Y X
  Φ t := inv PA c t
  q _ := fullShare
  owed _ := 0

theorem finds0 (c : Dev nD) (t : Fin cfg0.N) (Y) (h : (rdat m PA R c).Finds 0 t Y) : Y = inG m c t := by
  obtain ⟨d, hd⟩ := (rdat m PA R c).finds_in_eq_fetched 0 rfl (fun _ _ _ => rfl) (fun _ _ _ h => h) t Y h
  exact hd

theorem finds1 (c : Dev nD) (t : Fin cfg0.N) (Y) (h : (rdat m PA R c).Finds 1 t Y) : Y = inS m c t := by
  obtain ⟨d, hd⟩ := (rdat m PA R c).finds_in_eq_fetched 1 rfl (fun _ _ _ => rfl) (fun _ _ _ h => h) t Y h
  exact hd

theorem finds2 (c : Dev nD) (t : Fin cfg0.N) (Y) (h : (rdat m PA R c).Finds 2 t Y) : Y = inD m c t := by
  obtain ⟨d, hd⟩ := (rdat m PA R c).finds_in_eq_fetched 2 rfl (fun _ _ _ => rfl) (fun _ _ _ h => h) t Y h
  exact hd

theorem finds3 (c : Dev nD) (t : Fin cfg0.N) (Y) (h : (rdat m PA R c).Finds 3 t Y) : Y = inW m c t := by
  obtain ⟨d, hd⟩ := (rdat m PA R c).finds_in_eq_fetched 3 rfl (fun _ _ _ => rfl) (fun _ _ _ h => h) t Y h
  exact hd

theorem defs₀_row (t : Fin cfg0.N) :
    defs₀ (F := F) .tc cfg0.body (cfg0.bodyArgs t (cfg0.slots t)) = bodyAt0 t := by
  unfold defs₀; rw [Defs.onTc_tc]

theorem ex_eq (t : Fin cfg0.N) : ex t = t.val := by
  rcases fin_N0 t with h | h | h | h | h | h | h | h | h <;> subst h <;> rfl

variable {m PA R}

/-- The body at a point, from what it finds to what it leaves. -/
theorem body_at (hs : Steps m PA R) (c : Dev nD) (t : Fin cfg0.N) (O : Vec F S768x1024 .bf16) (P : sProp 𝕄) :
    (iprop(inv PA c t.castSucc ∗ P ∗ owns (c : Thread nD τ) (st0_0 t) fullShare (inG m c t) ∗ owns (c : Thread nD τ) (st0_1 t) fullShare (inS m c t)
        ∗ owns (c : Thread nD τ) (st0_2 t) fullShare (inD m c t) ∗ owns (c : Thread nD τ) (st0_3 t) fullShare (inW m c t)
        ∗ owns (c : Thread nD τ) (st0_4 t) fullShare O) : sProp 𝕄)
      ⊢ wp frame (wpE (defs₀ (F := F)) Variants.none (c : Thread nD τ) none) Set.univ (bodyAt0 t)
        (fun _ => iprop(inv PA c t.succ ∗ P ∗ (∃ X, ⌜X = inG m c t⌝ ∗ owns (c : Thread nD τ) (st0_0 t) fullShare X) ∗ (∃ X, ⌜X = inS m c t⌝ ∗ owns (c : Thread nD τ) (st0_1 t) fullShare X)
        ∗ (∃ X, ⌜X = inD m c t⌝ ∗ owns (c : Thread nD τ) (st0_2 t) fullShare X) ∗ (∃ X, ⌜X = inW m c t⌝ ∗ owns (c : Thread nD τ) (st0_3 t) fullShare X)
        ∗ (∃ X, ⌜R c t O X⌝ ∗ owns (c : Thread nD τ) (st0_4 t) fullShare X))) := by
  unfold inv
  iintro ⟨⟨⟨%A, %hA, H6⟩, H7, Hg⟩, HP, H1, H2, H3, H4, H5⟩
  obtain ⟨J, h0, hJ, hN, hK, hK0⟩ := hs.step c t O
  have hb := body_wp (F := F) Variants.none c none Set.univ (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (Memref.whole cc0_scratch0) (Memref.isWhole_whole _) (Memref.whole cc0_scratch1) (Memref.isWhole_whole _)
    (grid0.coords t) (inG m c t) (inS m c t) (inD m c t) (inW m c t) O A (hs.rows c t) (PA c) J (R c t O)
    (hs.quant c t) (fun h => hA fun h' => h ((ex_eq t).trans h')) h0 hJ hN hK hK0
  have hpost : (iprop((owns (c : Thread nD τ) (st0_0 t) fullShare (inG m c t) ∗ owns (c : Thread nD τ) (st0_1 t) fullShare (inS m c t)
        ∗ owns (c : Thread nD τ) (st0_2 t) fullShare (inD m c t) ∗ owns (c : Thread nD τ) (st0_3 t) fullShare (inW m c t)
        ∗ (∃ O', ⌜R c t O O'⌝ ∗ owns (c : Thread nD τ) (st0_4 t) fullShare O') ∗ (∃ A', ⌜PA c A'⌝ ∗ owns (c : Thread nD τ) (Memref.whole cc0_scratch0) fullShare A')
        ∗ (∃ Z, owns (c : Thread nD τ) (Memref.whole cc0_scratch1) fullShare Z)) ∗ (P ∗ ∃ r, prngReg c r)) : sProp 𝕄)
      ⊢ iprop(((∃ A, ⌜t.succ.val ≠ 0 → PA c A⌝ ∗ owns (c : Thread nD τ) (Memref.whole cc0_scratch0) fullShare A)
    ∗ (∃ Z, owns (c : Thread nD τ) (Memref.whole cc0_scratch1) fullShare Z) ∗ ∃ r, prngReg c r) ∗ P ∗ (∃ X, ⌜X = inG m c t⌝ ∗ owns (c : Thread nD τ) (st0_0 t) fullShare X) ∗ (∃ X, ⌜X = inS m c t⌝ ∗ owns (c : Thread nD τ) (st0_1 t) fullShare X)
        ∗ (∃ X, ⌜X = inD m c t⌝ ∗ owns (c : Thread nD τ) (st0_2 t) fullShare X) ∗ (∃ X, ⌜X = inW m c t⌝ ∗ owns (c : Thread nD τ) (st0_3 t) fullShare X)
        ∗ (∃ X, ⌜R c t O X⌝ ∗ owns (c : Thread nD τ) (st0_4 t) fullShare X)) := by
    iintro ⟨⟨H1, H2, H3, H4, H5, ⟨%A', %hA', H6⟩, H7⟩, HP, Hg⟩
    isplitl [H6 H7 Hg]
    · isplitl [H6]
      · iexists A'
        isplitr
        · ipureintro
          exact fun _ => hA'
        · iexact H6
      isplitl [H7]
      · iexact H7
      · iexact Hg
    isplitl [HP]
    · iexact HP
    isplitl [H1]
    · iexists inG m c t
      isplitr
      · ipureintro
        rfl
      · iexact H1
    isplitl [H2]
    · iexists inS m c t
      isplitr
      · ipureintro
        rfl
      · iexact H2
    isplitl [H3]
    · iexists inD m c t
      isplitr
      · ipureintro
        rfl
      · iexact H3
    isplitl [H4]
    · iexists inW m c t
      isplitr
      · ipureintro
        rfl
      · iexact H4
    · iexact H5
  have hall := (wp_keep Variants.none (c : Thread nD τ) none Set.univ (K := iprop(P ∗ ∃ r, prngReg c r)) hb).trans (wp_mono _ _ _ fun _ => hpost)
  unfold bodyAt0
  rw [cc0__body_eq_skeleton]
  iapply hall
  isplitr [HP Hg]
  · isplitl [H1]
    · iexact H1
    isplitl [H2]
    · iexact H2
    isplitl [H3]
    · iexact H3
    isplitl [H4]
    · iexact H4
    isplitl [H5]
    · iexact H5
    isplitl [H6]
    · iexact H6
    · iexact H7
  isplitl [HP]
  · iexact HP
  · iexact Hg

theorem body_obligation (hs : Steps m PA R) (c : Dev nD) : (rdat m PA R c).BodyObligation (defs₀ (F := F)) Variants.none () Set.univ := by
  intro t Y hY
  rw [bigSep_W0, bigSep_W0, defs₀_row]
  have h0 := finds0 m PA R c t (Y 0) (hY 0)
  have h1 := finds1 m PA R c t (Y 1) (hY 1)
  have h2 := finds2 m PA R c t (Y 2) (hY 2)
  have h3 := finds3 m PA R c t (Y 3) (hY 3)
  have hb := body_at hs c t (Y 4) ((rdat m PA R c).owesAt () t.castSucc)
  rw [h0, h1, h2, h3]
  exact hb

theorem inv_in (c : Dev nD) : (Pipeline.ΦA (U := UR sig nD τ) (Val := Elt F) (τ := τ) spec0 c : sProp 𝕄) ⊢ inv PA c 0 := by
  unfold Pipeline.ΦA inv
  rw [scopedRest0_eq]
  simp only [owns_whole]
  iintro ⟨⟨⟨%f, H6⟩, H7⟩, Hg⟩
  isplitl [H6]
  · iexists f
    isplitr
    · ipureintro
      exact fun h => absurd rfl h
    · iexact H6
  isplitl [H7]
  · iexact H7
  · iexact Hg

theorem inv_out (c : Dev nD) : inv PA c (Fin.last cfg0.N) ⊢ (Pipeline.ΦA (U := UR sig nD τ) (Val := Elt F) (τ := τ) spec0 c : sProp 𝕄) := by
  unfold Pipeline.ΦA inv
  rw [scopedRest0_eq]
  simp only [owns_whole]
  iintro ⟨⟨%f, %hf, H6⟩, H7, Hg⟩
  isplitr [Hg]
  · isplitl [H6]
    · iexists f
      iexact H6
    · iexact H7
  · iexact Hg

set_option backward.isDefEq.respectTransparency.types false in
/-- The run, with what it leaves in the arrays. -/
theorem run_main (hs : Steps m PA R) : θ_run defs (onTc (τ := τ) (main (F := F))) (s₀ m ρ)
    (fun r => RDat.FramePost cfg0 (rdat m PA R) (V m) r ∧ r.2.sem = fun _ => 0) :=
  Pipeline.RDat.θ_run_frame_track (Q' := _) cfgs (0 : Fin 1) launch0 defs₀ Variants.none (rdat m PA R) m ρ main
    (hbody := body_obligation hs) (hshare := fun c w => by unfold RDat.share; split <;> rfl)
    (howed := fun _ _ => rfl) (V := V m) (hmain := hmain m Variants.none) (hA := fun _ _ => rfl)
    (hin := fun c => inv_in c) (hout := fun c => inv_out c)

/-- The arguments end as they were, and every counter at zero. -/
theorem frame_run (hs : Steps m PA R) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.arr_in c 2 rfl).trans (V_main_arg0 m c),
      (h.1.arr_in c 0 rfl).trans (V_main_arg1 m c), (h.1.arr_in c 3 rfl).trans (V_main_arg2 m c),
      ((h.1 c).2 main_arg3 (Pipeline.mem_restRefs_of main_arg3 (by decide) (by decide))).trans (V_main_arg3 m c)⟩, h.2⟩) (run_main ρ hs)

end Cert.KernelIdeal.Hand
-- ==== Proof.KernelIdealFrame.lean ====
module

public import proofs.«01_k».proof.Proof.KernelIdealRun
public import Idealize.ShloMosaic.Lib.Pipeline.Value

@[expose] public section

/-! The frame: when the sizes fit, the kernel runs and its arguments end as they were. -/

noncomputable section

namespace Cert.KernelIdeal.Hand

open Cert.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The group sizes the body finds are the argument's. -/
theorem inG_eq (c : Dev nD) (t : Fin cfg0.N) : inG m c t = m ((c : Thread nD τ).loc main_arg1) := by
  rw [← V_main_arg1 m c]
  funext y
  change V m c main_arg1 ((win0_0.rect t).emb y) = V m c main_arg1 y
  congr 1
  funext a
  exact Fin.ext (Pipeline.Window.rect_emb_val_of_index_zero win0_0 t a (by fin_cases a; rfl) y)

theorem rows_of_fits (hG : ∀ c : Dev nD, Fits (m ((c : Thread nD τ).loc main_arg1))) (c : Dev nD) (t : Fin cfg0.N) :
    (lo m c t).toNat + (cnt m c t).toNat ≤ 768 := by
  unfold lo cnt
  rw [inG_eq]
  exact (hG c).rows (ex t) (grid0.coords t 0).isLt

/-- Nothing asked of the values. -/
theorem steps_frame (hG : ∀ c : Dev nD, Fits (m ((c : Thread nD τ).loc main_arg1))) : Steps m (fun _ _ => True) (fun _ _ _ _ => True) where
  rows := rows_of_fits m hG
  quant _ _ _ _ _ := trivial
  step _ _ _ := ⟨fun _ _ _ => True, trivial, fun _ _ _ _ _ _ _ _ _ _ => trivial, fun _ _ _ => trivial, fun _ _ _ => trivial, fun _ _ _ => trivial⟩

/-- The frame. -/
theorem frame_fits (hG : ∀ c : Dev nD, Fits (m ((c : Thread nD τ).loc main_arg1))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  frame_run ρ (steps_frame m hG)

end Cert.KernelIdeal.Hand
-- ==== Proof.Scale.lean ====
module

public import proofs.«01_k».proof.Proof.Sizes
public import Mathlib.Analysis.SpecialFunctions.Pow.Real
public import Mathlib.Tactic.FieldSimp

@[expose] public section

/-! The scale of a block: two ways to find a power of two that no entry exceeds 448 times, and that scaling by it, and back,
    changes nothing over the extended reals. -/

noncomputable section

namespace Cert.Hand

open Idealize.ShloMosaic

/-- The float32 nearest to 1/448. -/
def c448 : ℝ := 9586981 * 2 ^ (-32 : ℤ)

theorem c448_eq : Ideal.ofBits .f32 991054117#32 = ((c448 : ℝ) : EReal) := by
  simp [Ideal.ofBits, Ideal.ieee, c448]

theorem c448_bounds : 1 ≤ 448 * c448 ∧ bf16Max * c448 < 2 ^ (121 : ℤ) := by
  constructor <;> norm_num [c448, bf16Max]

theorem hi448 : Ideal.ofBits .f32 1138753536#32 = ((448 : ℝ) : EReal) := by
  simp [Ideal.ofBits, Ideal.ieee]; norm_num; rw [← EReal.coe_mul]; norm_num
theorem lo448 : Ideal.ofBits .f32 3286237184#32 = ((-448 : ℝ) : EReal) := by
  simp [Ideal.ofBits, Ideal.ieee]; norm_num; rw [← EReal.coe_mul]; norm_num
theorem bot_eq : Ideal.ofBits .f32 4286578688#32 = ⊥ := by simp [Ideal.ofBits, Ideal.ieee]
theorem top_eq : Ideal.ofBits .f32 2139095040#32 = ⊤ := by simp [Ideal.ofBits, Ideal.ieee]
theorem c128_eq : Ideal.ofBits .f32 1124073472#32 = ((128 : ℝ) : EReal) := by
  simp [Ideal.ofBits, Ideal.ieee]; norm_num; rw [← EReal.coe_mul]; norm_num

/-- Scaled by a large enough scale, clipped, and scaled back, a real is itself. -/
theorem scaled_back (v M s : ℝ) (hv : |v| ≤ M) (hs : 0 < s) (h : M * c448 ≤ s) :
    min (Ideal.ofBits .f32 1138753536#32) (max (Ideal.ofBits .f32 3286237184#32) ((v : EReal) * ((s⁻¹ : ℝ) : EReal))) * ((s : ℝ) : EReal) = (v : EReal) := by
  rw [hi448, lo448, ← EReal.coe_mul]
  have hM : 0 ≤ M := le_trans (abs_nonneg v) hv
  have hm : M ≤ 448 * s := by nlinarith [c448_bounds.1]
  have hb : |v * s⁻¹| ≤ 448 := by
    rw [abs_mul, abs_of_pos (inv_pos.2 hs), ← div_eq_mul_inv, div_le_iff₀ hs]
    exact hv.trans hm
  obtain ⟨h1, h2⟩ := abs_le.1 hb
  rw [max_eq_right (EReal.coe_le_coe_iff.2 h1), min_eq_right (EReal.coe_le_coe_iff.2 h2), ← EReal.coe_mul, mul_assoc, inv_mul_cancel₀ hs.ne', mul_one]

/-- The greatest magnitude of a block of reals. -/
theorem greatest {n : ℕ} (k0 : Fin n) (x : Fin n → EReal) (B : ℝ) (h : ∀ k, ∃ r : ℝ, x k = (r : EReal) ∧ |r| ≤ B) :
    ∃ M : ℝ, Finset.univ.fold max (Ideal.ofBits .f32 4286578688#32) (fun k => max (x k) (-(x k))) = ((M : ℝ) : EReal)
      ∧ 0 ≤ M ∧ M ≤ B ∧ ∀ k, ∃ r : ℝ, x k = (r : EReal) ∧ |r| ≤ M := by
  have habs : ∀ r : ℝ, max (r : EReal) (-(r : EReal)) = ((|r| : ℝ) : EReal) := fun r => by
    rw [← EReal.coe_neg, abs_eq_max_neg]; exact (EReal.coe_strictMono.monotone.map_max).symm
  rw [bot_eq]
  have hle : ∀ k, max (x k) (-(x k)) ≤ Finset.univ.fold max ⊥ (fun k => max (x k) (-(x k))) := fun k =>
    (Finset.le_fold_max _).2 (.inr ⟨k, Finset.mem_univ k, le_rfl⟩)
  have hB : Finset.univ.fold max ⊥ (fun k => max (x k) (-(x k))) ≤ ((B : ℝ) : EReal) := by
    refine (Finset.fold_max_le _).2 ⟨bot_le, fun k _ => ?_⟩
    obtain ⟨r, hr, hb⟩ := h k
    rw [hr, habs]; exact EReal.coe_le_coe_iff.2 hb
  generalize Finset.univ.fold max ⊥ (fun k => max (x k) (-(x k))) = y at hle hB
  induction y with
  | bot =>
    obtain ⟨r, hr, -⟩ := h k0
    have := hle k0
    rw [hr, habs] at this
    exact absurd this (by simp)
  | top => exact absurd hB (by simp)
  | coe M =>
    have hk : ∀ k, ∃ r : ℝ, x k = (r : EReal) ∧ |r| ≤ M := fun k => by
      obtain ⟨r, hr, -⟩ := h k
      refine ⟨r, hr, ?_⟩
      have := hle k
      rw [hr, habs] at this
      exact EReal.coe_le_coe_iff.1 this
    obtain ⟨r, -, hr⟩ := hk k0
    exact ⟨M, rfl, (abs_nonneg r).trans hr, EReal.coe_le_coe_iff.1 hB, hk⟩

/-! ## The exponent field -/

theorem field_parts : ∀ k : Fin 256, ((IntOp.shli .vector (BitVec.ofNat 32 k.val) 23#32).extractLsb' 23 8).toNat = k.val
    ∧ ((IntOp.shli .vector (BitVec.ofNat 32 k.val) 23#32).extractLsb' 0 23).toNat = 0
    ∧ ((IntOp.shli .vector (BitVec.ofNat 32 k.val) 23#32).extractLsb' 31 1 == 1#1) = false := by decide +kernel

theorem ieee_pow (b : BitVec 32) (k : ℕ) (h1 : 1 ≤ k) (h2 : k ≤ 254) (he : (b.extractLsb' 23 8).toNat = k) (hf : (b.extractLsb' 0 23).toNat = 0)
    (hn : (b.extractLsb' 31 1 == 1#1) = false) : Ideal.ieee 8 23 b = (((2 : ℝ) ^ ((k : ℤ) - 127) : ℝ) : EReal) := by
  have hp : (2 : ℝ) ^ ((k : ℤ) - 127) = 8388608 * 2 ^ ((k : ℤ) - 150) := by
    rw [show ((k : ℤ) - 127 : ℤ) = 23 + ((k : ℤ) - 150) by ring, zpow_add₀ two_ne_zero]
    norm_num
  rw [hp]
  unfold Ideal.ieee
  simp only [Nat.reduceAdd, he, hf, hn]
  rw [if_neg (by omega : ¬ k = 2 ^ 8 - 1), if_neg (by omega : ¬ k = 0)]
  rw [show ((k : ℤ) - (2 ^ (8 - 1) - 1) - ((23 : ℕ) : ℤ) : ℤ) = (k : ℤ) - 150 by norm_num; ring]
  norm_num

/-- The float whose exponent field is `k`, and whose fraction is zero. -/
theorem field_pow (k : ℕ) (h1 : 1 ≤ k) (h2 : k ≤ 254) :
    Ideal.ofBits .f32 (IntOp.shli .vector (BitVec.ofNat 32 k) 23#32) = (((2 : ℝ) ^ ((k : ℤ) - 127) : ℝ) : EReal) := by
  obtain ⟨he, hf, hn⟩ := field_parts ⟨k, by omega⟩
  dsimp only at he hf hn
  exact ieee_pow _ k h1 h2 he hf hn

theorem field_top : Ideal.ofBits .f32 (IntOp.shli .vector (BitVec.ofNat 32 255) 23#32) = ⊤ := by
  rw [show IntOp.shli .vector (BitVec.ofNat 32 255) 23#32 = 2139095040#32 by decide]
  exact top_eq

theorem toInt_small : ∀ a : Fin 256, (BitVec.ofNat 32 a.val).toInt = (a.val : ℤ) := by decide +kernel
theorem maxsi_small (a b : Fin 256) : IntOp.maxsi (BitVec.ofNat 32 a.val) (BitVec.ofNat 32 b.val) = BitVec.ofNat 32 (max a.val b.val) := by
  unfold IntOp.maxsi BitVec.slt
  rw [toInt_small, toInt_small]
  by_cases h : b.val < a.val
  · rw [if_pos (by simpa using h), max_eq_left h.le]
  · rw [if_neg (by simpa using h), max_eq_right (not_lt.1 h)]
theorem maxsi_least : ∀ a : Fin 256, IntOp.maxsi (BitVec.ofNat 32 a.val) 2147483648#32 = BitVec.ofNat 32 a.val := by
  decide +kernel

theorem fold_maxsi {n : ℕ} [Std.Commutative (IntOp.maxsi (w := 32))] [Std.Associative (IntOp.maxsi (w := 32))] (g : Fin n → ℕ) (hg : ∀ k, g k < 256)
    (s : Finset (Fin n)) (hs : s.Nonempty) :
    s.fold IntOp.maxsi 2147483648#32 (fun k => BitVec.ofNat 32 (g k)) = BitVec.ofNat 32 (s.sup g) := by
  induction hs using Finset.Nonempty.cons_induction with
  | singleton a =>
    rw [Finset.fold_singleton, Finset.sup_singleton]
    exact maxsi_least ⟨g a, hg a⟩
  | cons a s h hs ih =>
    rw [Finset.fold_cons, ih, Finset.sup_cons]
    exact maxsi_small ⟨g a, hg a⟩ ⟨s.sup g, (Finset.sup_lt_iff (by decide)).2 fun k _ => hg k⟩

/-- The greatest field whose power of two does not exceed the block's scale, and its bound. -/
theorem field_bound [Std.Commutative (IntOp.maxsi (w := 32))] [Std.Associative (IntOp.maxsi (w := 32))] (M : ℝ) (h0 : 0 ≤ M) (hB : M ≤ bf16Max) :
    ∃ f : ℕ, f ≤ 247 ∧ M * c448 ≤ (2 : ℝ) ^ (((f + 1 : ℕ) : ℤ) - 127) ∧
      Finset.univ.fold IntOp.maxsi 2147483648#32 (fun x : Fin 256 => if Ideal.ofBits .f32 (IntOp.shli .vector (BitVec.ofNat 32 x.val) 23#32)
        ≤ ((M : ℝ) : EReal) * Ideal.ofBits .f32 991054117#32 then BitVec.ofNat 32 x.val else 0#32) = BitVec.ofNat 32 f := by
  rw [c448_eq, ← EReal.coe_mul]
  have hc : M * c448 < 2 ^ (121 : ℤ) := lt_of_le_of_lt (mul_le_mul_of_nonneg_right hB (by unfold c448; positivity)) c448_bounds.2
  generalize M * c448 = y at hc
  classical
  let g : Fin 256 → ℕ := fun x => if Ideal.ofBits .f32 (IntOp.shli .vector (BitVec.ofNat 32 x.val) 23#32) ≤ ((y : ℝ) : EReal) then x.val else 0
  have hg : ∀ x, g x < 256 := fun x => by dsimp only [g]; split <;> omega
  have hfold : Finset.univ.fold IntOp.maxsi 2147483648#32 (fun x : Fin 256 => if Ideal.ofBits .f32 (IntOp.shli .vector (BitVec.ofNat 32 x.val) 23#32)
        ≤ ((y : ℝ) : EReal) then BitVec.ofNat 32 x.val else 0#32) = BitVec.ofNat 32 (Finset.univ.sup g) := by
    rw [← fold_maxsi g hg _ Finset.univ_nonempty]
    congr 1
    funext x
    dsimp only [g]
    split <;> rfl
  have hf : Finset.univ.sup g ≤ 247 := by
    refine Finset.sup_le fun x _ => ?_
    dsimp only [g]
    split
    case isFalse => omega
    case isTrue h =>
      by_contra hx
      have hlt := x.isLt
      by_cases h5 : x.val = 255
      · rw [h5, field_top] at h
        exact absurd h (by simp)
      · rw [field_pow x.val (by omega) (by omega), EReal.coe_le_coe_iff] at h
        have : (2 : ℝ) ^ (121 : ℤ) ≤ 2 ^ ((x.val : ℤ) - 127) := zpow_le_zpow_right₀ (by norm_num) (by omega)
        linarith
  refine ⟨Finset.univ.sup g, hf, ?_, hfold⟩
  by_contra hy
  have hn : g ⟨Finset.univ.sup g + 1, by omega⟩ ≤ Finset.univ.sup g := Finset.le_sup (Finset.mem_univ _)
  have : g ⟨Finset.univ.sup g + 1, by omega⟩ = Finset.univ.sup g + 1 := by
    refine if_pos ?_
    rw [field_pow (Finset.univ.sup g + 1) (by omega) (by omega), EReal.coe_le_coe_iff]
    exact (not_le.1 hy).le
  omega

theorem field_scale : ∀ f : Fin 248, IntOp.addi (BitVec.ofNat 32 f.val) 1#32 = BitVec.ofNat 32 (f.val + 1)
    ∧ IntOp.subi 253#32 (BitVec.ofNat 32 f.val) = BitVec.ofNat 32 (253 - f.val) := by decide +kernel

/-- The scale of a field, and its inverse. -/
theorem field_scales (f : ℕ) (hf : f ≤ 247) :
    Ideal.ofBits .f32 (IntOp.shli .vector (IntOp.addi (BitVec.ofNat 32 f) 1#32) 23#32) = (((2 : ℝ) ^ (((f + 1 : ℕ) : ℤ) - 127) : ℝ) : EReal)
    ∧ Ideal.ofBits .f32 (IntOp.shli .vector (IntOp.subi 253#32 (BitVec.ofNat 32 f)) 23#32) = ((((2 : ℝ) ^ (((f + 1 : ℕ) : ℤ) - 127))⁻¹ : ℝ) : EReal) := by
  obtain ⟨ha, hs⟩ := field_scale ⟨f, by omega⟩
  dsimp only at ha hs
  rw [ha, hs, field_pow _ (by omega) (by omega)]
  refine ⟨rfl, ?_⟩
  rcases Nat.lt_or_ge f 253 with h | h
  · rw [field_pow _ (by omega) (by omega), ← zpow_neg]
    congr 3
    omega
  · omega

/-! ## The least exponent -/

/-- The least exponent whose power of two exceeds the block's scale, and its bound. -/
theorem exponent_bound (M : ℝ) (h0 : 0 ≤ M) (hB : M ≤ bf16Max) :
    ∃ e : ℝ, M * c448 ≤ (2 : ℝ) ^ e ∧
      (if ((M : ℝ) : EReal) = 0 then (0 : EReal) else Finset.univ.fold min (Ideal.ofBits .f32 2139095040#32) (fun x : Fin 277 =>
        if ((M : ℝ) : EReal) * Ideal.ofBits .f32 991054117#32 < Ideal.exp2 (((IntOp.subi (BitVec.ofNat 32 x.val) 148#32).toInt : ℝ) : EReal)
        then (((IntOp.subi (BitVec.ofNat 32 x.val) 148#32).toInt : ℝ) : EReal) else Ideal.ofBits .f32 1124073472#32)) = ((e : ℝ) : EReal) := by
  by_cases hM : M = 0
  · exact ⟨0, by rw [hM]; norm_num, by rw [if_pos (by rw [hM]; rfl)]; rfl⟩
  rw [if_neg (fun h => hM (EReal.coe_eq_zero.1 h)), c448_eq, ← EReal.coe_mul, top_eq, c128_eq]
  have hc : M * c448 < 2 ^ (121 : ℤ) := lt_of_le_of_lt (mul_le_mul_of_nonneg_right hB (by unfold c448; positivity)) c448_bounds.2
  generalize M * c448 = y at hc
  obtain ⟨x, -, hx⟩ := Finset.exists_mem_eq_inf Finset.univ (Finset.univ_nonempty (α := Fin 277)) (fun x : Fin 277 =>
        if ((y : ℝ) : EReal) < Ideal.exp2 (((IntOp.subi (BitVec.ofNat 32 x.val) 148#32).toInt : ℝ) : EReal)
        then (((IntOp.subi (BitVec.ofNat 32 x.val) 148#32).toInt : ℝ) : EReal) else ((128 : ℝ) : EReal))
  by_cases h : ((y : ℝ) : EReal) < Ideal.exp2 (((IntOp.subi (BitVec.ofNat 32 x.val) 148#32).toInt : ℝ) : EReal)
  · rw [if_pos h] at hx
    exact ⟨_, (EReal.coe_lt_coe_iff.1 h).le, hx⟩
  · rw [if_neg h] at hx
    refine ⟨128, ?_, hx⟩
    have : (2 : ℝ) ^ (121 : ℤ) ≤ 2 ^ (128 : ℝ) := by norm_num
    linarith

theorem exp2_real (e : ℝ) : Ideal.exp2 ((e : ℝ) : EReal) = (((2 : ℝ) ^ e : ℝ) : EReal) := rfl

theorem exp2_neg (e : ℝ) : Ideal.exp2 (0 - ((e : ℝ) : EReal)) = ((((2 : ℝ) ^ e)⁻¹ : ℝ) : EReal) := by
  rw [zero_sub, ← EReal.coe_neg, exp2_real, Real.rpow_neg (by norm_num)]

end Cert.Hand
end
-- ==== Proof.KernelIdealValue.lean ====
module

public import proofs.«01_k».proof.Proof.KernelIdealFrame
public import proofs.«01_k».proof.Proof.Scale
public import Idealize.ShloMosaic.Lib.Pointwise

@[expose] public section

/-! What the kernel's blocks compute over the extended reals. -/

set_option maxRecDepth 16384

noncomputable section

namespace Cert.KernelIdeal.Hand

open Cert.Hand
open Cert.KernelIdeal Cert.KernelIdeal.Gen
open Idealize.ShloMosaic Idealize.ShloMosaic.TcCoe Idealize.SL.Sem

/-- Quantised and scaled back, a block of reals is itself. -/
theorem quant_block (v : FVec Ideal S64x128 .bf16) (hv : ∀ r c, ∃ x : ℝ, v (ix2 r c) = (x : EReal) ∧ |x| ≤ bf16Max) (r : Fin 64) (c : Fin 128) :
    k0_pay2 (F := Ideal) v (ix2 r c) = v (ix2 r c) := by
  obtain ⟨M, hM, h0, hB, hk⟩ := greatest (0 : Fin 128) (fun x => v (ix2 r x)) bf16Max (hv r)
  obtain ⟨x, hx, hxM⟩ := hk c
  obtain ⟨f, hf, hfb, hfold⟩ := field_bound M h0 hB
  have hs := scaled_back x M _ hxM (by positivity) hfb
  have hM' : Finset.fold max (Ideal.ofBits FTy.f32 4286578688#32) (fun x => FloatOps.absf (v (ix2 r x))) Finset.univ = ((M : ℝ) : EReal) := hM
  pointwise [k0_pay2]
  rw [hM', hfold, (field_scales f hf).1, (field_scales f hf).2, hx]
  exact hs

/-- A block of the weights, scaled back. -/
theorem weight_block (s : EReal) (w : FVec Ideal S1x128x128 .fp8e4m3) (r c : Fin 128) :
    k0_pay79 (F := Ideal) s w (ix2 r c) = w (ix3 0 r c) * s := by
  pointwise [k0_pay79]

/-- What a trip of the multiplying loop stores. -/
theorem product_block (lo hi row : BitVec 32) (a : FVec Ideal S64x2816 .bf16) (w : FVec Ideal S256x2816 .bf16) (o : FVec Ideal S64x256 .bf16)
    (r : Fin 64) (c : Fin 256) :
    mpay (F := Ideal) lo hi row a w o (ix2 r c)
      = Scalar.select (IntOp.andi (IntOp.cmpi CmpIPredicate.sge (IntOp.addi (BitVec.ofNat 32 r.val) row) lo)
          (IntOp.cmpi CmpIPredicate.slt (IntOp.addi (BitVec.ofNat 32 r.val) row) hi))
        (∑ x, a (ix2 r x) * w (ix2 c x)) (o (ix2 r c)) := by
  pointwise [mpay]

/-- Where a rectangle puts an index, by coordinates. -/
theorem unit_emb {s : Shape} (off : Fin s.rank → ℕ) (size : Fin s.rank → ℕ) (h : ∀ a, off a + size a ≤ s.size a)
    (x : (Rect.unit (s := s) off size h).shape.Idx) (i : s.Idx) (hi : ∀ a, off a + 1 * (x a).val = (i a).val) :
    (Rect.unit (s := s) off size h).emb x = i := funext fun a => Fin.ext (by rw [Rect.emb_apply]; exact hi a)

/-- Of real activations, the quantised ones are themselves. -/
theorem isQuant_eq (D A : FVec Ideal S768x2816 .bf16) (hD : ∀ i, ∃ x : ℝ, D i = (x : EReal) ∧ |x| ≤ bf16Max) (h : IsQuant (F := Ideal) D A) : A = D := by
  funext i
  have h0 : (i 0).val < 768 := (i 0).isLt
  have h1 : (i 1).val < 2816 := (i 1).isLt
  let p : Fin k0_t1_loop.trips × Fin 22 := (⟨(i 0).val / 64, by show _ < 12; omega⟩, ⟨(i 1).val / 128, by omega⟩)
  let x : S64x128.Idx := ix2 (⟨(i 0).val % 64, by omega⟩ : Fin 64) (⟨(i 1).val % 128, by omega⟩ : Fin 128)
  have he : (qrect p).emb x = i := by
    refine unit_emb (s := S768x2816) (qoff p.1 p.2) S64x128.size (qoff_inb p.1 p.2) x i fun a => ?_
    fin_cases a
    · show qoff p.1 p.2 0 + 1 * ((i 0).val % 64) = (i 0).val
      rw [qoff_row]
      show 64 * ((i 0).val / 64) + _ = _
      omega
    · show 128 * ((i 1).val / 128) + 1 * ((i 1).val % 128) = (i 1).val
      omega
  have hx := h p trivial x
  rw [he] at hx
  rw [hx]
  refine (quant_block (fun y => D ((qrect p).emb y)) (fun r c => hD _) _ _).trans ?_
  exact congrArg D he

theorem index_small : ∀ e : Fin 9, (Scalar.indexCast (BitVec.ofNat 32 e.val)).toNat = e.val := by decide +kernel

/-- A quarter of the weights scaled back, by entries. -/
theorem isWd_apply (i : grid0.Coords) (nt : Fin 4) (S : FVec Ideal S9x176 .f32) (W : FVec Ideal S1x1024x2816 .fp8e4m3) (Z : FVec Ideal S256x2816 .bf16)
    (h : IsWd (F := Ideal) i nt S W Z) (n : Fin 256) (x : Fin 2816) (hn : 256 * nt.val + n.val < 1024) (hi : (i 0).val < 9)
    (hk : (256 * nt.val + n.val) / 128 * 22 + x.val / 128 < 176) :
    Z (ix2 n x) = W (ix3 0 ⟨256 * nt.val + n.val, hn⟩ x) * S (ix2 ⟨(i 0).val, hi⟩ ⟨(256 * nt.val + n.val) / 128 * 22 + x.val / 128, hk⟩) := by
  let j : Fin 44 := ⟨n.val / 128 * 22 + x.val / 128, by omega⟩
  have j1 : j.val / 22 = n.val / 128 := by show (n.val / 128 * 22 + x.val / 128) / 22 = _; omega
  have j2 : j.val % 22 = x.val / 128 := by show (n.val / 128 * 22 + x.val / 128) % 22 = _; omega
  have hj : 44 * nt.val + j.val = (256 * nt.val + n.val) / 128 * 22 + x.val / 128 := by show _ + (n.val / 128 * 22 + x.val / 128) = _; omega
  let y : S128x128.Idx := ix2 (⟨n.val % 128, by omega⟩ : Fin 128) (⟨x.val % 128, by omega⟩ : Fin 128)
  have he : (drect j).emb y = ix2 n x := by
    refine unit_emb (s := S256x2816) (doff j) S128x128.size (doff_inb j) y _ fun a => ?_
    fin_cases a
    · show 128 * (j.val / 22) + 1 * (n.val % 128) = n.val
      omega
    · show 128 * (j.val % 22) + 1 * (x.val % 128) = x.val
      omega
  have hx := h j trivial y
  rw [he] at hx
  rw [hx]
  refine (weight_block _ _ _ _).trans (congrArg₂ (fun a b : EReal => a * b) (congrArg W ?_) (congrArg S ?_))
  · refine unit_emb (s := S1x1024x2816) (woff nt j) S1x128x128.size (woff_inb nt j) _ _ fun a => ?_
    fin_cases a
    · rfl
    · show 256 * nt.val + 128 * (j.val / 22) + 1 * (n.val % 128) = 256 * nt.val + n.val
      omega
    · show 128 * (j.val % 22) + 1 * (x.val % 128) = x.val
      omega
  · refine unit_emb (s := S9x176) (soff i nt j) S1x1.size (soff_inb i nt j) _ _ fun a => ?_
    fin_cases a
    · show (Scalar.indexCast (BitVec.ofNat 32 (i 0).val)).toNat + 1 * 0 = (i 0).val
      rw [index_small ⟨(i 0).val, hi⟩]
      rfl
    · show 44 * nt.val + j.val + 1 * 0 = (256 * nt.val + n.val) / 128 * 22 + x.val / 128
      omega

theorem select_rows (a b p : ℕ) (r : Fin 64) (ha : a + b ≤ 768) (hp : p ≤ 704) (lo hi row : BitVec 32) (hlo : lo = BitVec.ofNat 32 a) (hhi : hi = BitVec.ofNat 32 (a + b))
    (hrow : row = BitVec.ofNat 32 p) (x y : EReal) :
    Scalar.select (IntOp.andi (IntOp.cmpi CmpIPredicate.sge (IntOp.addi (BitVec.ofNat 32 r.val) row) lo)
          (IntOp.cmpi CmpIPredicate.slt (IntOp.addi (BitVec.ofNat 32 r.val) row) hi)) x y = if a ≤ p + r.val ∧ p + r.val < a + b then x else y := by
  have hr : IntOp.addi (BitVec.ofNat 32 r.val) row = BitVec.ofNat 32 (p + r.val) := by
    rw [hrow, Nat.add_comm]; exact (BitVec.ofNat_add _ _).symm
  rw [hr, hlo, hhi]
  have hlt := r.isLt
  have i1 : (BitVec.ofNat 32 (p + r.val)).toInt = ((p + r.val : ℕ) : ℤ) := WordCmp.toInt_ofNat_of_lt (by norm_num; omega)
  have i2 : (BitVec.ofNat 32 a).toInt = (a : ℤ) := WordCmp.toInt_ofNat_of_lt (by norm_num; omega)
  have i3 : (BitVec.ofNat 32 (a + b)).toInt = ((a + b : ℕ) : ℤ) := WordCmp.toInt_ofNat_of_lt (by norm_num; omega)
  have c1 : IntOp.cmpi CmpIPredicate.sge (BitVec.ofNat 32 (p + r.val)) (BitVec.ofNat 32 a) = BitVec.ofBool (decide (a ≤ p + r.val)) := by
    show BitVec.ofBool (decide ((BitVec.ofNat 32 a).toInt ≤ (BitVec.ofNat 32 (p + r.val)).toInt)) = _
    rw [i1, i2]; simp only [Nat.cast_le]
  have c2 : IntOp.cmpi CmpIPredicate.slt (BitVec.ofNat 32 (p + r.val)) (BitVec.ofNat 32 (a + b)) = BitVec.ofBool (decide (p + r.val < a + b)) := by
    show BitVec.ofBool (decide ((BitVec.ofNat 32 (p + r.val)).toInt < (BitVec.ofNat 32 (a + b)).toInt)) = _
    rw [i1, i3]; simp only [Nat.cast_lt]
  rw [c1, c2]
  by_cases q1 : a ≤ p + r.val <;> by_cases q2 : p + r.val < a + b <;> simp [q1, q2, Scalar.select, IntOp.andi]

end Cert.KernelIdeal.Hand
end
-- ==== Proof.KernelIdealTrip.lean ====
module

public import proofs.«01_k».proof.Proof.KernelIdealValue

@[expose] public section

/-! What a trip of the multiplying loop leaves in the result, over the extended reals. -/

set_option maxRecDepth 16384

noncomputable section

namespace Cert.KernelIdeal.Hand

open Cert.Hand
open Cert.KernelIdeal Cert.KernelIdeal.Gen
open Idealize.ShloMosaic Idealize.ShloMosaic.TcCoe Idealize.SL.Sem

/-- What a trip leaves in the result: in its block, at the rows from `a` up to `a + b`, the product; elsewhere what was there. -/
theorem mstore_apply (a b p : ℕ) (ha : a + b ≤ 768) (hp : p ≤ 704) (lo hi row : BitVec 32) (hlo : lo = BitVec.ofNat 32 a) (hhi : hi = BitVec.ofNat 32 (a + b))
    (hrow : row = BitVec.ofNat 32 p) (hidx : (Scalar.indexCast row).toNat = p) (nt : Fin 4) (h : RowOK row) (A : FVec Ideal S768x2816 .bf16)
    (Z : FVec Ideal S256x2816 .bf16) (O : FVec Ideal S768x1024 .bf16) (r : Fin 768) (n : Fin 1024) :
    mstore (F := Ideal) lo hi nt row h A Z O (ix2 r n)
      = if (p ≤ r.val ∧ r.val < p + 64) ∧ (256 * nt.val ≤ n.val ∧ n.val < 256 * nt.val + 256) ∧ a ≤ r.val ∧ r.val < a + b
        then ∑ x : Fin 2816, A (ix2 r x) * Z (ix2 ⟨n.val % 256, Nat.mod_lt _ (by decide)⟩ x) else O (ix2 r n) := by
  have o0 : ooff nt row 0 = p := hidx
  have o1 : ooff nt row 1 = 256 * nt.val := rfl
  unfold mstore
  by_cases hin : (p ≤ r.val ∧ r.val < p + 64) ∧ (256 * nt.val ≤ n.val ∧ n.val < 256 * nt.val + 256)
  · let y : S64x256.Idx := ix2 (⟨r.val - p, by omega⟩ : Fin 64) (⟨n.val % 256, Nat.mod_lt _ (by decide)⟩ : Fin 256)
    have he : (Rect.unit (s := S768x1024) (ooff nt row) S64x256.size (ooff_inb nt h)).emb y = ix2 r n := by
      refine unit_emb (s := S768x1024) (ooff nt row) S64x256.size (ooff_inb nt h) y _ fun a => ?_
      fin_cases a
      · show ooff nt row 0 + 1 * (r.val - p) = r.val
        omega
      · show 256 * nt.val + 1 * (n.val % 256) = n.val
        omega
    have hx := Rect.overlay_emb (Rect.unit (s := S768x1024) (ooff nt row) S64x256.size (ooff_inb nt h)) O
      (mpay (F := Ideal) lo hi row (fun y => A ((Rect.unit (s := S768x2816) (aoff row) S64x2816.size (aoff_inb h)).emb y))
      (fun y => Z ((Rect.unit (s := S256x2816) ![0, 0] S256x2816.size inb_S256x2816_S256x2816_0_0).emb y))
      (fun y => O ((Rect.unit (s := S768x1024) (ooff nt row) S64x256.size (ooff_inb nt h)).emb y))) y
    rw [he] at hx
    rw [hx]
    refine (product_block _ _ _ _ _ _ _ _).trans ?_
    rw [select_rows a b p _ ha hp lo hi row hlo hhi hrow]
    have hr : p + (r.val - p) = r.val := by omega
    dsimp only
    rw [hr]
    have hiff : (a ≤ r.val ∧ r.val < a + b) ↔ ((p ≤ r.val ∧ r.val < p + 64) ∧ (256 * nt.val ≤ n.val ∧ n.val < 256 * nt.val + 256) ∧ a ≤ r.val ∧ r.val < a + b) := by tauto
    rw [if_congr hiff rfl rfl]
    refine if_congr Iff.rfl (Finset.sum_congr rfl fun x _ => congrArg₂ (fun a b : EReal => a * b) (congrArg A ?_) (congrArg Z ?_)) (congrArg O he)
    · refine unit_emb (s := S768x2816) (aoff row) S64x2816.size (aoff_inb h) _ _ fun a => ?_
      fin_cases a
      · show (Scalar.indexCast row).toNat + 1 * (r.val - p) = r.val
        omega
      · show 0 + 1 * x.val = x.val
        omega
    · refine unit_emb (s := S256x2816) ![0, 0] S256x2816.size inb_S256x2816_S256x2816_0_0 _ _ fun a => ?_
      fin_cases a
      · show 0 + 1 * (n.val % 256) = n.val % 256
        omega
      · show 0 + 1 * x.val = x.val
        omega
  · rw [if_neg (by tauto), Rect.overlay_of_not_mem]
    rw [Rect.mem_set_unit]
    intro hm
    have m0 := hm 0
    have m1 := hm 1
    have s0 : S64x256.size 0 = 64 := rfl
    have s1 : S64x256.size 1 = 256 := rfl
    rw [o0, s0] at m0
    rw [o1, s1] at m1
    exact hin ⟨m0, m1⟩

/-- The expert has no rows where the kernel skips it. -/
theorem no_rows (a b : ℕ) (hab : a + b ≤ 768) (v9 v11 : BitVec 32) (h9 : v9 = BitVec.ofNat 32 a) (h11 : v11 = BitVec.ofNat 32 b) (h : ¬ k0_cond2 v9 v11 = 1#1) : b = 0 := by
  by_contra hb
  refine h ?_
  have hc : Scalar.cmpi .sgt (Scalar.addi v9 v11) v9 = 1#1 := by
    rw [show Scalar.addi v9 v11 = BitVec.ofNat 32 (a + b) by rw [h9, h11, BitVec.ofNat_add]; rfl, h9]
    show BitVec.ofBool (decide ((BitVec.ofNat 32 a).toInt < (BitVec.ofNat 32 (a + b)).toInt)) = _
    rw [WordCmp.toInt_ofNat_of_lt (by norm_num; omega), WordCmp.toInt_ofNat_of_lt (by norm_num; omega), decide_eq_true (by omega)]
    rfl
  unfold k0_cond2
  dsimp only
  rw [hc]
  decide

theorem row_word : ∀ p k : Fin 13, Scalar.muli (Scf.iv (BitVec.ofNat 32 p) 1#32 k) 64#32 = BitVec.ofNat 32 (64 * (p + k)) := by decide +kernel

theorem row4_word {v9 v11 : BitVec 32} {a b : ℕ} (h9 : v9 = BitVec.ofNat 32 a) (h11 : v11 = BitVec.ofNat 32 b) (hab : a + b ≤ 768)
    (k : Fin (k0_t4_loop v9 v11).trips) : row4 v9 v11 k = BitVec.ofNat 32 (64 * (a / 64 + k.val)) := by
  have hk : k.val < (a + b + 63) / 64 - a / 64 := lt_of_lt_of_eq k.isLt (trips4 h9 h11 hab)
  unfold row4
  rw [lb4_of h9 h11 hab]
  exact row_word ⟨a / 64, by omega⟩ ⟨k.val, by omega⟩

end Cert.KernelIdeal.Hand
end
-- ==== Proof.KernelIdealSteps.lean ====
module

public import proofs.«01_k».proof.Proof.KernelIdealTrip

@[expose] public section

/-! What each point of the kernel leaves in the result, from the arguments, over the extended reals. -/

set_option maxRecDepth 16384

noncomputable section

namespace Cert.KernelIdeal.Hand

open Cert.Hand
open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The arguments. -/
abbrev argD (c : Dev nD) : FVec Ideal S768x2816 .bf16 := m ((c : Thread nD τ).loc main_arg0)
abbrev argG (c : Dev nD) : IVec S9 32 := m ((c : Thread nD τ).loc main_arg1)
abbrev argW (c : Dev nD) : FVec Ideal S9x1024x2816 .fp8e4m3 := m ((c : Thread nD τ).loc main_arg2)
abbrev argS (c : Dev nD) : FVec Ideal S9x8x22 .f32 := m ((c : Thread nD τ).loc main_arg3)

/-- An entry of the product of the activations and an expert's weights scaled back. -/
def target (D : FVec Ideal S768x2816 .bf16) (W : FVec Ideal S9x1024x2816 .fp8e4m3) (S : FVec Ideal S9x8x22 .f32) (e : Fin 9) (r : Fin 768) (n : Fin 1024) : EReal :=
  ∑ x : Fin 2816, D (ix2 r x) * (W (ix3 e n x) * S (ix3 e ⟨n.val / 128, by omega⟩ ⟨x.val / 128, by omega⟩))

theorem inD_eq (c : Dev nD) (t : Fin cfg0.N) : inD m c t = argD m c := by
  unfold argD
  rw [← V_main_arg0 m c]
  funext y
  change V m c main_arg0 ((win0_2.rect t).emb y) = V m c main_arg0 y
  congr 1
  funext a
  exact Fin.ext (Pipeline.Window.rect_emb_val_of_index_zero win0_2 t a (by fin_cases a <;> rfl) y)

theorem V_main_v0 (c : Dev nD) : V m c main_v0 = (shapeCast S9x176 (argS m c) shapeCasts_S9x8x22_S9x176 : FVec Ideal S9x176 .f32) := by
  show StableHlo.after hostOps0 _ (Proc.devRef .tc main_v0) = _
  after_results
  rfl

theorem reshaped_apply (S : FVec Ideal S9x8x22 .f32) (e : Fin 9) (q : Fin 176) :
    (shapeCast S9x176 S shapeCasts_S9x8x22_S9x176 : FVec Ideal S9x176 .f32) (ix2 e q) = S (ix3 e ⟨q.val / 22, by omega⟩ ⟨q.val % 22, by omega⟩) := by
  pointwise

theorem inS_apply (c : Dev nD) (t : Fin cfg0.N) (e : Fin 9) (q : Fin 176) :
    inS m c t (ix2 e q) = argS m c (ix3 e ⟨q.val / 22, by omega⟩ ⟨q.val % 22, by omega⟩) := by
  refine Eq.trans ?_ (reshaped_apply (argS m c) e q)
  rw [← V_main_v0]
  change V m c main_v0 ((win0_1.rect t).emb _) = V m c main_v0 _
  congr 1
  funext a
  exact Fin.ext (Pipeline.Window.rect_emb_val_of_index_zero win0_1 t a (by fin_cases a <;> rfl) _)

theorem index3 (t : Fin cfg0.N) : win0_3.index t = ![ex t, 0, 0] := by
  rcases fin_N0 t with h | h | h | h | h | h | h | h | h <;> subst h <;> rfl

theorem inW_apply (c : Dev nD) (t : Fin cfg0.N) (e : Fin 9) (he : e.val = ex t) (n : Fin 1024) (x : Fin 2816) :
    inW m c t (ix3 0 n x) = argW m c (ix3 e n x) := by
  unfold argW
  rw [← V_main_arg2 m c]
  change V m c main_arg2 ((win0_3.rect t).emb _) = V m c main_arg2 _
  congr 1
  funext a
  refine Fin.ext ((Pipeline.Window.rect_emb_val win0_3 t _ a).trans ?_)
  rw [index3]
  fin_cases a
  · show ex t * 1 + 0 = e.val
    omega
  · show 0 * 1024 + n.val = n.val
    omega
  · show 0 * 2816 + x.val = x.val
    omega

/-- What a point leaves in the result: at its expert's rows the product, elsewhere what was there. -/
def Leaves (c : Dev nD) (t : Fin cfg0.N) (O O' : FVec Ideal S768x1024 .bf16) : Prop :=
  ∀ (e : Fin 9), e.val = ex t → ∀ (r : Fin 768) (n : Fin 1024), O' (ix2 r n)
    = if (gsum (argG m c) (ex t)).toNat ≤ r.val ∧ r.val < (gsum (argG m c) (ex t)).toNat + (argG m c (ix9 (ex t))).toNat
      then target (argD m c) (argW m c) (argS m c) e r n else O (ix2 r n)

theorem steps (hG : ∀ c : Dev nD, Fits (argG m c)) (hD : ∀ c i, ∃ x : ℝ, argD m c i = (x : EReal) ∧ |x| ≤ bf16Max) :
    Steps (F := Ideal) m (fun c A => A = argD m c) (Leaves m) where
  rows := rows_of_fits m hG
  quant c t _ A hA := by
    rw [inD_eq] at hA
    exact isQuant_eq _ _ (hD c) hA
  step c t O := by
    have hrows := rows_of_fits m hG c t
    have hlt : ex t < 9 := (grid0.coords t 0).isLt
    have hG' : inG m c t = argG m c := inG_eq m c t
    have h9 := ofNat_self (lo m c t)
    have h11 := ofNat_self (cnt m c t)
    have hl : (gsum (argG m c) (ex t)).toNat = (lo m c t).toNat := by unfold lo; rw [hG']
    have hc : (argG m c (ix9 (ex t))).toNat = (cnt m c t).toNat := by unfold cnt; rw [hG']
    have hhi : Scalar.addi (lo m c t) (cnt m c t) = BitVec.ofNat 32 ((lo m c t).toNat + (cnt m c t).toNat) := by
      rw [BitVec.ofNat_add, ← h9, ← h11]; rfl
    have hT := trips4 h9 h11 hrows
    unfold Leaves
    rw [hl, hc]
    generalize hlo : lo m c t = vl at *
    generalize hcnt : cnt m c t = vc at *
    generalize vl.toNat = a at *
    generalize vc.toNat = b at *
    refine ⟨fun nt k O' => ∀ (e : Fin 9), e.val = ex t → ∀ (r : Fin 768) (n : Fin 1024), O' (ix2 r n)
      = if (a ≤ r.val ∧ r.val < a + b) ∧ (n.val < 256 * nt ∨ (n.val < 256 * nt + 256 ∧ r.val < 64 * (a / 64 + k)))
        then target (argD m c) (argW m c) (argS m c) e r n else O (ix2 r n), ?_, ?_, ?_, ?_, ?_⟩
    · intro e _ r n
      rw [if_neg (by omega)]
    · intro hw h2 nt k A Z O' hA hZ hJ e he r n
      have hk : k.val < (a + b + 63) / 64 - a / 64 := lt_of_lt_of_eq k.isLt hT
      have hidx := row4_toNat h9 h11 hrows k
      have hnt := nt.isLt
      rw [mstore_apply a b (64 * (a / 64 + k.val)) hrows (by omega) _ _ _ h9 hhi (row4_word h9 h11 hrows k) hidx, hJ e he r n]
      by_cases hin : (64 * (a / 64 + k.val) ≤ r.val ∧ r.val < 64 * (a / 64 + k.val) + 64) ∧ (256 * nt.val ≤ n.val ∧ n.val < 256 * nt.val + 256) ∧ a ≤ r.val ∧ r.val < a + b
      · rw [if_pos hin, if_pos (by omega)]
        unfold target
        refine Finset.sum_congr rfl fun x _ => ?_
        rw [hA, isWd_apply (grid0.coords t) nt _ _ Z hZ ⟨n.val % 256, by omega⟩ x (by dsimp only; omega) hlt (by dsimp only; omega), inS_apply, inW_apply m c t e he]
        have hn : 256 * nt.val + n.val % 256 = n.val := by omega
        congr 2
        · exact congrArg (fun n => argW m c (ix3 e n x)) (Fin.ext hn)
        · congr 1
          refine (ix3_inj ..).2 ⟨Fin.ext he.symm, Fin.ext ?_, Fin.ext ?_⟩
          · dsimp only
            rw [hn]; omega
          · dsimp only
            rw [hn]; omega
      · rw [if_neg hin]
        exact if_congr (by omega) rfl rfl
    · intro nt O' hJ e he r n
      rw [hJ e he r n]
      have hnt := nt.isLt
      exact if_congr (by rw [hT]; omega) rfl rfl
    · intro O' _ hJ e he r n
      rw [hJ e he r n]
      exact if_congr (by omega) rfl rfl
    · intro O' hc2 hJ e he r n
      have hb := no_rows a b hrows _ _ h9 h11 hc2
      rw [hJ e he r n, if_neg (by omega), if_neg (by omega)]

end Cert.KernelIdeal.Hand
end
-- ==== Proof.Groups.lean ====
module

public import proofs.«01_k».proof.Proof.Sizes

@[expose] public section

/-! The groups of rows the sizes cut. -/

noncomputable section

namespace Cert.Hand

open Idealize.ShloMosaic

/-- Row `r` is one of group `e`'s. -/
def InGroup (G : Sz.Idx → BitVec 32) (e r : ℕ) : Prop := (gsum G e).toNat ≤ r ∧ r < (gsum G e).toNat + (G (ix9 e)).toNat

instance (G : Sz.Idx → BitVec 32) (e r : ℕ) : Decidable (InGroup G e r) := inferInstanceAs (Decidable (_ ∧ _))

/-- An earlier group's rows lie before a later one's. -/
theorem before_later {G : Sz.Idx → BitVec 32} (hG : Fits G) {e f r : ℕ} (he : e < f) (hf : f < 9) (h : InGroup G e r) : r < (gsum G f).toNat := by
  have h1 := (gsum_toNat G hG.each (e + 1) (by omega)).1
  rw [Finset.sum_range_succ, ← (gsum_toNat G hG.each e (by omega)).1] at h1
  have h2 : ∑ i ∈ Finset.range (e + 1), (G (ix9 i)).toNat ≤ ∑ i ∈ Finset.range f, (G (ix9 i)).toNat :=
    Finset.sum_le_sum_of_subset (Finset.range_mono he)
  rw [← (gsum_toNat G hG.each f (by omega)).1, ← (gsum_toNat G hG.each (e + 1) (by omega)).1] at h2
  have := h.2
  omega

/-- A row is in one group at most. -/
theorem InGroup.unique {G : Sz.Idx → BitVec 32} (hG : Fits G) {e f r : ℕ} (he : e < 9) (hf : f < 9) (h : InGroup G e r) (h' : InGroup G f r) : e = f := by
  rcases lt_trichotomy e f with hl | hl | hl
  · exact absurd (before_later hG hl hf h) (by have := h'.1; omega)
  · exact hl
  · exact absurd (before_later hG hl he h') (by have := h.1; omega)

/-- When the sizes sum to the number of rows, each row is in a group. -/
theorem InGroup.exists {G : Sz.Idx → BitVec 32} (hG : Fits G) (h9 : (gsum G 9).toNat = 768) (r : Fin 768) : ∃ e : Fin 9, InGroup G e.val r.val := by
  have key : ∀ n ≤ 9, r.val < (gsum G n).toNat → ∃ e < n, InGroup G e r.val := by
    intro n
    induction n with
    | zero => intro _ h; exact absurd h (by rw [(gsum_toNat G hG.each 0 (by omega)).1]; simp)
    | succ n ih =>
      intro hn h
      by_cases hr : r.val < (gsum G n).toNat
      · obtain ⟨e, he, hin⟩ := ih (by omega) hr
        exact ⟨e, by omega, hin⟩
      · refine ⟨n, by omega, by omega, ?_⟩
        have h1 := (gsum_toNat G hG.each (n + 1) hn).1
        rw [Finset.sum_range_succ, ← (gsum_toNat G hG.each n (by omega)).1] at h1
        omega
  obtain ⟨e, he, hin⟩ := key 9 le_rfl (by rw [h9]; exact r.isLt)
  exact ⟨⟨e, he⟩, hin⟩

/-- The mask of a group's rows. -/
theorem select_group {G : Sz.Idx → BitVec 32} (hG : Fits G) {e : ℕ} (he : e < 9) (r : Fin 768) (x y : EReal) :
    Scalar.select (IntOp.andi (IntOp.cmpi CmpIPredicate.sge (BitVec.ofNat 32 r.val) (gsum G e))
      (IntOp.cmpi CmpIPredicate.slt (BitVec.ofNat 32 r.val) (gsum G (e + 1)))) x y = if InGroup G e r.val then x else y := by
  have h1 := (gsum_toNat G hG.each (e + 1) he).1
  rw [Finset.sum_range_succ, ← (gsum_toNat G hG.each e he.le).1] at h1
  have hlt := hG.rows e he
  have hr := r.isLt
  have i1 : (BitVec.ofNat 32 r.val).toInt = (r.val : ℤ) := WordCmp.toInt_ofNat_of_lt (by norm_num; omega)
  have i2 : (gsum G e).toInt = ((gsum G e).toNat : ℤ) := BitVec.toInt_eq_toNat_of_lt (by norm_num; omega)
  have i3 : (gsum G (e + 1)).toInt = ((gsum G (e + 1)).toNat : ℤ) := BitVec.toInt_eq_toNat_of_lt (by norm_num; omega)
  have c1 : IntOp.cmpi CmpIPredicate.sge (BitVec.ofNat 32 r.val) (gsum G e) = BitVec.ofBool (decide ((gsum G e).toNat ≤ r.val)) := by
    show BitVec.ofBool (decide ((gsum G e).toInt ≤ (BitVec.ofNat 32 r.val).toInt)) = _
    rw [i1, i2]; simp only [Nat.cast_le]
  have c2 : IntOp.cmpi CmpIPredicate.slt (BitVec.ofNat 32 r.val) (gsum G (e + 1)) = BitVec.ofBool (decide (r.val < (gsum G e).toNat + (G (ix9 e)).toNat)) := by
    show BitVec.ofBool (decide ((BitVec.ofNat 32 r.val).toInt < (gsum G (e + 1)).toInt)) = _
    rw [i1, i3, h1]; simp only [Nat.cast_lt]
  rw [c1, c2]
  unfold InGroup
  by_cases q1 : (gsum G e).toNat ≤ r.val <;> by_cases q2 : r.val < (gsum G e).toNat + (G (ix9 e)).toNat <;> simp [q1, q2, Scalar.select, IntOp.andi]

end Cert.Hand
end
-- ==== Proof.KernelIdealResult.lean ====
module

public import proofs.«01_k».proof.Proof.KernelIdealSteps
public import proofs.«01_k».proof.Proof.Groups

@[expose] public section

/-! The kernel's result, from the arguments, over the extended reals. -/

set_option maxRecDepth 16384

noncomputable section

namespace Cert.KernelIdeal.Hand

open Cert.Hand
open Cert.KernelIdeal Cert.KernelIdeal.Gen
open Idealize.ShloMosaic Idealize.ShloMosaic.TcCoe Idealize.SL.Sem Idealize.ShloMosaic.Pipeline

variable (m : (ℓ : Loc nD τ sig) → Buf (Elt Ideal) ℓ) (ρ : Dev nD → PrngReg)

/-- After point `t` the rows of the groups up to the point's hold their products. -/
theorem leaves_rows (PA) (hG : ∀ c, Fits (argG m c)) (c : Dev nD) : ∀ (n : ℕ) (hn : n < cfg0.N) (X : Vec Ideal S768x1024 .bf16),
    (rdat m PA (Leaves m) c).Leaves 4 ⟨n, hn⟩ X → ∀ e : Fin 9, e.val ≤ n → ∀ r : Fin 768, InGroup (argG m c) e.val r.val → ∀ k,
      X (ix2 r k) = target (argD m c) (argW m c) (argS m c) e r k := by
  intro n
  induction n with
  | zero =>
    rintro hn X ⟨Y, -, hY⟩ e he r hin k
    have hY : Leaves m c ⟨0, hn⟩ Y X := hY
    have he0 : e.val = ex ⟨0, hn⟩ := by rw [ex_eq]; dsimp only; omega
    rw [hY e he0 r k, ← he0]
    exact if_pos hin
  | succ n ih =>
    rintro hn X ⟨Y, hf, hY⟩ e he r hin k
    have hY : Leaves m c ⟨n + 1, hn⟩ Y X := hY
    have hN : n + 1 < 9 := hn
    by_cases hlt : e.val ≤ n
    · have hex : ex ⟨n + 1, hn⟩ = n + 1 := ex_eq _
      rw [hY ⟨n + 1, hN⟩ hex.symm r k, hex, if_neg (fun h => absurd (before_later (hG c) (Nat.lt_succ_of_le hlt) hN hin) (Nat.not_lt.mpr h.1))]
      have hfetch : ∀ t : Fin cfg0.N, (cfg0.win 4).fetch t = false := by decide
      have hflush : ∀ t : Fin cfg0.N, t.val < 8 → (cfg0.win 4).flush t = false := by decide
      rcases ((rdat m PA (Leaves m) c).finds_of_pos (hfetch ⟨n + 1, hn⟩) (Nat.succ_ne_zero n) Y).mp hf with h | h
      · exact absurd (h.symm.trans (hflush ⟨n, by omega⟩ (by dsimp only; omega))) (by decide)
      · exact ih (by omega) Y h e hlt r hin k
    · have he0 : e.val = ex ⟨n + 1, hn⟩ := by rw [ex_eq]; dsimp only; omega
      rw [hY e he0 r k, ← he0]
      exact if_pos hin

/-- The result array: each row holds its group's product. -/
theorem result_rows (PA) (hG : ∀ c, Fits (argG m c)) (c : Dev nD) (O : Vec Ideal S768x1024 .bf16)
    (hO : (rdat m PA (Leaves m) c).ArrAt 4 cfg0.N O) (e : Fin 9) (r : Fin 768) (hin : InGroup (argG m c) e.val r.val) (k : Fin 1024) :
    O (ix2 r k) = target (argD m c) (argW m c) (argS m c) e r k := by
  have hlast : (cfg0.win 4).flush ⟨8, by decide⟩ = true := by decide
  have hO : (rdat m PA (Leaves m) c).ArrAt 4 (8 + 1) O := hO
  unfold RDat.ArrAt at hO
  rw [dif_pos (show 8 < cfg0.N by decide), if_pos hlast] at hO
  obtain ⟨G₀, X, -, hX, rfl⟩ := hO
  refine Eq.trans ?_ (leaves_rows m PA hG c 8 (by decide) X hX e (by omega) r hin k)
  have hy : (win0_4.rect ⟨8, by decide⟩).emb (ix2 r k) = ix2 r k :=
    funext fun a => Fin.ext (Pipeline.Window.rect_emb_val_of_index_zero win0_4 ⟨8, by decide⟩ a (by fin_cases a <;> rfl) (ix2 r k))
  have h := congrFun (((cfg0.win 4).blk ⟨8, by decide⟩).view.read_write_univ (Val := Elt Ideal) G₀ ((cfg0.win 4).cut (grid0.coords ⟨8, by decide⟩) X)) (ix2 r k)
  refine (congrArg _ hy.symm).trans (Eq.trans h ?_)
  rfl

/-- The kernel's run, over the extended reals: the result is the array whose every row holds its group's product. -/
theorem run_result (hG : ∀ c, Fits (argG m c)) (h9 : ∀ c, (gsum (argG m c) 9).toNat = 768) (hD : ∀ c i, ∃ x : ℝ, argD m c i = (x : EReal) ∧ |x| ≤ bf16Max)
    (T : Dev nD → FVec Ideal S768x1024 .bf16)
    (hT : ∀ c (e : Fin 9) (r : Fin 768), InGroup (argG m c) e.val r.val → ∀ k, T c (ix2 r k) = target (argD m c) (argW m c) (argS m c) e r k) :
    θ_run defs (onTc (τ := τ) (main (F := Ideal))) ⟨m, fun _ => 0, ρ⟩ (fun r => ∀ c : Dev nD,
      r.2.mem ((c.tc : Thread nD τ).loc main_v1) = T c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨by
      funext i
      have hi : i = ix2 (i 0) (i 1) := by funext a; fin_cases a <;> rfl
      obtain ⟨e, he⟩ := InGroup.exists (hG c) (h9 c) (i 0)
      rw [hi]
      exact (result_rows m _ hG c _ ((h.1 c).1 4) e (i 0) he (i 1)).trans (hT c e (i 0) he (i 1)).symm,
    (h.1.arr_in c 2 rfl).trans (V_main_arg0 m c), (h.1.arr_in c 0 rfl).trans (V_main_arg1 m c), (h.1.arr_in c 3 rfl).trans (V_main_arg2 m c),
    ((h.1 c).2 main_arg3 (Pipeline.mem_restRefs_of main_arg3 (by decide) (by decide))).trans (V_main_arg3 m c)⟩) (run_main ρ (steps m hG hD))

end Cert.KernelIdeal.Hand
end
-- ==== Proof.ReferenceIdealValue.lean ====
module

public import proofs.«01_k».proof.Proof.Gen.ReferenceIdeal.Value
public import proofs.«01_k».proof.Proof.Scale
public import Idealize.ShloMosaic.Lib.Pointwise

@[expose] public section

/-! What the reference computes over the extended reals. -/

set_option maxRecDepth 16384

noncomputable section

namespace Cert.ReferenceIdeal.Hand

open Cert.Hand
open Cert.ReferenceIdeal Cert.ReferenceIdeal.Gen
open Idealize.ShloMosaic Idealize.ShloMosaic.TcCoe Idealize.SL.Sem

/-- The activations in groups of 128. -/
def groups (v : FVec Ideal S768x2816 .bf16) : FVec Ideal S768x22x128 .f32 :=
  shapeCast S768x22x128 (extf .f32 v bitsLt_bf16_f32 : FVec Ideal S768x2816 .f32) shapeCasts_S768x2816_S768x22x128

/-- The greatest magnitude of each group. -/
def magnitudes (g : FVec Ideal S768x22x128 .f32) : FVec Ideal S768x22 .f32 :=
  multiReduction .maximumf [2] S768x22 (absf g) 0xFF800000#32 reduces_S768x22x128_S768x22 (.inl rfl) rfl

/-- The exponent of each group's scale. -/
def exponents (a : FVec Ideal S768x22 .f32) : FVec Ideal S768x22 .f32 :=
  have x : FVec Ideal S768x22x277 .f32 := broadcastTo S768x22x277 (shapeCast S768x22x1 (mulf a (broadcast S768x22 (Scalar.ofBits (F := Ideal) .f32 0x3B124925#32))) shapeCasts_S768x22_S768x22x1) broadcasts_S768x22x1_S768x22x277
  have e : FVec Ideal S768x22x277 .f32 := sitofp .f32 (subi (iota .tc S768x22x277 32 [2] iota_S768x22x277_d2_w32) (broadcast S768x22x277 148#32))
  select (cmpf .oeq a (broadcast S768x22 (Scalar.ofBits (F := Ideal) .f32 0x00000000#32))) (broadcast S768x22 (Scalar.ofBits (F := Ideal) .f32 0x00000000#32))
    (multiReduction .minimumf [2] S768x22 (select (cmpf .olt x (exp2 e)) e (broadcast S768x22x277 (Scalar.ofBits (F := Ideal) .f32 0x43000000#32))) 0x7F800000#32 reduces_S768x22x277_S768x22 (.inl rfl) rfl)

/-- The groups scaled by these exponents, clipped, and scaled back. -/
def scaledBack (g : FVec Ideal S768x22x128 .f32) (e : FVec Ideal S768x22 .f32) : FVec Ideal S768x2816 .bf16 :=
  have inv : FVec Ideal S768x22x128 .f32 := broadcastTo S768x22x128 (shapeCast S768x22x1 (exp2 (subf (broadcast S768x22 (Scalar.ofBits (F := Ideal) .f32 0x00000000#32)) e)) shapeCasts_S768x22_S768x22x1) broadcasts_S768x22x1_S768x22x128
  have codes : FVec Ideal S768x22x128 .fp8e4m3 := truncf .fp8e4m3 (minimumf (broadcast S768x22x128 (Scalar.ofBits (F := Ideal) .f32 0x43E00000#32)) (maximumf (broadcast S768x22x128 (Scalar.ofBits (F := Ideal) .f32 0xC3E00000#32)) (mulf g inv))) bitsLt_fp8e4m3_f32
  have flat : FVec Ideal S768x2816 .bf16 := extf .bf16 (shapeCast S768x2816 codes shapeCasts_S768x22x128_S768x2816 : FVec Ideal S768x2816 .fp8e4m3) bitsLt_fp8e4m3_bf16
  have scale : FVec Ideal S768x22x128 .bf16 := broadcastTo S768x22x128 (shapeCast S768x22x1 (truncf .bf16 (exp2 e) bitsLt_bf16_f32 : FVec Ideal S768x22 .bf16) shapeCasts_S768x22_S768x22x1) broadcasts_S768x22x1_S768x22x128
  shapeCast S768x2816 (mulf (shapeCast S768x22x128 flat shapeCasts_S768x2816_S768x22x128 : FVec Ideal S768x22x128 .bf16) scale) shapeCasts_S768x22x128_S768x2816

theorem pay2_eq (v : FVec Ideal S768x2816 .bf16) : k0_pay2 (F := Ideal) v = scaledBack (groups v) (exponents (magnitudes (groups v))) := rfl

theorem groups_apply (v : FVec Ideal S768x2816 .bf16) (r : Fin 768) (b : Fin 22) (j : Fin 128) :
    groups v (ix3 r b j) = v (ix2 r ⟨b.val * 128 + j.val, by omega⟩) := by
  pointwise [groups]

theorem magnitudes_apply (g : FVec Ideal S768x22x128 .f32) (r : Fin 768) (b : Fin 22) :
    magnitudes g (ix2 r b) = Finset.univ.fold max (Ideal.ofBits .f32 4286578688#32) (fun k : Fin 128 => max (g (ix3 r b k)) (-(g (ix3 r b k)))) := by
  pointwise [magnitudes]
  rfl

theorem exponents_apply (a : FVec Ideal S768x22 .f32) (r : Fin 768) (b : Fin 22) :
    exponents a (ix2 r b) = if a (ix2 r b) = 0 then (0 : EReal) else Finset.univ.fold min (Ideal.ofBits .f32 2139095040#32) (fun x : Fin 277 =>
        if a (ix2 r b) * Ideal.ofBits .f32 991054117#32 < Ideal.exp2 (((IntOp.subi (BitVec.ofNat 32 x.val) 148#32).toInt : ℝ) : EReal)
        then (((IntOp.subi (BitVec.ofNat 32 x.val) 148#32).toInt : ℝ) : EReal) else Ideal.ofBits .f32 1124073472#32) := by
  pointwise [exponents]
  rfl

theorem scaledBack_apply (g : FVec Ideal S768x22x128 .f32) (e : FVec Ideal S768x22 .f32) (r : Fin 768) (c : Fin 2816) :
    scaledBack g e (ix2 r c) = min (Ideal.ofBits .f32 1138753536#32) (max (Ideal.ofBits .f32 3286237184#32)
      (g (ix3 r ⟨c.val / 128, by omega⟩ ⟨c.val % 128, by omega⟩) * Ideal.exp2 (0 - e (ix2 r ⟨c.val / 128, by omega⟩))))
      * Ideal.exp2 (e (ix2 r ⟨c.val / 128, by omega⟩)) := by
  pointwise [scaledBack]
  rfl

/-- Quantised and scaled back, reals are themselves. -/
theorem quant (v : FVec Ideal S768x2816 .bf16) (hv : ∀ r c, ∃ x : ℝ, v (ix2 r c) = (x : EReal) ∧ |x| ≤ bf16Max) (r : Fin 768) (c : Fin 2816) :
    k0_pay2 (F := Ideal) v (ix2 r c) = v (ix2 r c) := by
  have hb : c.val / 128 < 22 := by omega
  have hj : c.val % 128 < 128 := by omega
  obtain ⟨M, hM, h0, hB, hk⟩ := greatest (0 : Fin 128) (fun k => groups v (ix3 r ⟨c.val / 128, hb⟩ k)) bf16Max
    (fun k => by rw [groups_apply]; exact hv r _)
  obtain ⟨x, hx, hxM⟩ := hk ⟨c.val % 128, hj⟩
  obtain ⟨e, heb, he⟩ := exponent_bound M h0 hB
  have hs := scaled_back x M _ hxM (Real.rpow_pos_of_pos (by norm_num) _) heb
  rw [← exp2_neg, ← exp2_real] at hs
  rw [← hM, ← magnitudes_apply, ← exponents_apply] at he
  rw [pay2_eq, scaledBack_apply, he, hx, hs, ← hx, groups_apply]
  exact congrArg (fun c => v (ix2 r c)) (Fin.ext (by show _ / 128 * 128 + _ % 128 = _; omega))

end Cert.ReferenceIdeal.Hand
end
-- ==== Proof.ReferenceIdealResult.lean ====
module

public import proofs.«01_k».proof.Proof.ReferenceIdealValue
public import proofs.«01_k».proof.Proof.Groups
public import Idealize.ShloMosaic.Lib.Pipeline.ValueKit.Acc

@[expose] public section

/-! The reference's result, from the arguments, over the extended reals. -/

set_option maxRecDepth 16384

noncomputable section

namespace Cert.ReferenceIdeal.Hand

open Cert.Hand
open Cert.ReferenceIdeal Cert.ReferenceIdeal.Gen
open Idealize.ShloMosaic Idealize.ShloMosaic.TcCoe Idealize.SL.Sem

/-- An entry of the product of the activations and an expert's weights scaled back. -/
def target (D : FVec Ideal S768x2816 .bf16) (W : FVec Ideal S9x1024x2816 .fp8e4m3) (S : FVec Ideal S9x8x22 .f32) (e : Fin 9) (r : Fin 768) (n : Fin 1024) : EReal :=
  ∑ x : Fin 2816, D (ix2 r x) * (W (ix3 e n x) * S (ix3 e ⟨n.val / 128, by omega⟩ ⟨x.val / 128, by omega⟩))

/-- An expert's part of the result: its product on its own rows. -/
def part (D : FVec Ideal S768x2816 .bf16) (G : IVec S9 32) (W : FVec Ideal S9x1024x2816 .fp8e4m3) (S : FVec Ideal S9x8x22 .f32) (r : Fin 768) (n : Fin 1024) (e : Fin 9) : EReal :=
  Scalar.select (IntOp.andi (IntOp.cmpi CmpIPredicate.sge (BitVec.ofNat 32 r.val) (gsum G e.val))
    (IntOp.cmpi CmpIPredicate.slt (BitVec.ofNat 32 r.val) (gsum G (e.val + 1)))) (target D W S e r n) 0

/-- A part, by its bounds. -/
theorem part_eq {D : FVec Ideal S768x2816 .bf16} {G : IVec S9 32} {W : FVec Ideal S9x1024x2816 .fp8e4m3} {S : FVec Ideal S9x8x22 .f32} {r : Fin 768} {n : Fin 1024} (e : Fin 9)
    {a b : BitVec 32} (ha : a = gsum G e.val) (hb : b = gsum G (e.val + 1)) :
    Scalar.select (IntOp.andi (IntOp.cmpi CmpIPredicate.sge (BitVec.ofNat 32 r.val) a) (IntOp.cmpi CmpIPredicate.slt (BitVec.ofNat 32 r.val) b)) (target D W S e r n) 0 = part D G W S r n e := by
  subst ha hb
  rfl

/-- The running sum's next value. -/
theorem next (G : IVec S9 32) (e : Fin 9) {a : BitVec 32} (ha : a = gsum G e.val) : Scalar.addi a (G (ix1 e)) = gsum G (e.val + 1) := by
  subst ha
  refine congrArg (fun i => Scalar.addi (gsum G e.val) (G i)) (funext fun a => Fin.ext ?_)
  fin_cases a
  exact (Nat.mod_eq_of_lt e.isLt).symm

/-- A sum of nine, written out. -/
theorem sum_nine (f : Fin 9 → EReal) : ∑ e, f e = f 0 + f 1 + f 2 + f 3 + f 4 + f 5 + f 6 + f 7 + f 8 := by
  rw [Fin.sum_univ_castSucc, Fin.sum_univ_eight]
  rfl

/-- The body's block is the sum of the experts' parts. -/
theorem block_parts (c : Dev nD) (arg0 : Memref sig .tc .vmem S768x2816 .bf16) (harg0 : arg0.IsWhole) (arg1 : Memref sig .tc .smem S9 .i32) (harg1 : arg1.IsWhole)
    (arg2 : Memref sig .tc .vmem S9x1024x2816 .fp8e4m3) (harg2 : arg2.IsWhole) (arg3 : Memref sig .tc .vmem S9x8x22 .f32) (harg3 : arg3.IsWhole)
    (arg4 : Memref sig .tc .vmem S768x1024 .bf16) (harg4 : arg4.IsWhole)
    (D : FVec Ideal S768x2816 .bf16) (G : IVec S9 32) (W : FVec Ideal S9x1024x2816 .fp8e4m3) (S : FVec Ideal S9x8x22 .f32) (r : Fin 768) (n : Fin 1024) :
    out0_A_4 (F := Ideal) c arg0 harg0 arg1 harg1 arg2 harg2 arg3 harg3 arg4 harg4 D G W S (ix2 r n) = ∑ e : Fin 9, part (k0_pay2 (F := Ideal) D) G W S r n e := by
  frame_out
  generalize k0_pay2 (F := Ideal) D = A
  pointwise [k0_pay1, k0_pay3, k0_pay4, k0_pay5, k0_pay6, k0_pay7, k0_pay8, k0_pay9, k0_pay10, k0_pay11, k0_pay12, k0_pay13, k0_pay14, k0_pay15]
  refine Eq.trans ?_ (sum_nine _).symm
  have s1 : _ = gsum G 1 := next G 0 (a := 0#32) rfl
  have s2 : _ = gsum G 2 := next G 1 s1
  have s3 : _ = gsum G 3 := next G 2 s2
  have s4 : _ = gsum G 4 := next G 3 s3
  have s5 : _ = gsum G 5 := next G 4 s4
  have s6 : _ = gsum G 6 := next G 5 s5
  have s7 : _ = gsum G 7 := next G 6 s6
  have s8 : _ = gsum G 8 := next G 7 s7
  have s9 : _ = gsum G 9 := next G 8 s8
  refine congrArg₂ (· + ·) (congrArg₂ (· + ·) (congrArg₂ (· + ·) (congrArg₂ (· + ·) (congrArg₂ (· + ·) (congrArg₂ (· + ·) (congrArg₂ (· + ·) (congrArg₂ (· + ·)
    (part_eq 0 rfl s1) (part_eq 1 s1 s2)) (part_eq 2 s2 s3)) (part_eq 3 s3 s4)) (part_eq 4 s4 s5)) (part_eq 5 s5 s6)) (part_eq 6 s6 s7)) (part_eq 7 s7 s8)) (part_eq 8 s8 s9)

/-- The body's block where the activations are reals: on a group's row, the group's product. -/
theorem block_rows (c : Dev nD) (arg0 : Memref sig .tc .vmem S768x2816 .bf16) (harg0 : arg0.IsWhole) (arg1 : Memref sig .tc .smem S9 .i32) (harg1 : arg1.IsWhole)
    (arg2 : Memref sig .tc .vmem S9x1024x2816 .fp8e4m3) (harg2 : arg2.IsWhole) (arg3 : Memref sig .tc .vmem S9x8x22 .f32) (harg3 : arg3.IsWhole)
    (arg4 : Memref sig .tc .vmem S768x1024 .bf16) (harg4 : arg4.IsWhole)
    (D : FVec Ideal S768x2816 .bf16) (G : IVec S9 32) (W : FVec Ideal S9x1024x2816 .fp8e4m3) (S : FVec Ideal S9x8x22 .f32)
    (hD : ∀ i, ∃ x : ℝ, D i = (x : EReal) ∧ |x| ≤ bf16Max) (hG : Fits G) (e : Fin 9) (r : Fin 768) (hin : InGroup G e.val r.val) (n : Fin 1024) :
    out0_A_4 (F := Ideal) c arg0 harg0 arg1 harg1 arg2 harg2 arg3 harg3 arg4 harg4 D G W S (ix2 r n) = target D W S e r n := by
  rw [block_parts, Finset.sum_eq_single e]
  · unfold part target
    rw [select_group hG e.isLt, if_pos hin]
    exact Finset.sum_congr rfl fun x _ => by rw [quant D fun r c => hD _]
  · intro f _ hf
    unfold part
    rw [select_group hG f.isLt, if_neg fun h => hf (Fin.ext (h.unique hG f.isLt e.isLt hin))]
  · exact fun h => absurd (Finset.mem_univ e) h

variable (m : (ℓ : Loc nD τ sig) → Buf (Elt Ideal) ℓ)

/-- The arguments. -/
abbrev argD (c : Dev nD) : FVec Ideal S768x2816 .bf16 := m ((c : Thread nD τ).loc main_arg0)
abbrev argG (c : Dev nD) : IVec S9 32 := m ((c : Thread nD τ).loc main_arg1)
abbrev argW (c : Dev nD) : FVec Ideal S9x1024x2816 .fp8e4m3 := m ((c : Thread nD τ).loc main_arg2)
abbrev argS (c : Dev nD) : FVec Ideal S9x8x22 .f32 := m ((c : Thread nD τ).loc main_arg3)

/-- The blocks the body finds are the arguments. -/
theorem iblk0 (c : Dev nD) (t : Fin cfg0.N) : iblk m c 0 t = argD m c := by
  funext y
  exact congrArg (argD m c) (funext fun a => Fin.ext (Pipeline.Window.rect_emb_val_of_index_zero win0_0 t a (by fin_cases a <;> rfl) y))
theorem iblk1 (c : Dev nD) (t : Fin cfg0.N) : iblk m c 1 t = argG m c := by
  funext y
  exact congrArg (argG m c) (funext fun a => Fin.ext (Pipeline.Window.rect_emb_val_of_index_zero win0_1 t a (by fin_cases a <;> rfl) y))
theorem iblk2 (c : Dev nD) (t : Fin cfg0.N) : iblk m c 2 t = argW m c := by
  funext y
  exact congrArg (argW m c) (funext fun a => Fin.ext (Pipeline.Window.rect_emb_val_of_index_zero win0_2 t a (by fin_cases a <;> rfl) y))
theorem iblk3 (c : Dev nD) (t : Fin cfg0.N) : iblk m c 3 t = argS m c := by
  funext y
  exact congrArg (argS m c) (funext fun a => Fin.ext (Pipeline.Window.rect_emb_val_of_index_zero win0_3 t a (by fin_cases a <;> rfl) y))

/-- The result array: each row holds its group's product. -/
theorem result_rows (hG : ∀ c, Fits (argG m c)) (hD : ∀ c i, ∃ x : ℝ, argD m c i = (x : EReal) ∧ |x| ≤ bf16Max) (c : Dev nD)
    (e : Fin 9) (r : Fin 768) (hin : InGroup (argG m c) e.val r.val) (n : Fin 1024) :
    ((dats m 0 c).arrAt 4 cfg0.N : FVec Ideal S768x1024 .bf16) (ix2 r n) = target (argD m c) (argW m c) (argS m c) e r n := by
  have hy : (win0_4.rect ⟨0, by decide⟩).emb (ix2 r n) = ix2 r n :=
    funext fun a => Fin.ext (Pipeline.Window.rect_emb_val_of_index_zero win0_4 ⟨0, by decide⟩ a (by fin_cases a <;> rfl) (ix2 r n))
  have h := congrFun ((Value.blocks4 m c ⟨0, by decide⟩ (by decide)).trans (Value.flushed4_A m c ⟨0, by decide⟩)) (ix2 r n)
  rw [iblk0, iblk1, iblk2, iblk3] at h
  refine (congrArg _ hy.symm).trans (Eq.trans h (Eq.trans ?_ (block_rows c _ (hs0_0 ⟨0, by decide⟩) _ (hs0_1 ⟨0, by decide⟩) _ (hs0_2 ⟨0, by decide⟩) _ (hs0_3 ⟨0, by decide⟩) _ (hs0_4 ⟨0, by decide⟩)
    (argD m c) (argG m c) (argW m c) (argS m c) (hD c) (hG c) e r hin n)))
  rfl

end Cert.ReferenceIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_sizes_fit
public import proofs.«01_k».proof.Proof.Gen.Pre_contract
public import proofs.«01_k».proof.Proof.KernelFrame
public import proofs.«01_k».proof.Proof.KernelIdealFrame
public import proofs.«01_k».proof.Proof.KernelIdealResult
public import proofs.«01_k».proof.Proof.ReferenceIdealResult
public import Idealize.ShloMosaic.Adequacy
public import Idealize.ShloMosaic.Init

@[expose] public section

noncomputable section

namespace Cert.Proof

open Idealize.ShloMosaic Idealize.ShloMosaic.TcCoe Idealize.SL.Sem

/-- The kernel's frame. -/
theorem frame_Kernel : Cert.quiescent_Kernel := fun m g hpre =>
  Cert.Kernel.Hand.frame_fits m g fun c => Cert.Hand.fits_of_sizes_fit _ _ _ _ (hpre c)

/-- The frame of the kernel's ideal reading. -/
theorem frame_KernelIdeal : Cert.quiescent_KernelIdeal := fun m g hpre =>
  Cert.KernelIdeal.Hand.frame_fits m g fun c => Cert.Hand.fits_of_sizes_fit _ _ _ _ (hpre c)

/-- The same under the contract. -/
theorem frame_KernelIdeal_contract : Cert.quiescent_KernelIdeal_pre_contract := fun m g hpre =>
  Cert.KernelIdeal.Hand.frame_fits m g fun c => (Cert.Hand.of_contract _ _ _ _ (hpre c)).2.1

/-- The reference's frame. -/
theorem frame_ReferenceIdeal : Cert.quiescent_ReferenceIdeal := fun m g _ => Cert.ReferenceIdeal.Gen.frame m g

/-- The same under the contract. -/
theorem frame_ReferenceIdeal_contract : Cert.quiescent_ReferenceIdeal_pre_contract := fun m g _ => Cert.ReferenceIdeal.Gen.frame m g

/-- The kernel's result is the reference's. -/
theorem algebraic_KernelIdeal_ReferenceIdeal : Cert.algebraic_KernelIdeal_ReferenceIdeal_pre_contract := fun m g m' g' hpre hagree => by
  have hc : ∀ c, _ := fun c => Cert.Hand.of_contract _ _ _ _ (hpre c)
  have h0 : ∀ c, Cert.ReferenceIdeal.Hand.argD m' c = Cert.KernelIdeal.Hand.argD m c := fun c => (hagree c).1
  have h1 : ∀ c, Cert.ReferenceIdeal.Hand.argG m' c = Cert.KernelIdeal.Hand.argG m c := fun c => (hagree c).2.1
  have h2 : ∀ c, Cert.ReferenceIdeal.Hand.argW m' c = Cert.KernelIdeal.Hand.argW m c := fun c => (hagree c).2.2.1
  have h3 : ∀ c, Cert.ReferenceIdeal.Hand.argS m' c = Cert.KernelIdeal.Hand.argS m c := fun c => (hagree c).2.2.2
  refine ⟨fun c => (Cert.ReferenceIdeal.Gen.dats m' 0 c).arrAt 4 Cert.ReferenceIdeal.cfg0.N, ?_, Cert.ReferenceIdeal.Value.run_blocks m' g'⟩
  refine Cert.KernelIdeal.Hand.run_result m g (fun c => (hc c).2.1) (fun c => (hc c).2.2) (fun c => (hc c).1) _ fun c e r hin k => ?_
  refine (Cert.ReferenceIdeal.Hand.result_rows m' (fun c => by rw [h1]; exact (hc c).2.1) (fun c => by rw [h0]; exact (hc c).1) c e r (by rw [h1]; exact hin) k).trans ?_
  rw [h0, h2, h3]
  rfl

theorem claim : Cert.Claim :=
  ⟨Cert.Kernel.Gen.facts, Cert.KernelIdeal.Gen.facts, Cert.ReferenceIdeal.Gen.facts, Cert.Pre_sizes_fit.Gen.facts, Cert.Pre_contract.Gen.facts,
    frame_Kernel, frame_KernelIdeal, frame_KernelIdeal_contract, frame_ReferenceIdeal, frame_ReferenceIdeal_contract, trivial,
    algebraic_KernelIdeal_ReferenceIdeal⟩

end Cert.Proof

end
